-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpReferenceIdeal (m : (ℓ : Loc Cert.FfnUpReferenceIdeal.nD Cert.FfnUpReferenceIdeal.τ Cert.FfnUpReferenceIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownReferenceIdeal (m : (ℓ : Loc Cert.FfnDownReferenceIdeal.nD Cert.FfnDownReferenceIdeal.τ Cert.FfnDownReferenceIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormReferenceIdeal (m : (ℓ : Loc Cert.FinalNormReferenceIdeal.nD Cert.FinalNormReferenceIdeal.τ Cert.FinalNormReferenceIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInReferenceIdeal (m : (ℓ : Loc Cert.OddInReferenceIdeal.nD Cert.OddInReferenceIdeal.τ Cert.OddInReferenceIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutReferenceIdeal (m : (ℓ : Loc Cert.MixOutReferenceIdeal.nD Cert.MixOutReferenceIdeal.τ Cert.MixOutReferenceIdeal.sig) → Buf (Elt Ideal) ℓ) : Prop :=
  True

def Pre_OddTail (m : (ℓ : Loc Cert.OddTail.nD Cert.OddTail.τ Cert.OddTail.sig) → Buf (Elt Bits) ℓ) : Prop :=
  True

def Pre_OddTailIdeal (m : (ℓ : Loc Cert.OddTailIdeal.nD Cert.OddTailIdeal.τ Cert.OddTailIdeal.sig) → Buf (Elt Ideal) ℓ) : Prop :=
  True

def Pre_OddTailReferenceIdeal (m : (ℓ : Loc Cert.OddTailReferenceIdeal.nD Cert.OddTailReferenceIdeal.τ Cert.OddTailReferenceIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInReferenceIdeal (m : (ℓ : Loc Cert.EvenInReferenceIdeal.nD Cert.EvenInReferenceIdeal.τ Cert.EvenInReferenceIdeal.sig) → Buf (Elt Ideal) ℓ) : Prop :=
  True

def Pre_EvenTail (m : (ℓ : Loc Cert.EvenTail.nD Cert.EvenTail.τ Cert.EvenTail.sig) → Buf (Elt Bits) ℓ) : Prop :=
  True

def Pre_EvenTailIdeal (m : (ℓ : Loc Cert.EvenTailIdeal.nD Cert.EvenTailIdeal.τ Cert.EvenTailIdeal.sig) → Buf (Elt Ideal) ℓ) : Prop :=
  True

def Pre_EvenTailReferenceIdeal (m : (ℓ : Loc Cert.EvenTailReferenceIdeal.nD Cert.EvenTailReferenceIdeal.τ Cert.EvenTailReferenceIdeal.sig) → Buf (Elt Ideal) ℓ) : Prop :=
  True

def Pre_ScanGate (m : (ℓ : Loc Cert.ScanGate.nD Cert.ScanGate.τ Cert.ScanGate.sig) → Buf (Elt Bits) ℓ) : Prop :=
  True

def Pre_ScanGateIdeal (m : (ℓ : Loc Cert.ScanGateIdeal.nD Cert.ScanGateIdeal.τ Cert.ScanGateIdeal.sig) → Buf (Elt Ideal) ℓ) : Prop :=
  True

def Pre_ScanGateReferenceIdeal (m : (ℓ : Loc Cert.ScanGateReferenceIdeal.nD Cert.ScanGateReferenceIdeal.τ Cert.ScanGateReferenceIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeReferenceIdeal (m : (ℓ : Loc Cert.RopeReferenceIdeal.nD Cert.RopeReferenceIdeal.τ Cert.RopeReferenceIdeal.sig) → Buf (Elt Ideal) ℓ) : Prop :=
  True

def Pre_LayerNorm (m : (ℓ : Loc Cert.LayerNorm.nD Cert.LayerNorm.τ Cert.LayerNorm.sig) → Buf (Elt Bits) ℓ) : Prop :=
  True

def Pre_LayerNormIdeal (m : (ℓ : Loc Cert.LayerNormIdeal.nD Cert.LayerNormIdeal.τ Cert.LayerNormIdeal.sig) → Buf (Elt Ideal) ℓ) : Prop :=
  True

def Pre_LayerNormReferenceIdeal (m : (ℓ : Loc Cert.LayerNormReferenceIdeal.nD Cert.LayerNormReferenceIdeal.τ Cert.LayerNormReferenceIdeal.sig) → Buf (Elt Ideal) ℓ) : Prop :=
  True

def Pre_ScanMaps (m : (ℓ : Loc Cert.ScanMaps.nD Cert.ScanMaps.τ Cert.ScanMaps.sig) → Buf (Elt Bits) ℓ) : Prop :=
  True

def Pre_ScanMapsIdeal (m : (ℓ : Loc Cert.ScanMapsIdeal.nD Cert.ScanMapsIdeal.τ Cert.ScanMapsIdeal.sig) → Buf (Elt Ideal) ℓ) : Prop :=
  True

def Pre_ScanMapsReferenceIdeal (m : (ℓ : Loc Cert.ScanMapsReferenceIdeal.nD Cert.ScanMapsReferenceIdeal.τ Cert.ScanMapsReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpReferenceIdeal [hFfnUpReferenceIdeal : Cert.FfnUpReferenceIdeal.Facts] : Prop :=
  ∀ (m : (ℓ : Loc Cert.FfnUpReferenceIdeal.nD Cert.FfnUpReferenceIdeal.τ Cert.FfnUpReferenceIdeal.sig) → Buf (Elt Ideal) ℓ) (g : Dev Cert.FfnUpReferenceIdeal.nD → PrngReg), Pre_FfnUpReferenceIdeal m →
    θ_run (Cert.FfnUpReferenceIdeal.defs (F := Ideal)) (onTc (τ := Cert.FfnUpReferenceIdeal.τ) (Cert.FfnUpReferenceIdeal.main (F := Ideal))) ⟨m, fun _ => 0, g⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1)
      ∧ r.2.mem ((c.tc : Thread Cert.FfnUpReferenceIdeal.nD Cert.FfnUpReferenceIdeal.τ).loc Cert.FfnUpReferenceIdeal.main_arg2) = m ((c.tc : Thread Cert.FfnUpReferenceIdeal.nD Cert.FfnUpReferenceIdeal.τ).loc Cert.FfnUpReferenceIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownReferenceIdeal [hFfnDownReferenceIdeal : Cert.FfnDownReferenceIdeal.Facts] : Prop :=
  ∀ (m : (ℓ : Loc Cert.FfnDownReferenceIdeal.nD Cert.FfnDownReferenceIdeal.τ Cert.FfnDownReferenceIdeal.sig) → Buf (Elt Ideal) ℓ) (g : Dev Cert.FfnDownReferenceIdeal.nD → PrngReg), Pre_FfnDownReferenceIdeal m →
    θ_run (Cert.FfnDownReferenceIdeal.defs (F := Ideal)) (onTc (τ := Cert.FfnDownReferenceIdeal.τ) (Cert.FfnDownReferenceIdeal.main (F := Ideal))) ⟨m, fun _ => 0, g⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1)
      ∧ r.2.mem ((c.tc : Thread Cert.FfnDownReferenceIdeal.nD Cert.FfnDownReferenceIdeal.τ).loc Cert.FfnDownReferenceIdeal.main_arg2) = m ((c.tc : Thread Cert.FfnDownReferenceIdeal.nD Cert.FfnDownReferenceIdeal.τ).loc Cert.FfnDownReferenceIdeal.main_arg2))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormReferenceIdeal [hFinalNormReferenceIdeal : Cert.FinalNormReferenceIdeal.Facts] : Prop :=
  ∀ (m : (ℓ : Loc Cert.FinalNormReferenceIdeal.nD Cert.FinalNormReferenceIdeal.τ Cert.FinalNormReferenceIdeal.sig) → Buf (Elt Ideal) ℓ) (g : Dev Cert.FinalNormReferenceIdeal.nD → PrngReg), Pre_FinalNormReferenceIdeal m →
    θ_run (Cert.FinalNormReferenceIdeal.defs (F := Ideal)) (onTc (τ := Cert.FinalNormReferenceIdeal.τ) (Cert.FinalNormReferenceIdeal.main (F := Ideal))) ⟨m, fun _ => 0, g⟩ (fun r => (∀ c : Dev Cert.FinalNormReferenceIdeal.nD,
      r.2.mem ((c.tc : Thread Cert.FinalNormReferenceIdeal.nD Cert.FinalNormReferenceIdeal.τ).loc Cert.FinalNormReferenceIdeal.main_arg0) = m ((c.tc : Thread Cert.FinalNormReferenceIdeal.nD Cert.FinalNormReferenceIdeal.τ).loc Cert.FinalNormReferenceIdeal.main_arg0)
      ∧ r.2.mem ((c.tc : Thread Cert.FinalNormReferenceIdeal.nD Cert.FinalNormReferenceIdeal.τ).loc Cert.FinalNormReferenceIdeal.main_arg1) = m ((c.tc : Thread Cert.FinalNormReferenceIdeal.nD Cert.FinalNormReferenceIdeal.τ).loc Cert.FinalNormReferenceIdeal.main_arg1))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ r.2.sem = fun _ => 0)

def quiescent_OddInReferenceIdeal [hOddInReferenceIdeal : Cert.OddInReferenceIdeal.Facts] : Prop :=
  ∀ (m : (ℓ : Loc Cert.OddInReferenceIdeal.nD Cert.OddInReferenceIdeal.τ Cert.OddInReferenceIdeal.sig) → Buf (Elt Ideal) ℓ) (g : Dev Cert.OddInReferenceIdeal.nD → PrngReg), Pre_OddInReferenceIdeal m →
    θ_run (Cert.OddInReferenceIdeal.defs (F := Ideal)) (onTc (τ := Cert.OddInReferenceIdeal.τ) (Cert.OddInReferenceIdeal.main (F := Ideal))) ⟨m, fun _ => 0, g⟩ (fun r => (∀ c : Dev Cert.OddInReferenceIdeal.nD,
      r.2.mem ((c.tc : Thread Cert.OddInReferenceIdeal.nD Cert.OddInReferenceIdeal.τ).loc Cert.OddInReferenceIdeal.main_arg0) = m ((c.tc : Thread Cert.OddInReferenceIdeal.nD Cert.OddInReferenceIdeal.τ).loc Cert.OddInReferenceIdeal.main_arg0)
      ∧ r.2.mem ((c.tc : Thread Cert.OddInReferenceIdeal.nD Cert.OddInReferenceIdeal.τ).loc Cert.OddInReferenceIdeal.main_arg1) = m ((c.tc : Thread Cert.OddInReferenceIdeal.nD Cert.OddInReferenceIdeal.τ).loc Cert.OddInReferenceIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1)
      ∧ r.2.mem ((c.tc : Thread Cert.MixOutReferenceIdeal.nD Cert.MixOutReferenceIdeal.τ).loc Cert.MixOutReferenceIdeal.main_arg2) = m ((c.tc : Thread Cert.MixOutReferenceIdeal.nD Cert.MixOutReferenceIdeal.τ).loc Cert.MixOutReferenceIdeal.main_arg2)
      ∧ r.2.mem ((c.tc : Thread Cert.MixOutReferenceIdeal.nD Cert.MixOutReferenceIdeal.τ).loc Cert.MixOutReferenceIdeal.main_arg3) = m ((c.tc : Thread Cert.MixOutReferenceIdeal.nD Cert.MixOutReferenceIdeal.τ).loc Cert.MixOutReferenceIdeal.main_arg3))
      ∧ r.2.sem = fun _ => 0)

def quiescent_OddTail [hOddTail : Cert.OddTail.Facts] : Prop :=
  ∀ (m : (ℓ : Loc Cert.OddTail.nD Cert.OddTail.τ Cert.OddTail.sig) → Buf (Elt Bits) ℓ) (g : Dev Cert.OddTail.nD → PrngReg), Pre_OddTail m →
    θ_run (Cert.OddTail.defs (F := Bits)) (onTc (τ := Cert.OddTail.τ) (Cert.OddTail.main (F := Bits))) ⟨m, fun _ => 0, g⟩ (fun r => (∀ c : Dev Cert.OddTail.nD,
      r.2.mem ((c.tc : Thread Cert.OddTail.nD Cert.OddTail.τ).loc Cert.OddTail.main_arg0) = m ((c.tc : Thread Cert.OddTail.nD Cert.OddTail.τ).loc Cert.OddTail.main_arg0)
      ∧ r.2.mem ((c.tc : Thread Cert.OddTail.nD Cert.OddTail.τ).loc Cert.OddTail.main_arg1) = m ((c.tc : Thread Cert.OddTail.nD Cert.OddTail.τ).loc Cert.OddTail.main_arg1))
      ∧ r.2.sem = fun _ => 0)

def quiescent_OddTailIdeal [hOddTailIdeal : Cert.OddTailIdeal.Facts] : Prop :=
  ∀ (m : (ℓ : Loc Cert.OddTailIdeal.nD Cert.OddTailIdeal.τ Cert.OddTailIdeal.sig) → Buf (Elt Ideal) ℓ) (g : Dev Cert.OddTailIdeal.nD → PrngReg), Pre_OddTailIdeal m →
    θ_run (Cert.OddTailIdeal.defs (F := Ideal)) (onTc (τ := Cert.OddTailIdeal.τ) (Cert.OddTailIdeal.main (F := Ideal))) ⟨m, fun _ => 0, g⟩ (fun r => (∀ c : Dev Cert.OddTailIdeal.nD,
      r.2.mem ((c.tc : Thread Cert.OddTailIdeal.nD Cert.OddTailIdeal.τ).loc Cert.OddTailIdeal.main_arg0) = m ((c.tc : Thread Cert.OddTailIdeal.nD Cert.OddTailIdeal.τ).loc Cert.OddTailIdeal.main_arg0)
      ∧ r.2.mem ((c.tc : Thread Cert.OddTailIdeal.nD Cert.OddTailIdeal.τ).loc Cert.OddTailIdeal.main_arg1) = m ((c.tc : Thread Cert.OddTailIdeal.nD Cert.OddTailIdeal.τ).loc Cert.OddTailIdeal.main_arg1))
      ∧ r.2.sem = fun _ => 0)

def quiescent_OddTailReferenceIdeal [hOddTailReferenceIdeal : Cert.OddTailReferenceIdeal.Facts] : Prop :=
  ∀ (m : (ℓ : Loc Cert.OddTailReferenceIdeal.nD Cert.OddTailReferenceIdeal.τ Cert.OddTailReferenceIdeal.sig) → Buf (Elt Ideal) ℓ) (g : Dev Cert.OddTailReferenceIdeal.nD → PrngReg), Pre_OddTailReferenceIdeal m →
    θ_run (Cert.OddTailReferenceIdeal.defs (F := Ideal)) (onTc (τ := Cert.OddTailReferenceIdeal.τ) (Cert.OddTailReferenceIdeal.main (F := Ideal))) ⟨m, fun _ => 0, g⟩ (fun r => (∀ c : Dev Cert.OddTailReferenceIdeal.nD,
      r.2.mem ((c.tc : Thread Cert.OddTailReferenceIdeal.nD Cert.OddTailReferenceIdeal.τ).loc Cert.OddTailReferenceIdeal.main_arg0) = m ((c.tc : Thread Cert.OddTailReferenceIdeal.nD Cert.OddTailReferenceIdeal.τ).loc Cert.OddTailReferenceIdeal.main_arg0)
      ∧ r.2.mem ((c.tc : Thread Cert.OddTailReferenceIdeal.nD Cert.OddTailReferenceIdeal.τ).loc Cert.OddTailReferenceIdeal.main_arg1) = m ((c.tc : Thread Cert.OddTailReferenceIdeal.nD Cert.OddTailReferenceIdeal.τ).loc Cert.OddTailReferenceIdeal.main_arg1))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ r.2.sem = fun _ => 0)

def quiescent_EvenInReferenceIdeal [hEvenInReferenceIdeal : Cert.EvenInReferenceIdeal.Facts] : Prop :=
  ∀ (m : (ℓ : Loc Cert.EvenInReferenceIdeal.nD Cert.EvenInReferenceIdeal.τ Cert.EvenInReferenceIdeal.sig) → Buf (Elt Ideal) ℓ) (g : Dev Cert.EvenInReferenceIdeal.nD → PrngReg), Pre_EvenInReferenceIdeal m →
    θ_run (Cert.EvenInReferenceIdeal.defs (F := Ideal)) (onTc (τ := Cert.EvenInReferenceIdeal.τ) (Cert.EvenInReferenceIdeal.main (F := Ideal))) ⟨m, fun _ => 0, g⟩ (fun r => (∀ c : Dev Cert.EvenInReferenceIdeal.nD,
      r.2.mem ((c.tc : Thread Cert.EvenInReferenceIdeal.nD Cert.EvenInReferenceIdeal.τ).loc Cert.EvenInReferenceIdeal.main_arg0) = m ((c.tc : Thread Cert.EvenInReferenceIdeal.nD Cert.EvenInReferenceIdeal.τ).loc Cert.EvenInReferenceIdeal.main_arg0)
      ∧ r.2.mem ((c.tc : Thread Cert.EvenInReferenceIdeal.nD Cert.EvenInReferenceIdeal.τ).loc Cert.EvenInReferenceIdeal.main_arg1) = m ((c.tc : Thread Cert.EvenInReferenceIdeal.nD Cert.EvenInReferenceIdeal.τ).loc Cert.EvenInReferenceIdeal.main_arg1))
      ∧ r.2.sem = fun _ => 0)

def quiescent_EvenTail [hEvenTail : Cert.EvenTail.Facts] : Prop :=
  ∀ (m : (ℓ : Loc Cert.EvenTail.nD Cert.EvenTail.τ Cert.EvenTail.sig) → Buf (Elt Bits) ℓ) (g : Dev Cert.EvenTail.nD → PrngReg), Pre_EvenTail m →
    θ_run (Cert.EvenTail.defs (F := Bits)) (onTc (τ := Cert.EvenTail.τ) (Cert.EvenTail.main (F := Bits))) ⟨m, fun _ => 0, g⟩ (fun r => (∀ c : Dev Cert.EvenTail.nD,
      r.2.mem ((c.tc : Thread Cert.EvenTail.nD Cert.EvenTail.τ).loc Cert.EvenTail.main_arg0) = m ((c.tc : Thread Cert.EvenTail.nD Cert.EvenTail.τ).loc Cert.EvenTail.main_arg0)
      ∧ r.2.mem ((c.tc : Thread Cert.EvenTail.nD Cert.EvenTail.τ).loc Cert.EvenTail.main_arg1) = m ((c.tc : Thread Cert.EvenTail.nD Cert.EvenTail.τ).loc Cert.EvenTail.main_arg1))
      ∧ r.2.sem = fun _ => 0)

def quiescent_EvenTailIdeal [hEvenTailIdeal : Cert.EvenTailIdeal.Facts] : Prop :=
  ∀ (m : (ℓ : Loc Cert.EvenTailIdeal.nD Cert.EvenTailIdeal.τ Cert.EvenTailIdeal.sig) → Buf (Elt Ideal) ℓ) (g : Dev Cert.EvenTailIdeal.nD → PrngReg), Pre_EvenTailIdeal m →
    θ_run (Cert.EvenTailIdeal.defs (F := Ideal)) (onTc (τ := Cert.EvenTailIdeal.τ) (Cert.EvenTailIdeal.main (F := Ideal))) ⟨m, fun _ => 0, g⟩ (fun r => (∀ c : Dev Cert.EvenTailIdeal.nD,
      r.2.mem ((c.tc : Thread Cert.EvenTailIdeal.nD Cert.EvenTailIdeal.τ).loc Cert.EvenTailIdeal.main_arg0) = m ((c.tc : Thread Cert.EvenTailIdeal.nD Cert.EvenTailIdeal.τ).loc Cert.EvenTailIdeal.main_arg0)
      ∧ r.2.mem ((c.tc : Thread Cert.EvenTailIdeal.nD Cert.EvenTailIdeal.τ).loc Cert.EvenTailIdeal.main_arg1) = m ((c.tc : Thread Cert.EvenTailIdeal.nD Cert.EvenTailIdeal.τ).loc Cert.EvenTailIdeal.main_arg1))
      ∧ r.2.sem = fun _ => 0)

def quiescent_EvenTailReferenceIdeal [hEvenTailReferenceIdeal : Cert.EvenTailReferenceIdeal.Facts] : Prop :=
  ∀ (m : (ℓ : Loc Cert.EvenTailReferenceIdeal.nD Cert.EvenTailReferenceIdeal.τ Cert.EvenTailReferenceIdeal.sig) → Buf (Elt Ideal) ℓ) (g : Dev Cert.EvenTailReferenceIdeal.nD → PrngReg), Pre_EvenTailReferenceIdeal m →
    θ_run (Cert.EvenTailReferenceIdeal.defs (F := Ideal)) (onTc (τ := Cert.EvenTailReferenceIdeal.τ) (Cert.EvenTailReferenceIdeal.main (F := Ideal))) ⟨m, fun _ => 0, g⟩ (fun r => (∀ c : Dev Cert.EvenTailReferenceIdeal.nD,
      r.2.mem ((c.tc : Thread Cert.EvenTailReferenceIdeal.nD Cert.EvenTailReferenceIdeal.τ).loc Cert.EvenTailReferenceIdeal.main_arg0) = m ((c.tc : Thread Cert.EvenTailReferenceIdeal.nD Cert.EvenTailReferenceIdeal.τ).loc Cert.EvenTailReferenceIdeal.main_arg0)
      ∧ r.2.mem ((c.tc : Thread Cert.EvenTailReferenceIdeal.nD Cert.EvenTailReferenceIdeal.τ).loc Cert.EvenTailReferenceIdeal.main_arg1) = m ((c.tc : Thread Cert.EvenTailReferenceIdeal.nD Cert.EvenTailReferenceIdeal.τ).loc Cert.EvenTailReferenceIdeal.main_arg1))
      ∧ r.2.sem = fun _ => 0)

def quiescent_ScanGate [hScanGate : Cert.ScanGate.Facts] : Prop :=
  ∀ (m : (ℓ : Loc Cert.ScanGate.nD Cert.ScanGate.τ Cert.ScanGate.sig) → Buf (Elt Bits) ℓ) (g : Dev Cert.ScanGate.nD → PrngReg), Pre_ScanGate m →
    θ_run (Cert.ScanGate.defs (F := Bits)) (onTc (τ := Cert.ScanGate.τ) (Cert.ScanGate.main (F := Bits))) ⟨m, fun _ => 0, g⟩ (fun r => (∀ c : Dev Cert.ScanGate.nD,
      r.2.mem ((c.tc : Thread Cert.ScanGate.nD Cert.ScanGate.τ).loc Cert.ScanGate.main_arg0) = m ((c.tc : Thread Cert.ScanGate.nD Cert.ScanGate.τ).loc Cert.ScanGate.main_arg0)
      ∧ r.2.mem ((c.tc : Thread Cert.ScanGate.nD Cert.ScanGate.τ).loc Cert.ScanGate.main_arg1) = m ((c.tc : Thread Cert.ScanGate.nD Cert.ScanGate.τ).loc Cert.ScanGate.main_arg1))
      ∧ r.2.sem = fun _ => 0)

def quiescent_ScanGateIdeal [hScanGateIdeal : Cert.ScanGateIdeal.Facts] : Prop :=
  ∀ (m : (ℓ : Loc Cert.ScanGateIdeal.nD Cert.ScanGateIdeal.τ Cert.ScanGateIdeal.sig) → Buf (Elt Ideal) ℓ) (g : Dev Cert.ScanGateIdeal.nD → PrngReg), Pre_ScanGateIdeal m →
    θ_run (Cert.ScanGateIdeal.defs (F := Ideal)) (onTc (τ := Cert.ScanGateIdeal.τ) (Cert.ScanGateIdeal.main (F := Ideal))) ⟨m, fun _ => 0, g⟩ (fun r => (∀ c : Dev Cert.ScanGateIdeal.nD,
      r.2.mem ((c.tc : Thread Cert.ScanGateIdeal.nD Cert.ScanGateIdeal.τ).loc Cert.ScanGateIdeal.main_arg0) = m ((c.tc : Thread Cert.ScanGateIdeal.nD Cert.ScanGateIdeal.τ).loc Cert.ScanGateIdeal.main_arg0)
      ∧ r.2.mem ((c.tc : Thread Cert.ScanGateIdeal.nD Cert.ScanGateIdeal.τ).loc Cert.ScanGateIdeal.main_arg1) = m ((c.tc : Thread Cert.ScanGateIdeal.nD Cert.ScanGateIdeal.τ).loc Cert.ScanGateIdeal.main_arg1))
      ∧ r.2.sem = fun _ => 0)

def quiescent_ScanGateReferenceIdeal [hScanGateReferenceIdeal : Cert.ScanGateReferenceIdeal.Facts] : Prop :=
  ∀ (m : (ℓ : Loc Cert.ScanGateReferenceIdeal.nD Cert.ScanGateReferenceIdeal.τ Cert.ScanGateReferenceIdeal.sig) → Buf (Elt Ideal) ℓ) (g : Dev Cert.ScanGateReferenceIdeal.nD → PrngReg), Pre_ScanGateReferenceIdeal m →
    θ_run (Cert.ScanGateReferenceIdeal.defs (F := Ideal)) (onTc (τ := Cert.ScanGateReferenceIdeal.τ) (Cert.ScanGateReferenceIdeal.main (F := Ideal))) ⟨m, fun _ => 0, g⟩ (fun r => (∀ c : Dev Cert.ScanGateReferenceIdeal.nD,
      r.2.mem ((c.tc : Thread Cert.ScanGateReferenceIdeal.nD Cert.ScanGateReferenceIdeal.τ).loc Cert.ScanGateReferenceIdeal.main_arg0) = m ((c.tc : Thread Cert.ScanGateReferenceIdeal.nD Cert.ScanGateReferenceIdeal.τ).loc Cert.ScanGateReferenceIdeal.main_arg0)
      ∧ r.2.mem ((c.tc : Thread Cert.ScanGateReferenceIdeal.nD Cert.ScanGateReferenceIdeal.τ).loc Cert.ScanGateReferenceIdeal.main_arg1) = m ((c.tc : Thread Cert.ScanGateReferenceIdeal.nD Cert.ScanGateReferenceIdeal.τ).loc Cert.ScanGateReferenceIdeal.main_arg1))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      True)
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      True)
      ∧ r.2.sem = fun _ => 0)

def quiescent_RopeReferenceIdeal [hRopeReferenceIdeal : Cert.RopeReferenceIdeal.Facts] : Prop :=
  ∀ (m : (ℓ : Loc Cert.RopeReferenceIdeal.nD Cert.RopeReferenceIdeal.τ Cert.RopeReferenceIdeal.sig) → Buf (Elt Ideal) ℓ) (g : Dev Cert.RopeReferenceIdeal.nD → PrngReg), Pre_RopeReferenceIdeal m →
    θ_run (Cert.RopeReferenceIdeal.defs (F := Ideal)) (onTc (τ := Cert.RopeReferenceIdeal.τ) (Cert.RopeReferenceIdeal.main (F := Ideal))) ⟨m, fun _ => 0, g⟩ (fun r => (∀ c : Dev Cert.RopeReferenceIdeal.nD,
      True)
      ∧ r.2.sem = fun _ => 0)

def quiescent_LayerNorm [hLayerNorm : Cert.LayerNorm.Facts] : Prop :=
  ∀ (m : (ℓ : Loc Cert.LayerNorm.nD Cert.LayerNorm.τ Cert.LayerNorm.sig) → Buf (Elt Bits) ℓ) (g : Dev Cert.LayerNorm.nD → PrngReg), Pre_LayerNorm m →
    θ_run (Cert.LayerNorm.defs (F := Bits)) (onTc (τ := Cert.LayerNorm.τ) (Cert.LayerNorm.main (F := Bits))) ⟨m, fun _ => 0, g⟩ (fun r => (∀ c : Dev Cert.LayerNorm.nD,
      r.2.mem ((c.tc : Thread Cert.LayerNorm.nD Cert.LayerNorm.τ).loc Cert.LayerNorm.main_arg0) = m ((c.tc : Thread Cert.LayerNorm.nD Cert.LayerNorm.τ).loc Cert.LayerNorm.main_arg0)
      ∧ r.2.mem ((c.tc : Thread Cert.LayerNorm.nD Cert.LayerNorm.τ).loc Cert.LayerNorm.main_arg1) = m ((c.tc : Thread Cert.LayerNorm.nD Cert.LayerNorm.τ).loc Cert.LayerNorm.main_arg1))
      ∧ r.2.sem = fun _ => 0)

def quiescent_LayerNormIdeal [hLayerNormIdeal : Cert.LayerNormIdeal.Facts] : Prop :=
  ∀ (m : (ℓ : Loc Cert.LayerNormIdeal.nD Cert.LayerNormIdeal.τ Cert.LayerNormIdeal.sig) → Buf (Elt Ideal) ℓ) (g : Dev Cert.LayerNormIdeal.nD → PrngReg), Pre_LayerNormIdeal m →
    θ_run (Cert.LayerNormIdeal.defs (F := Ideal)) (onTc (τ := Cert.LayerNormIdeal.τ) (Cert.LayerNormIdeal.main (F := Ideal))) ⟨m, fun _ => 0, g⟩ (fun r => (∀ c : Dev Cert.LayerNormIdeal.nD,
      r.2.mem ((c.tc : Thread Cert.LayerNormIdeal.nD Cert.LayerNormIdeal.τ).loc Cert.LayerNormIdeal.main_arg0) = m ((c.tc : Thread Cert.LayerNormIdeal.nD Cert.LayerNormIdeal.τ).loc Cert.LayerNormIdeal.main_arg0)
      ∧ r.2.mem ((c.tc : Thread Cert.LayerNormIdeal.nD Cert.LayerNormIdeal.τ).loc Cert.LayerNormIdeal.main_arg1) = m ((c.tc : Thread Cert.LayerNormIdeal.nD Cert.LayerNormIdeal.τ).loc Cert.LayerNormIdeal.main_arg1))
      ∧ r.2.sem = fun _ => 0)

def quiescent_LayerNormReferenceIdeal [hLayerNormReferenceIdeal : Cert.LayerNormReferenceIdeal.Facts] : Prop :=
  ∀ (m : (ℓ : Loc Cert.LayerNormReferenceIdeal.nD Cert.LayerNormReferenceIdeal.τ Cert.LayerNormReferenceIdeal.sig) → Buf (Elt Ideal) ℓ) (g : Dev Cert.LayerNormReferenceIdeal.nD → PrngReg), Pre_LayerNormReferenceIdeal m →
    θ_run (Cert.LayerNormReferenceIdeal.defs (F := Ideal)) (onTc (τ := Cert.LayerNormReferenceIdeal.τ) (Cert.LayerNormReferenceIdeal.main (F := Ideal))) ⟨m, fun _ => 0, g⟩ (fun r => (∀ c : Dev Cert.LayerNormReferenceIdeal.nD,
      r.2.mem ((c.tc : Thread Cert.LayerNormReferenceIdeal.nD Cert.LayerNormReferenceIdeal.τ).loc Cert.LayerNormReferenceIdeal.main_arg0) = m ((c.tc : Thread Cert.LayerNormReferenceIdeal.nD Cert.LayerNormReferenceIdeal.τ).loc Cert.LayerNormReferenceIdeal.main_arg0)
      ∧ r.2.mem ((c.tc : Thread Cert.LayerNormReferenceIdeal.nD Cert.LayerNormReferenceIdeal.τ).loc Cert.LayerNormReferenceIdeal.main_arg1) = m ((c.tc : Thread Cert.LayerNormReferenceIdeal.nD Cert.LayerNormReferenceIdeal.τ).loc Cert.LayerNormReferenceIdeal.main_arg1))
      ∧ r.2.sem = fun _ => 0)

def quiescent_ScanMaps [hScanMaps : Cert.ScanMaps.Facts] : Prop :=
  ∀ (m : (ℓ : Loc Cert.ScanMaps.nD Cert.ScanMaps.τ Cert.ScanMaps.sig) → Buf (Elt Bits) ℓ) (g : Dev Cert.ScanMaps.nD → PrngReg), Pre_ScanMaps m →
    θ_run (Cert.ScanMaps.defs (F := Bits)) (onTc (τ := Cert.ScanMaps.τ) (Cert.ScanMaps.main (F := Bits))) ⟨m, fun _ => 0, g⟩ (fun r => (∀ c : Dev Cert.ScanMaps.nD,
      r.2.mem ((c.tc : Thread Cert.ScanMaps.nD Cert.ScanMaps.τ).loc Cert.ScanMaps.main_arg0) = m ((c.tc : Thread Cert.ScanMaps.nD Cert.ScanMaps.τ).loc Cert.ScanMaps.main_arg0)
      ∧ r.2.mem ((c.tc : Thread Cert.ScanMaps.nD Cert.ScanMaps.τ).loc Cert.ScanMaps.main_arg1) = m ((c.tc : Thread Cert.ScanMaps.nD Cert.ScanMaps.τ).loc Cert.ScanMaps.main_arg1)
      ∧ r.2.mem ((c.tc : Thread Cert.ScanMaps.nD Cert.ScanMaps.τ).loc Cert.ScanMaps.main_arg2) = m ((c.tc : Thread Cert.ScanMaps.nD Cert.ScanMaps.τ).loc Cert.ScanMaps.main_arg2)
      ∧ r.2.mem ((c.tc : Thread Cert.ScanMaps.nD Cert.ScanMaps.τ).loc Cert.ScanMaps.main_arg3) = m ((c.tc : Thread Cert.ScanMaps.nD Cert.ScanMaps.τ).loc Cert.ScanMaps.main_arg3)
      ∧ r.2.mem ((c.tc : Thread Cert.ScanMaps.nD Cert.ScanMaps.τ).loc Cert.ScanMaps.main_arg4) = m ((c.tc : Thread Cert.ScanMaps.nD Cert.ScanMaps.τ).loc Cert.ScanMaps.main_arg4))
      ∧ r.2.sem = fun _ => 0)

def quiescent_ScanMapsIdeal [hScanMapsIdeal : Cert.ScanMapsIdeal.Facts] : Prop :=
  ∀ (m : (ℓ : Loc Cert.ScanMapsIdeal.nD Cert.ScanMapsIdeal.τ Cert.ScanMapsIdeal.sig) → Buf (Elt Ideal) ℓ) (g : Dev Cert.ScanMapsIdeal.nD → PrngReg), Pre_ScanMapsIdeal m →
    θ_run (Cert.ScanMapsIdeal.defs (F := Ideal)) (onTc (τ := Cert.ScanMapsIdeal.τ) (Cert.ScanMapsIdeal.main (F := Ideal))) ⟨m, fun _ => 0, g⟩ (fun r => (∀ c : Dev Cert.ScanMapsIdeal.nD,
      r.2.mem ((c.tc : Thread Cert.ScanMapsIdeal.nD Cert.ScanMapsIdeal.τ).loc Cert.ScanMapsIdeal.main_arg0) = m ((c.tc : Thread Cert.ScanMapsIdeal.nD Cert.ScanMapsIdeal.τ).loc Cert.ScanMapsIdeal.main_arg0)
      ∧ r.2.mem ((c.tc : Thread Cert.ScanMapsIdeal.nD Cert.ScanMapsIdeal.τ).loc Cert.ScanMapsIdeal.main_arg1) = m ((c.tc : Thread Cert.ScanMapsIdeal.nD Cert.ScanMapsIdeal.τ).loc Cert.ScanMapsIdeal.main_arg1)
      ∧ r.2.mem ((c.tc : Thread Cert.ScanMapsIdeal.nD Cert.ScanMapsIdeal.τ).loc Cert.ScanMapsIdeal.main_arg2) = m ((c.tc : Thread Cert.ScanMapsIdeal.nD Cert.ScanMapsIdeal.τ).loc Cert.ScanMapsIdeal.main_arg2)
      ∧ r.2.mem ((c.tc : Thread Cert.ScanMapsIdeal.nD Cert.ScanMapsIdeal.τ).loc Cert.ScanMapsIdeal.main_arg3) = m ((c.tc : Thread Cert.ScanMapsIdeal.nD Cert.ScanMapsIdeal.τ).loc Cert.ScanMapsIdeal.main_arg3)
      ∧ r.2.mem ((c.tc : Thread Cert.ScanMapsIdeal.nD Cert.ScanMapsIdeal.τ).loc Cert.ScanMapsIdeal.main_arg4) = m ((c.tc : Thread Cert.ScanMapsIdeal.nD Cert.ScanMapsIdeal.τ).loc Cert.ScanMapsIdeal.main_arg4))
      ∧ r.2.sem = fun _ => 0)

def quiescent_ScanMapsReferenceIdeal [hScanMapsReferenceIdeal : Cert.ScanMapsReferenceIdeal.Facts] : Prop :=
  ∀ (m : (ℓ : Loc Cert.ScanMapsReferenceIdeal.nD Cert.ScanMapsReferenceIdeal.τ Cert.ScanMapsReferenceIdeal.sig) → Buf (Elt Ideal) ℓ) (g : Dev Cert.ScanMapsReferenceIdeal.nD → PrngReg), Pre_ScanMapsReferenceIdeal m →
    θ_run (Cert.ScanMapsReferenceIdeal.defs (F := Ideal)) (onTc (τ := Cert.ScanMapsReferenceIdeal.τ) (Cert.ScanMapsReferenceIdeal.main (F := Ideal))) ⟨m, fun _ => 0, g⟩ (fun r => (∀ c : Dev Cert.ScanMapsReferenceIdeal.nD,
      r.2.mem ((c.tc : Thread Cert.ScanMapsReferenceIdeal.nD Cert.ScanMapsReferenceIdeal.τ).loc Cert.ScanMapsReferenceIdeal.main_arg0) = m ((c.tc : Thread Cert.ScanMapsReferenceIdeal.nD Cert.ScanMapsReferenceIdeal.τ).loc Cert.ScanMapsReferenceIdeal.main_arg0)
      ∧ r.2.mem ((c.tc : Thread Cert.ScanMapsReferenceIdeal.nD Cert.ScanMapsReferenceIdeal.τ).loc Cert.ScanMapsReferenceIdeal.main_arg1) = m ((c.tc : Thread Cert.ScanMapsReferenceIdeal.nD Cert.ScanMapsReferenceIdeal.τ).loc Cert.ScanMapsReferenceIdeal.main_arg1)
      ∧ r.2.mem ((c.tc : Thread Cert.ScanMapsReferenceIdeal.nD Cert.ScanMapsReferenceIdeal.τ).loc Cert.ScanMapsReferenceIdeal.main_arg2) = m ((c.tc : Thread Cert.ScanMapsReferenceIdeal.nD Cert.ScanMapsReferenceIdeal.τ).loc Cert.ScanMapsReferenceIdeal.main_arg2)
      ∧ r.2.mem ((c.tc : Thread Cert.ScanMapsReferenceIdeal.nD Cert.ScanMapsReferenceIdeal.τ).loc Cert.ScanMapsReferenceIdeal.main_arg3) = m ((c.tc : Thread Cert.ScanMapsReferenceIdeal.nD Cert.ScanMapsReferenceIdeal.τ).loc Cert.ScanMapsReferenceIdeal.main_arg3)
      ∧ r.2.mem ((c.tc : Thread Cert.ScanMapsReferenceIdeal.nD Cert.ScanMapsReferenceIdeal.τ).loc Cert.ScanMapsReferenceIdeal.main_arg4) = m ((c.tc : Thread Cert.ScanMapsReferenceIdeal.nD Cert.ScanMapsReferenceIdeal.τ).loc Cert.ScanMapsReferenceIdeal.main_arg4))
      ∧ r.2.sem = fun _ => 0)

def preserves_Kernel_KernelIdeal : Prop :=
  IdealRules.named_const.Statement Cert.KernelIdeal.κ "log_g0" .f32 0xBD020AEC#32 ((Real.log (31 / 32) : ℝ) : EReal)
  ∧ IdealRules.named_const.Statement Cert.KernelIdeal.κ "gamma0_c" .f32 0x399ACCA1#32 ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  ∧ IdealRules.named_const.Statement Cert.KernelIdeal.κ "log_g1" .f32 0xBC8102B3#32 ((Real.log (63 / 64) : ℝ) : EReal)
  ∧ IdealRules.named_const.Statement Cert.KernelIdeal.κ "gamma1_c" .f32 0x3C9160A5#32 ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  ∧ IdealRules.named_const.Statement Cert.KernelIdeal.κ "log_g2" .f32 0xBC0080AC#32 ((Real.log (127 / 128) : ℝ) : EReal)
  ∧ IdealRules.named_const.Statement Cert.KernelIdeal.κ "gamma2_c" .f32 0x3E097FCE#32 ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  ∧ IdealRules.named_const.Statement Cert.KernelIdeal.κ "log_g3" .f32 0xBB80402B#32 ((Real.log (255 / 256) : ℝ) : EReal)
  ∧ IdealRules.named_const.Statement Cert.KernelIdeal.κ "gamma3_c" .f32 0x3EBBFC5D#32 ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_FfnUp_FfnUpIdeal : Prop :=
  True

def algebraic_FfnUpIdeal_FfnUpReferenceIdeal [hFfnUpIdeal : Cert.FfnUpIdeal.Facts] [hFfnUpReferenceIdeal : Cert.FfnUpReferenceIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpReferenceIdeal.nD Cert.FfnUpReferenceIdeal.τ Cert.FfnUpReferenceIdeal.sig) → Buf (Elt Ideal) ℓ) (g' : Dev Cert.FfnUpReferenceIdeal.nD → PrngReg), Pre_FfnUpIdeal m →
    (∀ c : Dev Cert.FfnUpIdeal.nD,
      m' ((c.tc : Thread Cert.FfnUpReferenceIdeal.nD Cert.FfnUpReferenceIdeal.τ).loc Cert.FfnUpReferenceIdeal.main_arg0) = m ((c.tc : Thread Cert.FfnUpIdeal.nD Cert.FfnUpIdeal.τ).loc Cert.FfnUpIdeal.main_arg0)
      ∧ m' ((c.tc : Thread Cert.FfnUpReferenceIdeal.nD Cert.FfnUpReferenceIdeal.τ).loc Cert.FfnUpReferenceIdeal.main_arg1) = m ((c.tc : Thread Cert.FfnUpIdeal.nD Cert.FfnUpIdeal.τ).loc Cert.FfnUpIdeal.main_arg1)
      ∧ m' ((c.tc : Thread Cert.FfnUpReferenceIdeal.nD Cert.FfnUpReferenceIdeal.τ).loc Cert.FfnUpReferenceIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v3)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v3) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpReferenceIdeal.defs (F := Ideal)) (onTc (τ := Cert.FfnUpReferenceIdeal.τ) (Cert.FfnUpReferenceIdeal.main (F := Ideal))) ⟨m', fun _ => 0, g'⟩ (fun r => ∀ c : Dev Cert.FfnUpReferenceIdeal.nD,
          r.2.mem ((c.tc : Thread Cert.FfnUpReferenceIdeal.nD Cert.FfnUpReferenceIdeal.τ).loc Cert.FfnUpReferenceIdeal.main_v29) = v0 c
          ∧ r.2.mem ((c.tc : Thread Cert.FfnUpReferenceIdeal.nD Cert.FfnUpReferenceIdeal.τ).loc Cert.FfnUpReferenceIdeal.main_arg0) = m' ((c.tc : Thread Cert.FfnUpReferenceIdeal.nD Cert.FfnUpReferenceIdeal.τ).loc Cert.FfnUpReferenceIdeal.main_arg0)
          ∧ r.2.mem ((c.tc : Thread Cert.FfnUpReferenceIdeal.nD Cert.FfnUpReferenceIdeal.τ).loc Cert.FfnUpReferenceIdeal.main_arg1) = m' ((c.tc : Thread Cert.FfnUpReferenceIdeal.nD Cert.FfnUpReferenceIdeal.τ).loc Cert.FfnUpReferenceIdeal.main_arg1)
          ∧ r.2.mem ((c.tc : Thread Cert.FfnUpReferenceIdeal.nD Cert.FfnUpReferenceIdeal.τ).loc Cert.FfnUpReferenceIdeal.main_arg2) = m' ((c.tc : Thread Cert.FfnUpReferenceIdeal.nD Cert.FfnUpReferenceIdeal.τ).loc Cert.FfnUpReferenceIdeal.main_arg2))

def preserves_FfnDown_FfnDownIdeal : Prop :=
  True

def algebraic_FfnDownIdeal_FfnDownReferenceIdeal [hFfnDownIdeal : Cert.FfnDownIdeal.Facts] [hFfnDownReferenceIdeal : Cert.FfnDownReferenceIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownReferenceIdeal.nD Cert.FfnDownReferenceIdeal.τ Cert.FfnDownReferenceIdeal.sig) → Buf (Elt Ideal) ℓ) (g' : Dev Cert.FfnDownReferenceIdeal.nD → PrngReg), Pre_FfnDownIdeal m →
    (∀ c : Dev Cert.FfnDownIdeal.nD,
      m' ((c.tc : Thread Cert.FfnDownReferenceIdeal.nD Cert.FfnDownReferenceIdeal.τ).loc Cert.FfnDownReferenceIdeal.main_arg0) = m ((c.tc : Thread Cert.FfnDownIdeal.nD Cert.FfnDownIdeal.τ).loc Cert.FfnDownIdeal.main_arg0)
      ∧ m' ((c.tc : Thread Cert.FfnDownReferenceIdeal.nD Cert.FfnDownReferenceIdeal.τ).loc Cert.FfnDownReferenceIdeal.main_arg1) = m ((c.tc : Thread Cert.FfnDownIdeal.nD Cert.FfnDownIdeal.τ).loc Cert.FfnDownIdeal.main_arg1)
      ∧ m' ((c.tc : Thread Cert.FfnDownReferenceIdeal.nD Cert.FfnDownReferenceIdeal.τ).loc Cert.FfnDownReferenceIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v2)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v2) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownReferenceIdeal.defs (F := Ideal)) (onTc (τ := Cert.FfnDownReferenceIdeal.τ) (Cert.FfnDownReferenceIdeal.main (F := Ideal))) ⟨m', fun _ => 0, g'⟩ (fun r => ∀ c : Dev Cert.FfnDownReferenceIdeal.nD,
          r.2.mem ((c.tc : Thread Cert.FfnDownReferenceIdeal.nD Cert.FfnDownReferenceIdeal.τ).loc Cert.FfnDownReferenceIdeal.main_v1) = v0 c
          ∧ r.2.mem ((c.tc : Thread Cert.FfnDownReferenceIdeal.nD Cert.FfnDownReferenceIdeal.τ).loc Cert.FfnDownReferenceIdeal.main_arg0) = m' ((c.tc : Thread Cert.FfnDownReferenceIdeal.nD Cert.FfnDownReferenceIdeal.τ).loc Cert.FfnDownReferenceIdeal.main_arg0)
          ∧ r.2.mem ((c.tc : Thread Cert.FfnDownReferenceIdeal.nD Cert.FfnDownReferenceIdeal.τ).loc Cert.FfnDownReferenceIdeal.main_arg1) = m' ((c.tc : Thread Cert.FfnDownReferenceIdeal.nD Cert.FfnDownReferenceIdeal.τ).loc Cert.FfnDownReferenceIdeal.main_arg1)
          ∧ r.2.mem ((c.tc : Thread Cert.FfnDownReferenceIdeal.nD Cert.FfnDownReferenceIdeal.τ).loc Cert.FfnDownReferenceIdeal.main_arg2) = m' ((c.tc : Thread Cert.FfnDownReferenceIdeal.nD Cert.FfnDownReferenceIdeal.τ).loc Cert.FfnDownReferenceIdeal.main_arg2))

def preserves_FinalNorm_FinalNormIdeal : Prop :=
  True

def algebraic_FinalNormIdeal_FinalNormReferenceIdeal [hFinalNormIdeal : Cert.FinalNormIdeal.Facts] [hFinalNormReferenceIdeal : Cert.FinalNormReferenceIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormReferenceIdeal.nD Cert.FinalNormReferenceIdeal.τ Cert.FinalNormReferenceIdeal.sig) → Buf (Elt Ideal) ℓ) (g' : Dev Cert.FinalNormReferenceIdeal.nD → PrngReg), Pre_FinalNormIdeal m →
    (∀ c : Dev Cert.FinalNormIdeal.nD,
      m' ((c.tc : Thread Cert.FinalNormReferenceIdeal.nD Cert.FinalNormReferenceIdeal.τ).loc Cert.FinalNormReferenceIdeal.main_arg0) = m ((c.tc : Thread Cert.FinalNormIdeal.nD Cert.FinalNormIdeal.τ).loc Cert.FinalNormIdeal.main_arg0)
      ∧ m' ((c.tc : Thread Cert.FinalNormReferenceIdeal.nD Cert.FinalNormReferenceIdeal.τ).loc Cert.FinalNormReferenceIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v2)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v2) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormReferenceIdeal.defs (F := Ideal)) (onTc (τ := Cert.FinalNormReferenceIdeal.τ) (Cert.FinalNormReferenceIdeal.main (F := Ideal))) ⟨m', fun _ => 0, g'⟩ (fun r => ∀ c : Dev Cert.FinalNormReferenceIdeal.nD,
          r.2.mem ((c.tc : Thread Cert.FinalNormReferenceIdeal.nD Cert.FinalNormReferenceIdeal.τ).loc Cert.FinalNormReferenceIdeal.main_v13) = v0 c
          ∧ r.2.mem ((c.tc : Thread Cert.FinalNormReferenceIdeal.nD Cert.FinalNormReferenceIdeal.τ).loc Cert.FinalNormReferenceIdeal.main_arg0) = m' ((c.tc : Thread Cert.FinalNormReferenceIdeal.nD Cert.FinalNormReferenceIdeal.τ).loc Cert.FinalNormReferenceIdeal.main_arg0)
          ∧ r.2.mem ((c.tc : Thread Cert.FinalNormReferenceIdeal.nD Cert.FinalNormReferenceIdeal.τ).loc Cert.FinalNormReferenceIdeal.main_arg1) = m' ((c.tc : Thread Cert.FinalNormReferenceIdeal.nD Cert.FinalNormReferenceIdeal.τ).loc Cert.FinalNormReferenceIdeal.main_arg1))

def preserves_OddIn_OddInIdeal : Prop :=
  True

def algebraic_OddInIdeal_OddInReferenceIdeal [hOddInIdeal : Cert.OddInIdeal.Facts] [hOddInReferenceIdeal : Cert.OddInReferenceIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInReferenceIdeal.nD Cert.OddInReferenceIdeal.τ Cert.OddInReferenceIdeal.sig) → Buf (Elt Ideal) ℓ) (g' : Dev Cert.OddInReferenceIdeal.nD → PrngReg), Pre_OddInIdeal m →
    (∀ c : Dev Cert.OddInIdeal.nD,
      m' ((c.tc : Thread Cert.OddInReferenceIdeal.nD Cert.OddInReferenceIdeal.τ).loc Cert.OddInReferenceIdeal.main_arg0) = m ((c.tc : Thread Cert.OddInIdeal.nD Cert.OddInIdeal.τ).loc Cert.OddInIdeal.main_arg0)
      ∧ m' ((c.tc : Thread Cert.OddInReferenceIdeal.nD Cert.OddInReferenceIdeal.τ).loc Cert.OddInReferenceIdeal.main_arg1) = m ((c.tc : Thread Cert.OddInIdeal.nD Cert.OddInIdeal.τ).loc Cert.OddInIdeal.main_arg1)) →
    ∃ (v0 : (c : Dev Cert.OddInIdeal.nD) → Buf (Elt Ideal) ((c.tc : Thread Cert.OddInIdeal.nD Cert.OddInIdeal.τ).loc Cert.OddInIdeal.main_v2)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v2) = v0 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ θ_run (Cert.OddInReferenceIdeal.defs (F := Ideal)) (onTc (τ := Cert.OddInReferenceIdeal.τ) (Cert.OddInReferenceIdeal.main (F := Ideal))) ⟨m', fun _ => 0, g'⟩ (fun r => ∀ c : Dev Cert.OddInReferenceIdeal.nD,
          r.2.mem ((c.tc : Thread Cert.OddInReferenceIdeal.nD Cert.OddInReferenceIdeal.τ).loc Cert.OddInReferenceIdeal.main_v1) = v0 c
          ∧ r.2.mem ((c.tc : Thread Cert.OddInReferenceIdeal.nD Cert.OddInReferenceIdeal.τ).loc Cert.OddInReferenceIdeal.main_arg0) = m' ((c.tc : Thread Cert.OddInReferenceIdeal.nD Cert.OddInReferenceIdeal.τ).loc Cert.OddInReferenceIdeal.main_arg0)
          ∧ r.2.mem ((c.tc : Thread Cert.OddInReferenceIdeal.nD Cert.OddInReferenceIdeal.τ).loc Cert.OddInReferenceIdeal.main_arg1) = m' ((c.tc : Thread Cert.OddInReferenceIdeal.nD Cert.OddInReferenceIdeal.τ).loc Cert.OddInReferenceIdeal.main_arg1))

def preserves_MixOut_MixOutIdeal : Prop :=
  True

def algebraic_MixOutIdeal_MixOutReferenceIdeal [hMixOutIdeal : Cert.MixOutIdeal.Facts] [hMixOutReferenceIdeal : Cert.MixOutReferenceIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutIdeal m →
    (∀ c : Dev Cert.MixOutIdeal.nD,
      m' ((c.tc : Thread Cert.MixOutReferenceIdeal.nD Cert.MixOutReferenceIdeal.τ).loc Cert.MixOutReferenceIdeal.main_arg0) = m ((c.tc : Thread Cert.MixOutIdeal.nD Cert.MixOutIdeal.τ).loc Cert.MixOutIdeal.main_arg0)
      ∧ m' ((c.tc : Thread Cert.MixOutReferenceIdeal.nD Cert.MixOutReferenceIdeal.τ).loc Cert.MixOutReferenceIdeal.main_arg1) = m ((c.tc : Thread Cert.MixOutIdeal.nD Cert.MixOutIdeal.τ).loc Cert.MixOutIdeal.main_arg1)
      ∧ m' ((c.tc : Thread Cert.MixOutReferenceIdeal.nD Cert.MixOutReferenceIdeal.τ).loc Cert.MixOutReferenceIdeal.main_arg2) = m ((c.tc : Thread Cert.MixOutIdeal.nD Cert.MixOutIdeal.τ).loc Cert.MixOutIdeal.main_arg2)
      ∧ m' ((c.tc : Thread Cert.MixOutReferenceIdeal.nD Cert.MixOutReferenceIdeal.τ).loc Cert.MixOutReferenceIdeal.main_arg3) = m ((c.tc : Thread Cert.MixOutIdeal.nD Cert.MixOutIdeal.τ).loc Cert.MixOutIdeal.main_arg3)) →
    ∃ (v0 : (c : Dev Cert.MixOutIdeal.nD) → Buf (Elt Ideal) ((c.tc : Thread Cert.MixOutIdeal.nD Cert.MixOutIdeal.τ).loc Cert.MixOutIdeal.main_v2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v2) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v2) = v0 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1)
          ∧ r.2.mem ((c.tc : Thread Cert.MixOutReferenceIdeal.nD Cert.MixOutReferenceIdeal.τ).loc Cert.MixOutReferenceIdeal.main_arg2) = m' ((c.tc : Thread Cert.MixOutReferenceIdeal.nD Cert.MixOutReferenceIdeal.τ).loc Cert.MixOutReferenceIdeal.main_arg2)
          ∧ r.2.mem ((c.tc : Thread Cert.MixOutReferenceIdeal.nD Cert.MixOutReferenceIdeal.τ).loc Cert.MixOutReferenceIdeal.main_arg3) = m' ((c.tc : Thread Cert.MixOutReferenceIdeal.nD Cert.MixOutReferenceIdeal.τ).loc Cert.MixOutReferenceIdeal.main_arg3))

def preserves_OddTail_OddTailIdeal : Prop :=
  True

def algebraic_OddTailIdeal_OddTailReferenceIdeal [hOddTailIdeal : Cert.OddTailIdeal.Facts] [hOddTailReferenceIdeal : Cert.OddTailReferenceIdeal.Facts] : Prop :=
  ∀ (m : (ℓ : Loc Cert.OddTailIdeal.nD Cert.OddTailIdeal.τ Cert.OddTailIdeal.sig) → Buf (Elt Ideal) ℓ) (g : Dev Cert.OddTailIdeal.nD → PrngReg)
    (m' : (ℓ : Loc Cert.OddTailReferenceIdeal.nD Cert.OddTailReferenceIdeal.τ Cert.OddTailReferenceIdeal.sig) → Buf (Elt Ideal) ℓ) (g' : Dev Cert.OddTailReferenceIdeal.nD → PrngReg), Pre_OddTailIdeal m →
    (∀ c : Dev Cert.OddTailIdeal.nD,
      m' ((c.tc : Thread Cert.OddTailReferenceIdeal.nD Cert.OddTailReferenceIdeal.τ).loc Cert.OddTailReferenceIdeal.main_arg0) = m ((c.tc : Thread Cert.OddTailIdeal.nD Cert.OddTailIdeal.τ).loc Cert.OddTailIdeal.main_arg0)
      ∧ m' ((c.tc : Thread Cert.OddTailReferenceIdeal.nD Cert.OddTailReferenceIdeal.τ).loc Cert.OddTailReferenceIdeal.main_arg1) = m ((c.tc : Thread Cert.OddTailIdeal.nD Cert.OddTailIdeal.τ).loc Cert.OddTailIdeal.main_arg1)) →
    ∃ (v0 : (c : Dev Cert.OddTailIdeal.nD) → Buf (Elt Ideal) ((c.tc : Thread Cert.OddTailIdeal.nD Cert.OddTailIdeal.τ).loc Cert.OddTailIdeal.main_v9)),
      θ_run (Cert.OddTailIdeal.defs (F := Ideal)) (onTc (τ := Cert.OddTailIdeal.τ) (Cert.OddTailIdeal.main (F := Ideal))) ⟨m, fun _ => 0, g⟩ (fun r => ∀ c : Dev Cert.OddTailIdeal.nD,
          r.2.mem ((c.tc : Thread Cert.OddTailIdeal.nD Cert.OddTailIdeal.τ).loc Cert.OddTailIdeal.main_v9) = v0 c
          ∧ r.2.mem ((c.tc : Thread Cert.OddTailIdeal.nD Cert.OddTailIdeal.τ).loc Cert.OddTailIdeal.main_arg0) = m ((c.tc : Thread Cert.OddTailIdeal.nD Cert.OddTailIdeal.τ).loc Cert.OddTailIdeal.main_arg0)
          ∧ r.2.mem ((c.tc : Thread Cert.OddTailIdeal.nD Cert.OddTailIdeal.τ).loc Cert.OddTailIdeal.main_arg1) = m ((c.tc : Thread Cert.OddTailIdeal.nD Cert.OddTailIdeal.τ).loc Cert.OddTailIdeal.main_arg1))
      ∧ θ_run (Cert.OddTailReferenceIdeal.defs (F := Ideal)) (onTc (τ := Cert.OddTailReferenceIdeal.τ) (Cert.OddTailReferenceIdeal.main (F := Ideal))) ⟨m', fun _ => 0, g'⟩ (fun r => ∀ c : Dev Cert.OddTailReferenceIdeal.nD,
          r.2.mem ((c.tc : Thread Cert.OddTailReferenceIdeal.nD Cert.OddTailReferenceIdeal.τ).loc Cert.OddTailReferenceIdeal.main_v4) = v0 c
          ∧ r.2.mem ((c.tc : Thread Cert.OddTailReferenceIdeal.nD Cert.OddTailReferenceIdeal.τ).loc Cert.OddTailReferenceIdeal.main_arg0) = m' ((c.tc : Thread Cert.OddTailReferenceIdeal.nD Cert.OddTailReferenceIdeal.τ).loc Cert.OddTailReferenceIdeal.main_arg0)
          ∧ r.2.mem ((c.tc : Thread Cert.OddTailReferenceIdeal.nD Cert.OddTailReferenceIdeal.τ).loc Cert.OddTailReferenceIdeal.main_arg1) = m' ((c.tc : Thread Cert.OddTailReferenceIdeal.nD Cert.OddTailReferenceIdeal.τ).loc Cert.OddTailReferenceIdeal.main_arg1))

def preserves_EvenIn_EvenInIdeal : Prop :=
  True

def algebraic_EvenInIdeal_EvenInReferenceIdeal [hEvenInIdeal : Cert.EvenInIdeal.Facts] [hEvenInReferenceIdeal : Cert.EvenInReferenceIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInReferenceIdeal.nD Cert.EvenInReferenceIdeal.τ Cert.EvenInReferenceIdeal.sig) → Buf (Elt Ideal) ℓ) (g' : Dev Cert.EvenInReferenceIdeal.nD → PrngReg), Pre_EvenInIdeal m →
    (∀ c : Dev Cert.EvenInIdeal.nD,
      m' ((c.tc : Thread Cert.EvenInReferenceIdeal.nD Cert.EvenInReferenceIdeal.τ).loc Cert.EvenInReferenceIdeal.main_arg0) = m ((c.tc : Thread Cert.EvenInIdeal.nD Cert.EvenInIdeal.τ).loc Cert.EvenInIdeal.main_arg0)
      ∧ m' ((c.tc : Thread Cert.EvenInReferenceIdeal.nD Cert.EvenInReferenceIdeal.τ).loc Cert.EvenInReferenceIdeal.main_arg1) = m ((c.tc : Thread Cert.EvenInIdeal.nD Cert.EvenInIdeal.τ).loc Cert.EvenInIdeal.main_arg1)) →
    ∃ (v0 : (c : Dev Cert.EvenInIdeal.nD) → Buf (Elt Ideal) ((c.tc : Thread Cert.EvenInIdeal.nD Cert.EvenInIdeal.τ).loc Cert.EvenInIdeal.main_v2)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v2) = v0 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ θ_run (Cert.EvenInReferenceIdeal.defs (F := Ideal)) (onTc (τ := Cert.EvenInReferenceIdeal.τ) (Cert.EvenInReferenceIdeal.main (F := Ideal))) ⟨m', fun _ => 0, g'⟩ (fun r => ∀ c : Dev Cert.EvenInReferenceIdeal.nD,
          r.2.mem ((c.tc : Thread Cert.EvenInReferenceIdeal.nD Cert.EvenInReferenceIdeal.τ).loc Cert.EvenInReferenceIdeal.main_v1) = v0 c
          ∧ r.2.mem ((c.tc : Thread Cert.EvenInReferenceIdeal.nD Cert.EvenInReferenceIdeal.τ).loc Cert.EvenInReferenceIdeal.main_arg0) = m' ((c.tc : Thread Cert.EvenInReferenceIdeal.nD Cert.EvenInReferenceIdeal.τ).loc Cert.EvenInReferenceIdeal.main_arg0)
          ∧ r.2.mem ((c.tc : Thread Cert.EvenInReferenceIdeal.nD Cert.EvenInReferenceIdeal.τ).loc Cert.EvenInReferenceIdeal.main_arg1) = m' ((c.tc : Thread Cert.EvenInReferenceIdeal.nD Cert.EvenInReferenceIdeal.τ).loc Cert.EvenInReferenceIdeal.main_arg1))

def preserves_EvenTail_EvenTailIdeal : Prop :=
  True

def algebraic_EvenTailIdeal_EvenTailReferenceIdeal [hEvenTailIdeal : Cert.EvenTailIdeal.Facts] [hEvenTailReferenceIdeal : Cert.EvenTailReferenceIdeal.Facts] : Prop :=
  ∀ (m : (ℓ : Loc Cert.EvenTailIdeal.nD Cert.EvenTailIdeal.τ Cert.EvenTailIdeal.sig) → Buf (Elt Ideal) ℓ) (g : Dev Cert.EvenTailIdeal.nD → PrngReg)
    (m' : (ℓ : Loc Cert.EvenTailReferenceIdeal.nD Cert.EvenTailReferenceIdeal.τ Cert.EvenTailReferenceIdeal.sig) → Buf (Elt Ideal) ℓ) (g' : Dev Cert.EvenTailReferenceIdeal.nD → PrngReg), Pre_EvenTailIdeal m →
    (∀ c : Dev Cert.EvenTailIdeal.nD,
      m' ((c.tc : Thread Cert.EvenTailReferenceIdeal.nD Cert.EvenTailReferenceIdeal.τ).loc Cert.EvenTailReferenceIdeal.main_arg0) = m ((c.tc : Thread Cert.EvenTailIdeal.nD Cert.EvenTailIdeal.τ).loc Cert.EvenTailIdeal.main_arg0)
      ∧ m' ((c.tc : Thread Cert.EvenTailReferenceIdeal.nD Cert.EvenTailReferenceIdeal.τ).loc Cert.EvenTailReferenceIdeal.main_arg1) = m ((c.tc : Thread Cert.EvenTailIdeal.nD Cert.EvenTailIdeal.τ).loc Cert.EvenTailIdeal.main_arg1)) →
    ∃ (v0 : (c : Dev Cert.EvenTailIdeal.nD) → Buf (Elt Ideal) ((c.tc : Thread Cert.EvenTailIdeal.nD Cert.EvenTailIdeal.τ).loc Cert.EvenTailIdeal.main_v9)),
      θ_run (Cert.EvenTailIdeal.defs (F := Ideal)) (onTc (τ := Cert.EvenTailIdeal.τ) (Cert.EvenTailIdeal.main (F := Ideal))) ⟨m, fun _ => 0, g⟩ (fun r => ∀ c : Dev Cert.EvenTailIdeal.nD,
          r.2.mem ((c.tc : Thread Cert.EvenTailIdeal.nD Cert.EvenTailIdeal.τ).loc Cert.EvenTailIdeal.main_v9) = v0 c
          ∧ r.2.mem ((c.tc : Thread Cert.EvenTailIdeal.nD Cert.EvenTailIdeal.τ).loc Cert.EvenTailIdeal.main_arg0) = m ((c.tc : Thread Cert.EvenTailIdeal.nD Cert.EvenTailIdeal.τ).loc Cert.EvenTailIdeal.main_arg0)
          ∧ r.2.mem ((c.tc : Thread Cert.EvenTailIdeal.nD Cert.EvenTailIdeal.τ).loc Cert.EvenTailIdeal.main_arg1) = m ((c.tc : Thread Cert.EvenTailIdeal.nD Cert.EvenTailIdeal.τ).loc Cert.EvenTailIdeal.main_arg1))
      ∧ θ_run (Cert.EvenTailReferenceIdeal.defs (F := Ideal)) (onTc (τ := Cert.EvenTailReferenceIdeal.τ) (Cert.EvenTailReferenceIdeal.main (F := Ideal))) ⟨m', fun _ => 0, g'⟩ (fun r => ∀ c : Dev Cert.EvenTailReferenceIdeal.nD,
          r.2.mem ((c.tc : Thread Cert.EvenTailReferenceIdeal.nD Cert.EvenTailReferenceIdeal.τ).loc Cert.EvenTailReferenceIdeal.main_v4) = v0 c
          ∧ r.2.mem ((c.tc : Thread Cert.EvenTailReferenceIdeal.nD Cert.EvenTailReferenceIdeal.τ).loc Cert.EvenTailReferenceIdeal.main_arg0) = m' ((c.tc : Thread Cert.EvenTailReferenceIdeal.nD Cert.EvenTailReferenceIdeal.τ).loc Cert.EvenTailReferenceIdeal.main_arg0)
          ∧ r.2.mem ((c.tc : Thread Cert.EvenTailReferenceIdeal.nD Cert.EvenTailReferenceIdeal.τ).loc Cert.EvenTailReferenceIdeal.main_arg1) = m' ((c.tc : Thread Cert.EvenTailReferenceIdeal.nD Cert.EvenTailReferenceIdeal.τ).loc Cert.EvenTailReferenceIdeal.main_arg1))

def preserves_ScanGate_ScanGateIdeal : Prop :=
  True

def algebraic_ScanGateIdeal_ScanGateReferenceIdeal [hScanGateIdeal : Cert.ScanGateIdeal.Facts] [hScanGateReferenceIdeal : Cert.ScanGateReferenceIdeal.Facts] : Prop :=
  ∀ (m : (ℓ : Loc Cert.ScanGateIdeal.nD Cert.ScanGateIdeal.τ Cert.ScanGateIdeal.sig) → Buf (Elt Ideal) ℓ) (g : Dev Cert.ScanGateIdeal.nD → PrngReg)
    (m' : (ℓ : Loc Cert.ScanGateReferenceIdeal.nD Cert.ScanGateReferenceIdeal.τ Cert.ScanGateReferenceIdeal.sig) → Buf (Elt Ideal) ℓ) (g' : Dev Cert.ScanGateReferenceIdeal.nD → PrngReg), Pre_ScanGateIdeal m →
    (∀ c : Dev Cert.ScanGateIdeal.nD,
      m' ((c.tc : Thread Cert.ScanGateReferenceIdeal.nD Cert.ScanGateReferenceIdeal.τ).loc Cert.ScanGateReferenceIdeal.main_arg0) = m ((c.tc : Thread Cert.ScanGateIdeal.nD Cert.ScanGateIdeal.τ).loc Cert.ScanGateIdeal.main_arg0)
      ∧ m' ((c.tc : Thread Cert.ScanGateReferenceIdeal.nD Cert.ScanGateReferenceIdeal.τ).loc Cert.ScanGateReferenceIdeal.main_arg1) = m ((c.tc : Thread Cert.ScanGateIdeal.nD Cert.ScanGateIdeal.τ).loc Cert.ScanGateIdeal.main_arg1)) →
    ∃ (v0 : (c : Dev Cert.ScanGateIdeal.nD) → Buf (Elt Ideal) ((c.tc : Thread Cert.ScanGateIdeal.nD Cert.ScanGateIdeal.τ).loc Cert.ScanGateIdeal.main_v2)),
      θ_run (Cert.ScanGateIdeal.defs (F := Ideal)) (onTc (τ := Cert.ScanGateIdeal.τ) (Cert.ScanGateIdeal.main (F := Ideal))) ⟨m, fun _ => 0, g⟩ (fun r => ∀ c : Dev Cert.ScanGateIdeal.nD,
          r.2.mem ((c.tc : Thread Cert.ScanGateIdeal.nD Cert.ScanGateIdeal.τ).loc Cert.ScanGateIdeal.main_v2) = v0 c
          ∧ r.2.mem ((c.tc : Thread Cert.ScanGateIdeal.nD Cert.ScanGateIdeal.τ).loc Cert.ScanGateIdeal.main_arg0) = m ((c.tc : Thread Cert.ScanGateIdeal.nD Cert.ScanGateIdeal.τ).loc Cert.ScanGateIdeal.main_arg0)
          ∧ r.2.mem ((c.tc : Thread Cert.ScanGateIdeal.nD Cert.ScanGateIdeal.τ).loc Cert.ScanGateIdeal.main_arg1) = m ((c.tc : Thread Cert.ScanGateIdeal.nD Cert.ScanGateIdeal.τ).loc Cert.ScanGateIdeal.main_arg1))
      ∧ θ_run (Cert.ScanGateReferenceIdeal.defs (F := Ideal)) (onTc (τ := Cert.ScanGateReferenceIdeal.τ) (Cert.ScanGateReferenceIdeal.main (F := Ideal))) ⟨m', fun _ => 0, g'⟩ (fun r => ∀ c : Dev Cert.ScanGateReferenceIdeal.nD,
          r.2.mem ((c.tc : Thread Cert.ScanGateReferenceIdeal.nD Cert.ScanGateReferenceIdeal.τ).loc Cert.ScanGateReferenceIdeal.main_v9) = v0 c
          ∧ r.2.mem ((c.tc : Thread Cert.ScanGateReferenceIdeal.nD Cert.ScanGateReferenceIdeal.τ).loc Cert.ScanGateReferenceIdeal.main_arg0) = m' ((c.tc : Thread Cert.ScanGateReferenceIdeal.nD Cert.ScanGateReferenceIdeal.τ).loc Cert.ScanGateReferenceIdeal.main_arg0)
          ∧ r.2.mem ((c.tc : Thread Cert.ScanGateReferenceIdeal.nD Cert.ScanGateReferenceIdeal.τ).loc Cert.ScanGateReferenceIdeal.main_arg1) = m' ((c.tc : Thread Cert.ScanGateReferenceIdeal.nD Cert.ScanGateReferenceIdeal.τ).loc Cert.ScanGateReferenceIdeal.main_arg1))

def preserves_Rope_RopeIdeal : Prop :=
  True

def algebraic_RopeIdeal_RopeReferenceIdeal [hRopeIdeal : Cert.RopeIdeal.Facts] [hRopeReferenceIdeal : Cert.RopeReferenceIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeReferenceIdeal.nD Cert.RopeReferenceIdeal.τ Cert.RopeReferenceIdeal.sig) → Buf (Elt Ideal) ℓ) (g' : Dev Cert.RopeReferenceIdeal.nD → PrngReg), Pre_RopeIdeal m →
    (∀ c : Dev Cert.RopeIdeal.nD,
      True) →
    ∃ (v0 : (c : Dev Cert.RopeIdeal.nD) → Buf (Elt Ideal) ((c.tc : Thread Cert.RopeIdeal.nD Cert.RopeIdeal.τ).loc Cert.RopeIdeal.main_v6_0)) (v1 : (c : Dev Cert.RopeIdeal.nD) → Buf (Elt Ideal) ((c.tc : Thread Cert.RopeIdeal.nD Cert.RopeIdeal.τ).loc Cert.RopeIdeal.main_v6_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v6_0) = v0 c
          ∧ r.2.mem ((c.tc : Thread Cert.RopeIdeal.nD Cert.RopeIdeal.τ).loc Cert.RopeIdeal.main_v6_1) = v1 c)
      ∧ θ_run (Cert.RopeReferenceIdeal.defs (F := Ideal)) (onTc (τ := Cert.RopeReferenceIdeal.τ) (Cert.RopeReferenceIdeal.main (F := Ideal))) ⟨m', fun _ => 0, g'⟩ (fun r => ∀ c : Dev Cert.RopeReferenceIdeal.nD,
          r.2.mem ((c.tc : Thread Cert.RopeReferenceIdeal.nD Cert.RopeReferenceIdeal.τ).loc Cert.RopeReferenceIdeal.main_v12) = v0 c
          ∧ r.2.mem ((c.tc : Thread Cert.RopeReferenceIdeal.nD Cert.RopeReferenceIdeal.τ).loc Cert.RopeReferenceIdeal.main_v14) = v1 c)

def preserves_LayerNorm_LayerNormIdeal : Prop :=
  True

def algebraic_LayerNormIdeal_LayerNormReferenceIdeal [hLayerNormIdeal : Cert.LayerNormIdeal.Facts] [hLayerNormReferenceIdeal : Cert.LayerNormReferenceIdeal.Facts] : Prop :=
  ∀ (m : (ℓ : Loc Cert.LayerNormIdeal.nD Cert.LayerNormIdeal.τ Cert.LayerNormIdeal.sig) → Buf (Elt Ideal) ℓ) (g : Dev Cert.LayerNormIdeal.nD → PrngReg)
    (m' : (ℓ : Loc Cert.LayerNormReferenceIdeal.nD Cert.LayerNormReferenceIdeal.τ Cert.LayerNormReferenceIdeal.sig) → Buf (Elt Ideal) ℓ) (g' : Dev Cert.LayerNormReferenceIdeal.nD → PrngReg), Pre_LayerNormIdeal m →
    (∀ c : Dev Cert.LayerNormIdeal.nD,
      m' ((c.tc : Thread Cert.LayerNormReferenceIdeal.nD Cert.LayerNormReferenceIdeal.τ).loc Cert.LayerNormReferenceIdeal.main_arg0) = m ((c.tc : Thread Cert.LayerNormIdeal.nD Cert.LayerNormIdeal.τ).loc Cert.LayerNormIdeal.main_arg0)
      ∧ m' ((c.tc : Thread Cert.LayerNormReferenceIdeal.nD Cert.LayerNormReferenceIdeal.τ).loc Cert.LayerNormReferenceIdeal.main_arg1) = m ((c.tc : Thread Cert.LayerNormIdeal.nD Cert.LayerNormIdeal.τ).loc Cert.LayerNormIdeal.main_arg1)) →
    ∃ (v0 : (c : Dev Cert.LayerNormIdeal.nD) → Buf (Elt Ideal) ((c.tc : Thread Cert.LayerNormIdeal.nD Cert.LayerNormIdeal.τ).loc Cert.LayerNormIdeal.main_v2)),
      θ_run (Cert.LayerNormIdeal.defs (F := Ideal)) (onTc (τ := Cert.LayerNormIdeal.τ) (Cert.LayerNormIdeal.main (F := Ideal))) ⟨m, fun _ => 0, g⟩ (fun r => ∀ c : Dev Cert.LayerNormIdeal.nD,
          r.2.mem ((c.tc : Thread Cert.LayerNormIdeal.nD Cert.LayerNormIdeal.τ).loc Cert.LayerNormIdeal.main_v2) = v0 c
          ∧ r.2.mem ((c.tc : Thread Cert.LayerNormIdeal.nD Cert.LayerNormIdeal.τ).loc Cert.LayerNormIdeal.main_arg0) = m ((c.tc : Thread Cert.LayerNormIdeal.nD Cert.LayerNormIdeal.τ).loc Cert.LayerNormIdeal.main_arg0)
          ∧ r.2.mem ((c.tc : Thread Cert.LayerNormIdeal.nD Cert.LayerNormIdeal.τ).loc Cert.LayerNormIdeal.main_arg1) = m ((c.tc : Thread Cert.LayerNormIdeal.nD Cert.LayerNormIdeal.τ).loc Cert.LayerNormIdeal.main_arg1))
      ∧ θ_run (Cert.LayerNormReferenceIdeal.defs (F := Ideal)) (onTc (τ := Cert.LayerNormReferenceIdeal.τ) (Cert.LayerNormReferenceIdeal.main (F := Ideal))) ⟨m', fun _ => 0, g'⟩ (fun r => ∀ c : Dev Cert.LayerNormReferenceIdeal.nD,
          r.2.mem ((c.tc : Thread Cert.LayerNormReferenceIdeal.nD Cert.LayerNormReferenceIdeal.τ).loc Cert.LayerNormReferenceIdeal.main_v14) = v0 c
          ∧ r.2.mem ((c.tc : Thread Cert.LayerNormReferenceIdeal.nD Cert.LayerNormReferenceIdeal.τ).loc Cert.LayerNormReferenceIdeal.main_arg0) = m' ((c.tc : Thread Cert.LayerNormReferenceIdeal.nD Cert.LayerNormReferenceIdeal.τ).loc Cert.LayerNormReferenceIdeal.main_arg0)
          ∧ r.2.mem ((c.tc : Thread Cert.LayerNormReferenceIdeal.nD Cert.LayerNormReferenceIdeal.τ).loc Cert.LayerNormReferenceIdeal.main_arg1) = m' ((c.tc : Thread Cert.LayerNormReferenceIdeal.nD Cert.LayerNormReferenceIdeal.τ).loc Cert.LayerNormReferenceIdeal.main_arg1))

def preserves_ScanMaps_ScanMapsIdeal : Prop :=
  True

def algebraic_ScanMapsIdeal_ScanMapsReferenceIdeal [hScanMapsIdeal : Cert.ScanMapsIdeal.Facts] [hScanMapsReferenceIdeal : Cert.ScanMapsReferenceIdeal.Facts] : Prop :=
  ∀ (m : (ℓ : Loc Cert.ScanMapsIdeal.nD Cert.ScanMapsIdeal.τ Cert.ScanMapsIdeal.sig) → Buf (Elt Ideal) ℓ) (g : Dev Cert.ScanMapsIdeal.nD → PrngReg)
    (m' : (ℓ : Loc Cert.ScanMapsReferenceIdeal.nD Cert.ScanMapsReferenceIdeal.τ Cert.ScanMapsReferenceIdeal.sig) → Buf (Elt Ideal) ℓ) (g' : Dev Cert.ScanMapsReferenceIdeal.nD → PrngReg), Pre_ScanMapsIdeal m →
    (∀ c : Dev Cert.ScanMapsIdeal.nD,
      m' ((c.tc : Thread Cert.ScanMapsReferenceIdeal.nD Cert.ScanMapsReferenceIdeal.τ).loc Cert.ScanMapsReferenceIdeal.main_arg0) = m ((c.tc : Thread Cert.ScanMapsIdeal.nD Cert.ScanMapsIdeal.τ).loc Cert.ScanMapsIdeal.main_arg0)
      ∧ m' ((c.tc : Thread Cert.ScanMapsReferenceIdeal.nD Cert.ScanMapsReferenceIdeal.τ).loc Cert.ScanMapsReferenceIdeal.main_arg1) = m ((c.tc : Thread Cert.ScanMapsIdeal.nD Cert.ScanMapsIdeal.τ).loc Cert.ScanMapsIdeal.main_arg1)
      ∧ m' ((c.tc : Thread Cert.ScanMapsReferenceIdeal.nD Cert.ScanMapsReferenceIdeal.τ).loc Cert.ScanMapsReferenceIdeal.main_arg2) = m ((c.tc : Thread Cert.ScanMapsIdeal.nD Cert.ScanMapsIdeal.τ).loc Cert.ScanMapsIdeal.main_arg2)
      ∧ m' ((c.tc : Thread Cert.ScanMapsReferenceIdeal.nD Cert.ScanMapsReferenceIdeal.τ).loc Cert.ScanMapsReferenceIdeal.main_arg3) = m ((c.tc : Thread Cert.ScanMapsIdeal.nD Cert.ScanMapsIdeal.τ).loc Cert.ScanMapsIdeal.main_arg3)
      ∧ m' ((c.tc : Thread Cert.ScanMapsReferenceIdeal.nD Cert.ScanMapsReferenceIdeal.τ).loc Cert.ScanMapsReferenceIdeal.main_arg4) = m ((c.tc : Thread Cert.ScanMapsIdeal.nD Cert.ScanMapsIdeal.τ).loc Cert.ScanMapsIdeal.main_arg4)) →
    ∃ (v0 : (c : Dev Cert.ScanMapsIdeal.nD) → Buf (Elt Ideal) ((c.tc : Thread Cert.ScanMapsIdeal.nD Cert.ScanMapsIdeal.τ).loc Cert.ScanMapsIdeal.main_v10_2)) (v1 : (c : Dev Cert.ScanMapsIdeal.nD) → Buf (Elt Ideal) ((c.tc : Thread Cert.ScanMapsIdeal.nD Cert.ScanMapsIdeal.τ).loc Cert.ScanMapsIdeal.main_v10_3)),
      θ_run (Cert.ScanMapsIdeal.defs (F := Ideal)) (onTc (τ := Cert.ScanMapsIdeal.τ) (Cert.ScanMapsIdeal.main (F := Ideal))) ⟨m, fun _ => 0, g⟩ (fun r => ∀ c : Dev Cert.ScanMapsIdeal.nD,
          r.2.mem ((c.tc : Thread Cert.ScanMapsIdeal.nD Cert.ScanMapsIdeal.τ).loc Cert.ScanMapsIdeal.main_v10_2) = v0 c
          ∧ r.2.mem ((c.tc : Thread Cert.ScanMapsIdeal.nD Cert.ScanMapsIdeal.τ).loc Cert.ScanMapsIdeal.main_v10_3) = v1 c
          ∧ r.2.mem ((c.tc : Thread Cert.ScanMapsIdeal.nD Cert.ScanMapsIdeal.τ).loc Cert.ScanMapsIdeal.main_arg0) = m ((c.tc : Thread Cert.ScanMapsIdeal.nD Cert.ScanMapsIdeal.τ).loc Cert.ScanMapsIdeal.main_arg0)
          ∧ r.2.mem ((c.tc : Thread Cert.ScanMapsIdeal.nD Cert.ScanMapsIdeal.τ).loc Cert.ScanMapsIdeal.main_arg1) = m ((c.tc : Thread Cert.ScanMapsIdeal.nD Cert.ScanMapsIdeal.τ).loc Cert.ScanMapsIdeal.main_arg1)
          ∧ r.2.mem ((c.tc : Thread Cert.ScanMapsIdeal.nD Cert.ScanMapsIdeal.τ).loc Cert.ScanMapsIdeal.main_arg2) = m ((c.tc : Thread Cert.ScanMapsIdeal.nD Cert.ScanMapsIdeal.τ).loc Cert.ScanMapsIdeal.main_arg2)
          ∧ r.2.mem ((c.tc : Thread Cert.ScanMapsIdeal.nD Cert.ScanMapsIdeal.τ).loc Cert.ScanMapsIdeal.main_arg3) = m ((c.tc : Thread Cert.ScanMapsIdeal.nD Cert.ScanMapsIdeal.τ).loc Cert.ScanMapsIdeal.main_arg3)
          ∧ r.2.mem ((c.tc : Thread Cert.ScanMapsIdeal.nD Cert.ScanMapsIdeal.τ).loc Cert.ScanMapsIdeal.main_arg4) = m ((c.tc : Thread Cert.ScanMapsIdeal.nD Cert.ScanMapsIdeal.τ).loc Cert.ScanMapsIdeal.main_arg4))
      ∧ θ_run (Cert.ScanMapsReferenceIdeal.defs (F := Ideal)) (onTc (τ := Cert.ScanMapsReferenceIdeal.τ) (Cert.ScanMapsReferenceIdeal.main (F := Ideal))) ⟨m', fun _ => 0, g'⟩ (fun r => ∀ c : Dev Cert.ScanMapsReferenceIdeal.nD,
          r.2.mem ((c.tc : Thread Cert.ScanMapsReferenceIdeal.nD Cert.ScanMapsReferenceIdeal.τ).loc Cert.ScanMapsReferenceIdeal.main_v39) = v0 c
          ∧ r.2.mem ((c.tc : Thread Cert.ScanMapsReferenceIdeal.nD Cert.ScanMapsReferenceIdeal.τ).loc Cert.ScanMapsReferenceIdeal.main_v41) = v1 c
          ∧ r.2.mem ((c.tc : Thread Cert.ScanMapsReferenceIdeal.nD Cert.ScanMapsReferenceIdeal.τ).loc Cert.ScanMapsReferenceIdeal.main_arg0) = m' ((c.tc : Thread Cert.ScanMapsReferenceIdeal.nD Cert.ScanMapsReferenceIdeal.τ).loc Cert.ScanMapsReferenceIdeal.main_arg0)
          ∧ r.2.mem ((c.tc : Thread Cert.ScanMapsReferenceIdeal.nD Cert.ScanMapsReferenceIdeal.τ).loc Cert.ScanMapsReferenceIdeal.main_arg1) = m' ((c.tc : Thread Cert.ScanMapsReferenceIdeal.nD Cert.ScanMapsReferenceIdeal.τ).loc Cert.ScanMapsReferenceIdeal.main_arg1)
          ∧ r.2.mem ((c.tc : Thread Cert.ScanMapsReferenceIdeal.nD Cert.ScanMapsReferenceIdeal.τ).loc Cert.ScanMapsReferenceIdeal.main_arg2) = m' ((c.tc : Thread Cert.ScanMapsReferenceIdeal.nD Cert.ScanMapsReferenceIdeal.τ).loc Cert.ScanMapsReferenceIdeal.main_arg2)
          ∧ r.2.mem ((c.tc : Thread Cert.ScanMapsReferenceIdeal.nD Cert.ScanMapsReferenceIdeal.τ).loc Cert.ScanMapsReferenceIdeal.main_arg3) = m' ((c.tc : Thread Cert.ScanMapsReferenceIdeal.nD Cert.ScanMapsReferenceIdeal.τ).loc Cert.ScanMapsReferenceIdeal.main_arg3)
          ∧ r.2.mem ((c.tc : Thread Cert.ScanMapsReferenceIdeal.nD Cert.ScanMapsReferenceIdeal.τ).loc Cert.ScanMapsReferenceIdeal.main_arg4) = m' ((c.tc : Thread Cert.ScanMapsReferenceIdeal.nD Cert.ScanMapsReferenceIdeal.τ).loc Cert.ScanMapsReferenceIdeal.main_arg4))

def Claim : Prop :=
  ∃ (hKernel : Cert.Kernel.Facts) (hKernelIdeal : Cert.KernelIdeal.Facts) (hReferenceIdeal : Cert.ReferenceIdeal.Facts) (hFfnUp : Cert.FfnUp.Facts) (hFfnUpIdeal : Cert.FfnUpIdeal.Facts) (hFfnUpReferenceIdeal : Cert.FfnUpReferenceIdeal.Facts) (hFfnDown : Cert.FfnDown.Facts) (hFfnDownIdeal : Cert.FfnDownIdeal.Facts) (hFfnDownReferenceIdeal : Cert.FfnDownReferenceIdeal.Facts) (hFinalNorm : Cert.FinalNorm.Facts) (hFinalNormIdeal : Cert.FinalNormIdeal.Facts) (hFinalNormReferenceIdeal : Cert.FinalNormReferenceIdeal.Facts) (hOddIn : Cert.OddIn.Facts) (hOddInIdeal : Cert.OddInIdeal.Facts) (hOddInReferenceIdeal : Cert.OddInReferenceIdeal.Facts) (hMixOut : Cert.MixOut.Facts) (hMixOutIdeal : Cert.MixOutIdeal.Facts) (hMixOutReferenceIdeal : Cert.MixOutReferenceIdeal.Facts) (hOddTail : Cert.OddTail.Facts) (hOddTailIdeal : Cert.OddTailIdeal.Facts) (hOddTailReferenceIdeal : Cert.OddTailReferenceIdeal.Facts) (hEvenIn : Cert.EvenIn.Facts) (hEvenInIdeal : Cert.EvenInIdeal.Facts) (hEvenInReferenceIdeal : Cert.EvenInReferenceIdeal.Facts) (hEvenTail : Cert.EvenTail.Facts) (hEvenTailIdeal : Cert.EvenTailIdeal.Facts) (hEvenTailReferenceIdeal : Cert.EvenTailReferenceIdeal.Facts) (hScanGate : Cert.ScanGate.Facts) (hScanGateIdeal : Cert.ScanGateIdeal.Facts) (hScanGateReferenceIdeal : Cert.ScanGateReferenceIdeal.Facts) (hRope : Cert.Rope.Facts) (hRopeIdeal : Cert.RopeIdeal.Facts) (hRopeReferenceIdeal : Cert.RopeReferenceIdeal.Facts) (hLayerNorm : Cert.LayerNorm.Facts) (hLayerNormIdeal : Cert.LayerNormIdeal.Facts) (hLayerNormReferenceIdeal : Cert.LayerNormReferenceIdeal.Facts) (hScanMaps : Cert.ScanMaps.Facts) (hScanMapsIdeal : Cert.ScanMapsIdeal.Facts) (hScanMapsReferenceIdeal : Cert.ScanMapsReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnUp (hFfnUp := hFfnUp)
    ∧ quiescent_FfnUpIdeal (hFfnUpIdeal := hFfnUpIdeal)
    ∧ quiescent_FfnUpReferenceIdeal (hFfnUpReferenceIdeal := hFfnUpReferenceIdeal)
    ∧ quiescent_FfnDown (hFfnDown := hFfnDown)
    ∧ quiescent_FfnDownIdeal (hFfnDownIdeal := hFfnDownIdeal)
    ∧ quiescent_FfnDownReferenceIdeal (hFfnDownReferenceIdeal := hFfnDownReferenceIdeal)
    ∧ quiescent_FinalNorm (hFinalNorm := hFinalNorm)
    ∧ quiescent_FinalNormIdeal (hFinalNormIdeal := hFinalNormIdeal)
    ∧ quiescent_FinalNormReferenceIdeal (hFinalNormReferenceIdeal := hFinalNormReferenceIdeal)
    ∧ quiescent_OddIn (hOddIn := hOddIn)
    ∧ quiescent_OddInIdeal (hOddInIdeal := hOddInIdeal)
    ∧ quiescent_OddInReferenceIdeal (hOddInReferenceIdeal := hOddInReferenceIdeal)
    ∧ quiescent_MixOut (hMixOut := hMixOut)
    ∧ quiescent_MixOutIdeal (hMixOutIdeal := hMixOutIdeal)
    ∧ quiescent_MixOutReferenceIdeal (hMixOutReferenceIdeal := hMixOutReferenceIdeal)
    ∧ quiescent_OddTail (hOddTail := hOddTail)
    ∧ quiescent_OddTailIdeal (hOddTailIdeal := hOddTailIdeal)
    ∧ quiescent_OddTailReferenceIdeal (hOddTailReferenceIdeal := hOddTailReferenceIdeal)
    ∧ quiescent_EvenIn (hEvenIn := hEvenIn)
    ∧ quiescent_EvenInIdeal (hEvenInIdeal := hEvenInIdeal)
    ∧ quiescent_EvenInReferenceIdeal (hEvenInReferenceIdeal := hEvenInReferenceIdeal)
    ∧ quiescent_EvenTail (hEvenTail := hEvenTail)
    ∧ quiescent_EvenTailIdeal (hEvenTailIdeal := hEvenTailIdeal)
    ∧ quiescent_EvenTailReferenceIdeal (hEvenTailReferenceIdeal := hEvenTailReferenceIdeal)
    ∧ quiescent_ScanGate (hScanGate := hScanGate)
    ∧ quiescent_ScanGateIdeal (hScanGateIdeal := hScanGateIdeal)
    ∧ quiescent_ScanGateReferenceIdeal (hScanGateReferenceIdeal := hScanGateReferenceIdeal)
    ∧ quiescent_Rope (hRope := hRope)
    ∧ quiescent_RopeIdeal (hRopeIdeal := hRopeIdeal)
    ∧ quiescent_RopeReferenceIdeal (hRopeReferenceIdeal := hRopeReferenceIdeal)
    ∧ quiescent_LayerNorm (hLayerNorm := hLayerNorm)
    ∧ quiescent_LayerNormIdeal (hLayerNormIdeal := hLayerNormIdeal)
    ∧ quiescent_LayerNormReferenceIdeal (hLayerNormReferenceIdeal := hLayerNormReferenceIdeal)
    ∧ quiescent_ScanMaps (hScanMaps := hScanMaps)
    ∧ quiescent_ScanMapsIdeal (hScanMapsIdeal := hScanMapsIdeal)
    ∧ quiescent_ScanMapsReferenceIdeal (hScanMapsReferenceIdeal := hScanMapsReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnUp_FfnUpIdeal
    ∧ algebraic_FfnUpIdeal_FfnUpReferenceIdeal (hFfnUpIdeal := hFfnUpIdeal) (hFfnUpReferenceIdeal := hFfnUpReferenceIdeal)
    ∧ preserves_FfnDown_FfnDownIdeal
    ∧ algebraic_FfnDownIdeal_FfnDownReferenceIdeal (hFfnDownIdeal := hFfnDownIdeal) (hFfnDownReferenceIdeal := hFfnDownReferenceIdeal)
    ∧ preserves_FinalNorm_FinalNormIdeal
    ∧ algebraic_FinalNormIdeal_FinalNormReferenceIdeal (hFinalNormIdeal := hFinalNormIdeal) (hFinalNormReferenceIdeal := hFinalNormReferenceIdeal)
    ∧ preserves_OddIn_OddInIdeal
    ∧ algebraic_OddInIdeal_OddInReferenceIdeal (hOddInIdeal := hOddInIdeal) (hOddInReferenceIdeal := hOddInReferenceIdeal)
    ∧ preserves_MixOut_MixOutIdeal
    ∧ algebraic_MixOutIdeal_MixOutReferenceIdeal (hMixOutIdeal := hMixOutIdeal) (hMixOutReferenceIdeal := hMixOutReferenceIdeal)
    ∧ preserves_OddTail_OddTailIdeal
    ∧ algebraic_OddTailIdeal_OddTailReferenceIdeal (hOddTailIdeal := hOddTailIdeal) (hOddTailReferenceIdeal := hOddTailReferenceIdeal)
    ∧ preserves_EvenIn_EvenInIdeal
    ∧ algebraic_EvenInIdeal_EvenInReferenceIdeal (hEvenInIdeal := hEvenInIdeal) (hEvenInReferenceIdeal := hEvenInReferenceIdeal)
    ∧ preserves_EvenTail_EvenTailIdeal
    ∧ algebraic_EvenTailIdeal_EvenTailReferenceIdeal (hEvenTailIdeal := hEvenTailIdeal) (hEvenTailReferenceIdeal := hEvenTailReferenceIdeal)
    ∧ preserves_ScanGate_ScanGateIdeal
    ∧ algebraic_ScanGateIdeal_ScanGateReferenceIdeal (hScanGateIdeal := hScanGateIdeal) (hScanGateReferenceIdeal := hScanGateReferenceIdeal)
    ∧ preserves_Rope_RopeIdeal
    ∧ algebraic_RopeIdeal_RopeReferenceIdeal (hRopeIdeal := hRopeIdeal) (hRopeReferenceIdeal := hRopeReferenceIdeal)
    ∧ preserves_LayerNorm_LayerNormIdeal
    ∧ algebraic_LayerNormIdeal_LayerNormReferenceIdeal (hLayerNormIdeal := hLayerNormIdeal) (hLayerNormReferenceIdeal := hLayerNormReferenceIdeal)
    ∧ preserves_ScanMaps_ScanMapsIdeal
    ∧ algebraic_ScanMapsIdeal_ScanMapsReferenceIdeal (hScanMapsIdeal := hScanMapsIdeal) (hScanMapsReferenceIdeal := hScanMapsReferenceIdeal)
-- ==== Pre_finite.lean ====
abbrev S4x2048x512 : Shape := ⟨3, ![4, 2048, 512]⟩
abbrev S4x2048x1024 : Shape := ⟨3, ![4, 2048, 1024]⟩
abbrev S2048x64 : Shape := ⟨2, ![2048, 64]⟩
abbrev S_ : Shape := ⟨0, ![]⟩

class Facts : Prop where
  bcast_S_S4x2048x512 : S_.BroadcastsInDim S4x2048x512 (![] : Fin 0 → Fin S4x2048x512.rank)
  bcast_S_S4x2048x1024 : S_.BroadcastsInDim S4x2048x1024 (![] : Fin 0 → Fin S4x2048x1024.rank)
  bcast_S_S2048x64 : S_.BroadcastsInDim S2048x64 (![] : Fin 0 → Fin S2048x64.rank)

variable [Facts]

def fn {F : FTy → Type} [FloatOps F] (main_arg0 : FVec F S4x2048x512 .f32) (main_arg1 : FVec F S4x2048x512 .f32) (main_arg2 : FVec F S4x2048x1024 .f32) (main_arg3 : FVec F S4x2048x1024 .f32) (main_arg4 : FVec F S2048x64 .f32) (main_arg5 : FVec F S2048x64 .f32) : IVec S4x2048x512 1 × IVec S4x2048x512 1 × IVec S4x2048x1024 1 × IVec S2048x64 1 × IVec S2048x64 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_v3 : FVec F S4x2048x512 .f32 := Host.absf main_arg1
  let main_cst_0 : FVec F S_ .f32 := constant S_ .f32 0x7F800000#32
  let main_v4 : FVec F S4x2048x512 .f32 := broadcastInDim S4x2048x512 ![] bcast_S_S4x2048x512 main_cst_0
  let main_v5 : IVec S4x2048x512 1 := cmpf .olt main_v3 main_v4
  let main_v6 : FVec F S4x2048x1024 .f32 := Host.absf main_arg2
  let main_cst_1 : FVec F S_ .f32 := constant S_ .f32 0x7F800000#32
  let main_v7 : FVec F S4x2048x1024 .f32 := broadcastInDim S4x2048x1024 ![] bcast_S_S4x2048x1024 main_cst_1
  let main_v8 : IVec S4x2048x1024 1 := cmpf .olt main_v6 main_v7
  let main_v9 : FVec F S2048x64 .f32 := Host.absf main_arg4
  let main_cst_2 : FVec F S_ .f32 := constant S_ .f32 0x7F800000#32
  let main_v10 : FVec F S2048x64 .f32 := broadcastInDim S2048x64 ![] bcast_S_S2048x64 main_cst_2
  let main_v11 : IVec S2048x64 1 := cmpf .olt main_v9 main_v10
  let main_v12 : FVec F S2048x64 .f32 := Host.absf main_arg5
  let main_cst_3 : FVec F S_ .f32 := constant S_ .f32 0x7F800000#32
  let main_v13 : FVec F S2048x64 .f32 := broadcastInDim S2048x64 ![] bcast_S_S2048x64 main_cst_3
  let main_v14 : IVec S2048x64 1 := cmpf .olt main_v12 main_v13
  (main_v2, main_v5, main_v8, main_v11, main_v14)
-- ==== Kernel.lean ====
abbrev S4x2048x512 : Shape := ⟨3, ![4, 2048, 512]⟩
abbrev S4x2048x1024 : Shape := ⟨3, ![4, 2048, 1024]⟩
abbrev S2048x64 : Shape := ⟨2, ![2048, 64]⟩
abbrev S_ : Shape := ⟨0, ![]⟩
abbrev S4x2048x384 : Shape := ⟨3, ![4, 2048, 384]⟩
abbrev S4x2048x3456 : Shape := ⟨3, ![4, 2048, 3456]⟩
abbrev S2048x128 : Shape := ⟨2, ![2048, 128]⟩
abbrev S1x256x512 : Shape := ⟨3, ![1, 256, 512]⟩
abbrev S1x256x1024 : Shape := ⟨3, ![1, 256, 1024]⟩
abbrev S256x128 : Shape := ⟨2, ![256, 128]⟩
abbrev S4x128x256 : Shape := ⟨3, ![4, 128, 256]⟩
abbrev S256x256 : Shape := ⟨2, ![256, 256]⟩
abbrev S256x1 : Shape := ⟨2, ![256, 1]⟩
abbrev S1x256x128 : Shape := ⟨3, ![1, 256, 128]⟩
abbrev S1x256x256 : Shape := ⟨3, ![1, 256, 256]⟩
abbrev S1x128x256 : Shape := ⟨3, ![1, 128, 256]⟩
abbrev S128x256 : Shape := ⟨2, ![128, 256]⟩
abbrev S256 : Shape := ⟨1, ![256]⟩

abbrev nBuf : Space → Nat
  | .hbm => 13
  | .vmem => 15
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x1024, .f32⟩
  | .hbm, ⟨3, _⟩ => ⟨S4x2048x1024, .f32⟩
  | .hbm, ⟨4, _⟩ => ⟨S2048x64, .f32⟩
  | .hbm, ⟨5, _⟩ => ⟨S2048x64, .f32⟩
  | .hbm, ⟨6, _⟩ => ⟨S_, .f32⟩
  | .hbm, ⟨7, _⟩ => ⟨S4x2048x384, .f32⟩
  | .hbm, ⟨8, _⟩ => ⟨S4x2048x3456, .f32⟩
  | .hbm, ⟨9, _⟩ => ⟨S2048x128, .f32⟩
  | .hbm, ⟨10, _⟩ => ⟨S2048x64, .f32⟩
  | .hbm, ⟨11, _⟩ => ⟨S2048x128, .f32⟩
  | .hbm, ⟨12, _⟩ => ⟨S4x2048x1024, .bf16⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S1x256x1024, .bf16⟩
  | .local _ .vmem, ⟨13, _⟩ => ⟨S1x256x1024, .bf16⟩
  | .local _ .vmem, ⟨14, _⟩ => ⟨S4x128x256, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "gamma0_c" => some ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  | "gamma1_c" => some ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  | "gamma2_c" => some ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  | "gamma3_c" => some ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)
  | "log_g0" => some ((Real.log (31 / 32) : ℝ) : EReal)
  | "log_g1" => some ((Real.log (63 / 64) : ℝ) : EReal)
  | "log_g2" => some ((Real.log (127 / 128) : ℝ) : EReal)
  | "log_g3" => some ((Real.log (255 / 256) : ℝ) : EReal)
  | _ => none
-- ==== ReferenceIdeal.lean ====
abbrev S4x2048x512 : Shape := ⟨3, ![4, 2048, 512]⟩
abbrev S4x2048x1024 : Shape := ⟨3, ![4, 2048, 1024]⟩
abbrev S2048x64 : Shape := ⟨2, ![2048, 64]⟩
abbrev S4x2048x4x128 : Shape := ⟨4, ![4, 2048, 4, 128]⟩
abbrev S4x2048x4x256 : Shape := ⟨4, ![4, 2048, 4, 256]⟩
abbrev S1x2048x1x64 : Shape := ⟨4, ![1, 2048, 1, 64]⟩
abbrev S4x2048x4x64 : Shape := ⟨4, ![4, 2048, 4, 64]⟩
abbrev S_ : Shape := ⟨0, ![]⟩
abbrev S4 : Shape := ⟨1, ![4]⟩
abbrev S4x16x128x4x128 : Shape := ⟨5, ![4, 16, 128, 4, 128]⟩
abbrev S4x16x4x128x128 : Shape := ⟨5, ![4, 16, 4, 128, 128]⟩
abbrev S4x16x128x4x256 : Shape := ⟨5, ![4, 16, 128, 4, 256]⟩
abbrev S4x16x4x128x256 : Shape := ⟨5, ![4, 16, 4, 128, 256]⟩
abbrev S128 : Shape := ⟨1, ![128]⟩
abbrev S128x128 : Shape := ⟨2, ![128, 128]⟩
abbrev S4x1x1 : Shape := ⟨3, ![4, 1, 1]⟩
abbrev S128x1 : Shape := ⟨2, ![128, 1]⟩
abbrev S1x128 : Shape := ⟨2, ![1, 128]⟩
abbrev S1x128x128 : Shape := ⟨3, ![1, 128, 128]⟩
abbrev S4x128x128 : Shape := ⟨3, ![4, 128, 128]⟩
abbrev S1x1x4x128x128 : Shape := ⟨5, ![1, 1, 4, 128, 128]⟩
abbrev S4x1 : Shape := ⟨2, ![4, 1]⟩
abbrev S4x128 : Shape := ⟨2, ![4, 128]⟩
abbrev S4x128x1 : Shape := ⟨3, ![4, 128, 1]⟩
abbrev S1x1x4x128x1 : Shape := ⟨5, ![1, 1, 4, 128, 1]⟩
abbrev S1x4x1x1 : Shape := ⟨4, ![1, 4, 1, 1]⟩
abbrev S16x4x4x128x128 : Shape := ⟨5, ![16, 4, 4, 128, 128]⟩
abbrev S16x4x4x128x256 : Shape := ⟨5, ![16, 4, 4, 128, 256]⟩
abbrev S4x4x128x256 : Shape := ⟨4, ![4, 4, 128, 256]⟩
abbrev S1x4x4x128x128 : Shape := ⟨5, ![1, 4, 4, 128, 128]⟩
abbrev S4x4x128x128 : Shape := ⟨4, ![4, 4, 128, 128]⟩
abbrev S1x4x4x128x256 : Shape := ⟨5, ![1, 4, 4, 128, 256]⟩
abbrev S4x2048x4 : Shape := ⟨3, ![4, 2048, 4]⟩
abbrev S4x2048x4x1 : Shape := ⟨4, ![4, 2048, 4, 1]⟩

abbrev nBuf : Space → Nat
  | .hbm => 198
  | .vmem => 0
  | .smem => 0
  | _ => 0

abbrev hbmTy0_0 (i : Nat) : BufTy := match i % 128 with
  | 0 => ⟨S4x2048x512, .f32⟩
  | 1 => ⟨S4x2048x512, .f32⟩
  | 2 => ⟨S4x2048x1024, .f32⟩
  | 3 => ⟨S4x2048x1024, .f32⟩
  | 4 => ⟨S2048x64, .f32⟩
  | 5 => ⟨S2048x64, .f32⟩
  | 6 => ⟨S4x2048x4x128, .f32⟩
  | 7 => ⟨S4x2048x4x128, .f32⟩
  | 8 => ⟨S4x2048x4x256, .f32⟩
  | 9 => ⟨S1x2048x1x64, .f32⟩
  | 10 => ⟨S1x2048x1x64, .f32⟩
  | 11 => ⟨S4x2048x4x64, .f32⟩
  | 12 => ⟨S4x2048x4x64, .f32⟩
  | 13 => ⟨S4x2048x4x64, .f32⟩
  | 14 => ⟨S4x2048x4x64, .f32⟩
  | 15 => ⟨S4x2048x4x64, .f32⟩
  | 16 => ⟨S4x2048x4x64, .f32⟩
  | 17 => ⟨S4x2048x4x64, .f32⟩
  | 18 => ⟨S4x2048x4x64, .f32⟩
  | 19 => ⟨S4x2048x4x64, .f32⟩
  | 20 => ⟨S4x2048x4x64, .f32⟩
  | 21 => ⟨S4x2048x4x64, .f32⟩
  | 22 => ⟨S4x2048x4x64, .f32⟩
  | 23 => ⟨S4x2048x4x128, .f32⟩
  | 24 => ⟨S4x2048x4x64, .f32⟩
  | 25 => ⟨S4x2048x4x64, .f32⟩
  | 26 => ⟨S4x2048x4x64, .f32⟩
  | 27 => ⟨S4x2048x4x64, .f32⟩
  | 28 => ⟨S4x2048x4x64, .f32⟩
  | 29 => ⟨S4x2048x4x64, .f32⟩
  | 30 => ⟨S4x2048x4x64, .f32⟩
  | 31 => ⟨S4x2048x4x64, .f32⟩
  | 32 => ⟨S4x2048x4x64, .f32⟩
  | 33 => ⟨S4x2048x4x64, .f32⟩
  | 34 => ⟨S4x2048x4x64, .f32⟩
  | 35 => ⟨S4x2048x4x64, .f32⟩
  | 36 => ⟨S4x2048x4x128, .f32⟩
  | 37 => ⟨S_, .f32⟩
  | 38 => ⟨S4x2048x4x128, .f32⟩
  | 39 => ⟨S4x2048x4x128, .f32⟩
  | 40 => ⟨S4, .f32⟩
  | 41 => ⟨S_, .f32⟩
  | 42 => ⟨S4, .f32⟩
  | 43 => ⟨S4, .f32⟩
  | 44 => ⟨S_, .f32⟩
  | 45 => ⟨S4, .f32⟩
  | 46 => ⟨S4, .f32⟩
  | 47 => ⟨S_, .f32⟩
  | 48 => ⟨S4, .f32⟩
  | 49 => ⟨S4, .f32⟩
  | 50 => ⟨S4, .f32⟩
  | 51 => ⟨S4x16x128x4x128, .f32⟩
  | 52 => ⟨S4x16x4x128x128, .f32⟩
  | 53 => ⟨S4x16x128x4x128, .f32⟩
  | 54 => ⟨S4x16x4x128x128, .f32⟩
  | 55 => ⟨S4x16x128x4x256, .f32⟩
  | 56 => ⟨S4x16x4x128x256, .f32⟩
  | 57 => ⟨S128, .f32⟩
  | 58 => ⟨S_, .i1⟩
  | 59 => ⟨S128x128, .i1⟩
  | 60 => ⟨S128x128, .i32⟩
  | 61 => ⟨S_, .i32⟩
  | 62 => ⟨S128x128, .i32⟩
  | 63 => ⟨S128x128, .i32⟩
  | 64 => ⟨S128x128, .i32⟩
  | 65 => ⟨S128x128, .i1⟩
  | 66 => ⟨S_, .i1⟩
  | 67 => ⟨S128x128, .i1⟩
  | 68 => ⟨S128x128, .i1⟩
  | 69 => ⟨S4x1x1, .f32⟩
  | 70 => ⟨S128x1, .f32⟩
  | 71 => ⟨S1x128, .f32⟩
  | 72 => ⟨S128x128, .f32⟩
  | 73 => ⟨S128x128, .f32⟩
  | 74 => ⟨S128x128, .f32⟩
  | 75 => ⟨S1x128x128, .f32⟩
  | 76 => ⟨S4x128x128, .f32⟩
  | 77 => ⟨S4x128x128, .f32⟩
  | 78 => ⟨S4x128x128, .f32⟩
  | 79 => ⟨S_, .f32⟩
  | 80 => ⟨S_, .f32⟩
  | 81 => ⟨S4x128x128, .i1⟩
  | 82 => ⟨S4x128x128, .f32⟩
  | 83 => ⟨S4x128x128, .f32⟩
  | 84 => ⟨S4x128x128, .f32⟩
  | 85 => ⟨S4x16x4x128x128, .f32⟩
  | 86 => ⟨S1x1x4x128x128, .f32⟩
  | 87 => ⟨S4x16x4x128x128, .f32⟩
  | 88 => ⟨S4x16x4x128x128, .f32⟩
  | 89 => ⟨S4x16x4x128x256, .f32⟩
  | 90 => ⟨S4x1, .f32⟩
  | 91 => ⟨S_, .f32⟩
  | 92 => ⟨S128, .f32⟩
  | 93 => ⟨S128, .f32⟩
  | 94 => ⟨S1x128, .f32⟩
  | 95 => ⟨S4x128, .f32⟩
  | 96 => ⟨S4x128, .f32⟩
  | 97 => ⟨S4x128, .f32⟩
  | 98 => ⟨S4x128, .f32⟩
  | 99 => ⟨S4x128x1, .f32⟩
  | 100 => ⟨S1x1x4x128x1, .f32⟩
  | 101 => ⟨S4x16x4x128x128, .f32⟩
  | 102 => ⟨S4x16x4x128x128, .f32⟩
  | 103 => ⟨S4x1, .f32⟩
  | 104 => ⟨S_, .f32⟩
  | 105 => ⟨S128, .f32⟩
  | 106 => ⟨S128, .f32⟩
  | 107 => ⟨S1x128, .f32⟩
  | 108 => ⟨S4x128, .f32⟩
  | 109 => ⟨S4x128, .f32⟩
  | 110 => ⟨S4x128, .f32⟩
  | 111 => ⟨S4x128, .f32⟩
  | 112 => ⟨S4x128x1, .f32⟩
  | 113 => ⟨S1x1x4x128x1, .f32⟩
  | 114 => ⟨S4x16x4x128x128, .f32⟩
  | 115 => ⟨S4x16x4x128x128, .f32⟩
  | 116 => ⟨S_, .f32⟩
  | 117 => ⟨S4, .f32⟩
  | 118 => ⟨S4, .f32⟩
  | 119 => ⟨S4, .f32⟩
  | 120 => ⟨S1x4x1x1, .f32⟩
  | 121 => ⟨S16x4x4x128x128, .f32⟩
  | 122 => ⟨S16x4x4x128x128, .f32⟩
  | 123 => ⟨S16x4x4x128x256, .f32⟩
  | 124 => ⟨S_, .f32⟩
  | 125 => ⟨S4x4x128x256, .f32⟩
  | 126 => ⟨S_, .f32⟩
  | 127 => ⟨S16x4x4x128x256, .f32⟩
  | _ => ⟨S4x2048x512, .f32⟩

abbrev hbmTy0_1 (i : Nat) : BufTy := match i % 128 with
  | 0 => ⟨S_, .i32⟩
  | 1 => ⟨S16x4x4x128x128, .f32⟩
  | 2 => ⟨S16x4x4x128x128, .f32⟩
  | 3 => ⟨S16x4x4x128x256, .f32⟩
  | 4 => ⟨S1x4x1x1, .f32⟩
  | 5 => ⟨S_, .i32⟩
  | 6 => ⟨S4x4x128x256, .f32⟩
  | 7 => ⟨S16x4x4x128x256, .f32⟩
  | 8 => ⟨S_, .i32⟩
  | 9 => ⟨S_, .i1⟩
  | 10 => ⟨S_, .i32⟩
  | 11 => ⟨S_, .i32⟩
  | 12 => ⟨S_, .i32⟩
  | 13 => ⟨S_, .i32⟩
  | 14 => ⟨S1x4x4x128x128, .f32⟩
  | 15 => ⟨S4x4x128x128, .f32⟩
  | 16 => ⟨S_, .i32⟩
  | 17 => ⟨S_, .i32⟩
  | 18 => ⟨S_, .i32⟩
  | 19 => ⟨S_, .i32⟩
  | 20 => ⟨S1x4x4x128x128, .f32⟩
  | 21 => ⟨S4x4x128x128, .f32⟩
  | 22 => ⟨S_, .i32⟩
  | 23 => ⟨S_, .i32⟩
  | 24 => ⟨S_, .i32⟩
  | 25 => ⟨S_, .i32⟩
  | 26 => ⟨S1x4x4x128x256, .f32⟩
  | 27 => ⟨S4x4x128x256, .f32⟩
  | 28 => ⟨S4x4x128x256, .f32⟩
  | 29 => ⟨S4x4x128x256, .f32⟩
  | 30 => ⟨S4x4x128x256, .f32⟩
  | 31 => ⟨S4x4x128x256, .f32⟩
  | 32 => ⟨S4x4x128x256, .f32⟩
  | 33 => ⟨S1x4x4x128x256, .f32⟩
  | 34 => ⟨S_, .i32⟩
  | 35 => ⟨S_, .i32⟩
  | 36 => ⟨S_, .i32⟩
  | 37 => ⟨S_, .i32⟩
  | 38 => ⟨S16x4x4x128x256, .f32⟩
  | 39 => ⟨S_, .i32⟩
  | 40 => ⟨S_, .i32⟩
  | 41 => ⟨S4x16x4x128x256, .f32⟩
  | 42 => ⟨S4x16x4x128x256, .f32⟩
  | 43 => ⟨S4x16x128x4x256, .f32⟩
  | 44 => ⟨S4x2048x4x256, .f32⟩
  | 45 => ⟨S4x2048x4x256, .f32⟩
  | 46 => ⟨S_, .f32⟩
  | 47 => ⟨S4x2048x4, .f32⟩
  | 48 => ⟨S4x2048x4x1, .f32⟩
  | 49 => ⟨S_, .f32⟩
  | 50 => ⟨S4x2048x4x1, .f32⟩
  | 51 => ⟨S4x2048x4x1, .f32⟩
  | 52 => ⟨S_, .f32⟩
  | 53 => ⟨S4x2048x4x1, .f32⟩
  | 54 => ⟨S4x2048x4x1, .f32⟩
  | 55 => ⟨S4x2048x4x1, .f32⟩
  | 56 => ⟨S4x2048x4x256, .f32⟩
  | 57 => ⟨S4x2048x4x256, .f32⟩
  | 58 => ⟨S4x2048x1024, .f32⟩
  | 59 => ⟨S4x2048x1024, .f32⟩
  | 60 => ⟨S4x2048x1024, .f32⟩
  | 61 => ⟨S_, .f32⟩
  | 62 => ⟨S4x2048x1024, .f32⟩
  | 63 => ⟨S4x2048x1024, .f32⟩
  | 64 => ⟨S_, .f32⟩
  | 65 => ⟨S4x2048x1024, .f32⟩
  | 66 => ⟨S4x2048x1024, .f32⟩
  | 67 => ⟨S4x2048x1024, .f32⟩
  | 68 => ⟨S4x2048x1024, .f32⟩
  | 69 => ⟨S4x2048x1024, .bf16⟩
  | _ => ⟨S4x2048x512, .f32⟩

abbrev hbmTy (i : Nat) : BufTy := match i / 128 with
  | 0 => hbmTy0_0 i
  | 1 => hbmTy0_1 i
  | _ => ⟨S4x2048x512, .f32⟩

abbrev bufTy : (tb : Table) → Fin (tcTables nBuf tb) → BufTy
  | .hbm, ⟨i, _⟩ => hbmTy i
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_0 : Ref sig .tc := ⟨.hbm, 41, rfl⟩
abbrev main_v34 : Ref sig .tc := ⟨.hbm, 42, rfl⟩
abbrev main_v35 : Ref sig .tc := ⟨.hbm, 43, rfl⟩
abbrev main_cst_1 : Ref sig .tc := ⟨.hbm, 44, rfl⟩
abbrev main_v36 : Ref sig .tc := ⟨.hbm, 45, rfl⟩
abbrev main_v37 : Ref sig .tc := ⟨.hbm, 46, rfl⟩
abbrev main_cst_2 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_c : Ref sig .tc := ⟨.hbm, 58, rfl⟩
abbrev main_v48 : Ref sig .tc := ⟨.hbm, 59, rfl⟩
abbrev main_call0_v0 : Ref sig .tc := ⟨.hbm, 60, rfl⟩
abbrev main_call0_c : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_c_0 : Ref sig .tc := ⟨.hbm, 66, rfl⟩
abbrev main_call0_v5 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_3 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_4 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_5 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_6 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_cst_7 : Ref sig .tc := ⟨.hbm, 124, rfl⟩
abbrev main_v98 : Ref sig .tc := ⟨.hbm, 125, rfl⟩
abbrev main_cst_8 : Ref sig .tc := ⟨.hbm, 126, rfl⟩
abbrev main_v99 : Ref sig .tc := ⟨.hbm, 127, rfl⟩
abbrev main_c_9 : Ref sig .tc := ⟨.hbm, 128, rfl⟩
abbrev main_v100_0 : Ref sig .tc := ⟨.hbm, 129, rfl⟩
abbrev main_v100_1 : Ref sig .tc := ⟨.hbm, 130, rfl⟩
abbrev main_v100_2 : Ref sig .tc := ⟨.hbm, 131, rfl⟩
abbrev main_v100_3 : Ref sig .tc := ⟨.hbm, 132, rfl⟩
abbrev main_v100_4 : Ref sig .tc := ⟨.hbm, 133, rfl⟩
abbrev main_v100_5 : Ref sig .tc := ⟨.hbm, 134, rfl⟩
abbrev main_v100_6 : Ref sig .tc := ⟨.hbm, 135, rfl⟩
abbrev main_while0c_c_19 : Ref sig .tc := ⟨.hbm, 136, rfl⟩
abbrev main_while0c_v119 : Ref sig .tc := ⟨.hbm, 137, rfl⟩
abbrev main_while0b_call2_c : Ref sig .tc := ⟨.hbm, 138, rfl⟩
abbrev main_while0b_call2_c_0 : Ref sig .tc := ⟨.hbm, 139, rfl⟩
abbrev main_while0b_call2_c_1 : Ref sig .tc := ⟨.hbm, 140, rfl⟩
abbrev main_while0b_call2_c_2 : Ref sig .tc := ⟨.hbm, 141, rfl⟩
abbrev main_while0b_call2_v0 : Ref sig .tc := ⟨.hbm, 142, rfl⟩
abbrev main_while0b_v119 : Ref sig .tc := ⟨.hbm, 143, rfl⟩
abbrev main_while0b_call3_c : Ref sig .tc := ⟨.hbm, 144, rfl⟩
abbrev main_while0b_call3_c_0 : Ref sig .tc := ⟨.hbm, 145, rfl⟩
abbrev main_while0b_call3_c_1 : Ref sig .tc := ⟨.hbm, 146, rfl⟩
abbrev main_while0b_call3_c_2 : Ref sig .tc := ⟨.hbm, 147, rfl⟩
abbrev main_while0b_call3_v0 : Ref sig .tc := ⟨.hbm, 148, rfl⟩
abbrev main_while0b_v120 : Ref sig .tc := ⟨.hbm, 149, rfl⟩
abbrev main_while0b_call4_c : Ref sig .tc := ⟨.hbm, 150, rfl⟩
abbrev main_while0b_call4_c_0 : Ref sig .tc := ⟨.hbm, 151, rfl⟩
abbrev main_while0b_call4_c_1 : Ref sig .tc := ⟨.hbm, 152, rfl⟩
abbrev main_while0b_call4_c_2 : Ref sig .tc := ⟨.hbm, 153, rfl⟩
abbrev main_while0b_call4_v0 : Ref sig .tc := ⟨.hbm, 154, rfl⟩
abbrev main_while0b_v121 : Ref sig .tc := ⟨.hbm, 155, rfl⟩
abbrev main_while0b_v122 : Ref sig .tc := ⟨.hbm, 156, rfl⟩
abbrev main_while0b_v123 : Ref sig .tc := ⟨.hbm, 157, rfl⟩
abbrev main_while0b_v124 : Ref sig .tc := ⟨.hbm, 158, rfl⟩
abbrev main_while0b_v125 : Ref sig .tc := ⟨.hbm, 159, rfl⟩
abbrev main_while0b_v126 : Ref sig .tc := ⟨.hbm, 160, rfl⟩
abbrev main_while0b_call5_v0 : Ref sig .tc := ⟨.hbm, 161, rfl⟩
abbrev main_while0b_call5_c : Ref sig .tc := ⟨.hbm, 162, rfl⟩
abbrev main_while0b_call5_c_0 : Ref sig .tc := ⟨.hbm, 163, rfl⟩
abbrev main_while0b_call5_c_1 : Ref sig .tc := ⟨.hbm, 164, rfl⟩
abbrev main_while0b_call5_c_2 : Ref sig .tc := ⟨.hbm, 165, rfl⟩
abbrev main_while0b_v127 : Ref sig .tc := ⟨.hbm, 166, rfl⟩
abbrev main_while0b_c_19 : Ref sig .tc := ⟨.hbm, 167, rfl⟩
abbrev main_while0b_v128 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_cst_10 : Ref sig .tc := ⟨.hbm, 174, rfl⟩
abbrev main_v106 : Ref sig .tc := ⟨.hbm, 175, rfl⟩
abbrev main_v107 : Ref sig .tc := ⟨.hbm, 176, rfl⟩
abbrev main_cst_11 : Ref sig .tc := ⟨.hbm, 177, rfl⟩
abbrev main_v108 : Ref sig .tc := ⟨.hbm, 178, rfl⟩
abbrev main_v109 : Ref sig .tc := ⟨.hbm, 179, rfl⟩
abbrev main_cst_12 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_call6_v0 : Ref sig .tc := ⟨.hbm, 187, rfl⟩
abbrev main_call6_v1 : Ref sig .tc := ⟨.hbm, 188, rfl⟩
abbrev main_call6_cst : Ref sig .tc := ⟨.hbm, 189, rfl⟩
abbrev main_call6_v2 : Ref sig .tc := ⟨.hbm, 190, rfl⟩
abbrev main_call6_v3 : Ref sig .tc := ⟨.hbm, 191, rfl⟩
abbrev main_call6_cst_0 : Ref sig .tc := ⟨.hbm, 192, rfl⟩
abbrev main_call6_v4 : Ref sig .tc := ⟨.hbm, 193, rfl⟩
abbrev main_call6_v5 : Ref sig .tc := ⟨.hbm, 194, rfl⟩
abbrev main_v116 : Ref sig .tc := ⟨.hbm, 195, rfl⟩
abbrev main_v117 : Ref sig .tc := ⟨.hbm, 196, rfl⟩
abbrev main_v118 : Ref sig .tc := ⟨.hbm, 197, rfl⟩

abbrev nD : Nat := 1
abbrev τ : Topo := Topo.v7x

variable {F : FTy → Type} [FloatOps F]

abbrev main_while0_count : Scf.Loop 32 := ⟨0#32, 16#32, 1#32⟩
-- ==== FfnUp.lean ====
abbrev S4x2048x2048 : Shape := ⟨3, ![4, 2048, 2048]⟩
abbrev S2048x11264 : Shape := ⟨2, ![2048, 11264]⟩
abbrev S3x11264 : Shape := ⟨2, ![3, 11264]⟩
abbrev S8192x2048 : Shape := ⟨2, ![8192, 2048]⟩
abbrev S1x2048x11264 : Shape := ⟨3, ![1, 2048, 11264]⟩
abbrev S1x3x11264 : Shape := ⟨3, ![1, 3, 11264]⟩
abbrev S8192x5632 : Shape := ⟨2, ![8192, 5632]⟩
abbrev S1024x2048 : Shape := ⟨2, ![1024, 2048]⟩
abbrev S1x2048x512 : Shape := ⟨3, ![1, 2048, 512]⟩
abbrev S1x3x512 : Shape := ⟨3, ![1, 3, 512]⟩
abbrev S1024x512 : Shape := ⟨2, ![1024, 512]⟩
abbrev S2x8x512 : Shape := ⟨3, ![2, 8, 512]⟩
abbrev S2048x512 : Shape := ⟨2, ![2048, 512]⟩
abbrev S1x8x512 : Shape := ⟨3, ![1, 8, 512]⟩
abbrev S8x512 : Shape := ⟨2, ![8, 512]⟩
abbrev S1x512 : Shape := ⟨2, ![1, 512]⟩
abbrev S3x512 : Shape := ⟨2, ![3, 512]⟩

abbrev nBuf : Space → Nat
  | .hbm => 7
  | .vmem => 15
  | .smem => 0
  | _ => 0

abbrev bufTy : (tb : Table) → Fin (tcTables nBuf tb) → BufTy
  | .hbm, ⟨0, _⟩ => ⟨S4x2048x2048, .bf16⟩
  | .hbm, ⟨1, _⟩ => ⟨S2048x11264, .f32⟩
  | .hbm, ⟨2, _⟩ => ⟨S3x11264, .f32⟩
  | .hbm, ⟨3, _⟩ => ⟨S8192x2048, .bf16⟩
  | .hbm, ⟨4, _⟩ => ⟨S1x2048x11264, .f32⟩
  | .hbm, ⟨5, _⟩ => ⟨S1x3x11264, .f32⟩
  | .hbm, ⟨6, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x3x512, .f32⟩
  | .local _ .vmem, ⟨7, _⟩ => ⟨S1x3x512, .f32⟩
  | .local _ .vmem, ⟨8, _⟩ => ⟨S1x3x512, .f32⟩
  | .local _ .vmem, ⟨9, _⟩ => ⟨S1x3x512, .f32⟩
  | .local _ .vmem, ⟨10, _⟩ => ⟨S1024x512, .bf16⟩
  | .local _ .vmem, ⟨11, _⟩ => ⟨S1024x512, .bf16⟩
  | .local _ .vmem, ⟨12, _⟩ => ⟨S2x8x512, .f32⟩
  | .local _ .vmem, ⟨13, _⟩ => ⟨S2048x512, .bf16⟩
  | .local _ .vmem, ⟨14, _⟩ => ⟨S2048x512, .bf16⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpReferenceIdeal.lean ====
abbrev S4x2048x2048 : Shape := ⟨3, ![4, 2048, 2048]⟩
abbrev S2048x11264 : Shape := ⟨2, ![2048, 11264]⟩
abbrev S3x11264 : Shape := ⟨2, ![3, 11264]⟩
abbrev S4x2048x11264 : Shape := ⟨3, ![4, 2048, 11264]⟩
abbrev S_ : Shape := ⟨0, ![]⟩
abbrev S4x2050x11264 : Shape := ⟨3, ![4, 2050, 11264]⟩
abbrev S1x11264 : Shape := ⟨2, ![1, 11264]⟩
abbrev S11264 : Shape := ⟨1, ![11264]⟩
abbrev S1x1x11264 : Shape := ⟨3, ![1, 1, 11264]⟩
abbrev S4x2048x5632 : Shape := ⟨3, ![4, 2048, 5632]⟩
abbrev S8192x5632 : Shape := ⟨2, ![8192, 5632]⟩

abbrev nBuf : Space → Nat
  | .hbm => 44
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S2048x11264, .f32⟩
  | .hbm, ⟨2, _⟩ => ⟨S3x11264, .f32⟩
  | .hbm, ⟨3, _⟩ => ⟨S4x2048x11264, .f32⟩
  | .hbm, ⟨4, _⟩ => ⟨S_, .i32⟩
  | .hbm, ⟨5, _⟩ => ⟨S_, .f32⟩
  | .hbm, ⟨6, _⟩ => ⟨S4x2050x11264, .f32⟩
  | .hbm, ⟨7, _⟩ => ⟨S1x11264, .f32⟩
  | .hbm, ⟨8, _⟩ => ⟨S11264, .f32⟩
  | .hbm, ⟨9, _⟩ => ⟨S4x2048x11264, .f32⟩
  | .hbm, ⟨10, _⟩ => ⟨S1x1x11264, .f32⟩
  | .hbm, ⟨11, _⟩ => ⟨S4x2048x11264, .f32⟩
  | .hbm, ⟨12, _⟩ => ⟨S4x2048x11264, .f32⟩
  | .hbm, ⟨13, _⟩ => ⟨S_, .f32⟩
  | .hbm, ⟨14, _⟩ => ⟨S4x2048x11264, .f32⟩
  | .hbm, ⟨15, _⟩ => ⟨S4x2048x11264, .f32⟩
  | .hbm, ⟨16, _⟩ => ⟨S1x11264, .f32⟩
  | .hbm, ⟨17, _⟩ => ⟨S11264, .f32⟩
  | .hbm, ⟨18, _⟩ => ⟨S4x2048x11264, .f32⟩
  | .hbm, ⟨19, _⟩ => ⟨S1x1x11264, .f32⟩
  | .hbm, ⟨20, _⟩ => ⟨S4x2048x11264, .f32⟩
  | .hbm, ⟨21, _⟩ => ⟨S4x2048x11264, .f32⟩
  | .hbm, ⟨22, _⟩ => ⟨S4x2048x11264, .f32⟩
  | .hbm, ⟨23, _⟩ => ⟨S1x11264, .f32⟩
  | .hbm, ⟨24, _⟩ => ⟨S11264, .f32⟩
  | .hbm, ⟨25, _⟩ => ⟨S4x2048x11264, .f32⟩
  | .hbm, ⟨26, _⟩ => ⟨S1x1x11264, .f32⟩
  | .hbm, ⟨27, _⟩ => ⟨S4x2048x11264, .f32⟩
  | .hbm, ⟨28, _⟩ => ⟨S4x2048x11264, .f32⟩
  | .hbm, ⟨29, _⟩ => ⟨S4x2048x11264, .f32⟩
  | .hbm, ⟨30, _⟩ => ⟨S4x2048x5632, .f32⟩
  | .hbm, ⟨31, _⟩ => ⟨S4x2048x5632, .f32⟩
  | .hbm, ⟨32, _⟩ => ⟨S4x2048x5632, .f32⟩
  | .hbm, ⟨33, _⟩ => ⟨S4x2048x5632, .f32⟩
  | .hbm, ⟨34, _⟩ => ⟨S_, .f32⟩
  | .hbm, ⟨35, _⟩ => ⟨S4x2048x5632, .f32⟩
  | .hbm, ⟨36, _⟩ => ⟨S4x2048x5632, .f32⟩
  | .hbm, ⟨37, _⟩ => ⟨S_, .f32⟩
  | .hbm, ⟨38, _⟩ => ⟨S4x2048x5632, .f32⟩
  | .hbm, ⟨39, _⟩ => ⟨S4x2048x5632, .f32⟩
  | .hbm, ⟨40, _⟩ => ⟨S4x2048x5632, .f32⟩
  | .hbm, ⟨41, _⟩ => ⟨S4x2048x5632, .f32⟩
  | .hbm, ⟨42, _⟩ => ⟨S4x2048x5632, .bf16⟩
  | .hbm, ⟨43, _⟩ => ⟨S8192x5632, .bf16⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_call1_v0 : Ref sig .tc := ⟨.hbm, 32, rfl⟩
abbrev main_call1_v1 : Ref sig .tc := ⟨.hbm, 33, rfl⟩
abbrev main_call1_cst : Ref sig .tc := ⟨.hbm, 34, rfl⟩
abbrev main_call1_v2 : Ref sig .tc := ⟨.hbm, 35, rfl⟩
abbrev main_call1_v3 : Ref sig .tc := ⟨.hbm, 36, rfl⟩
abbrev main_call1_cst_0 : Ref sig .tc := ⟨.hbm, 37, rfl⟩
abbrev main_call1_v4 : Ref sig .tc := ⟨.hbm, 38, rfl⟩
abbrev main_call1_v5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== FfnDown.lean ====
abbrev S8192x5632 : Shape := ⟨2, ![8192, 5632]⟩
abbrev S5632x2048 : Shape := ⟨2, ![5632, 2048]⟩
abbrev S8192x2048 : Shape := ⟨2, ![8192, 2048]⟩
abbrev S1x5632x2048 : Shape := ⟨3, ![1, 5632, 2048]⟩
abbrev S1024x5632 : Shape := ⟨2, ![1024, 5632]⟩
abbrev S1x5632x512 : Shape := ⟨3, ![1, 5632, 512]⟩
abbrev S1024x512 : Shape := ⟨2, ![1024, 512]⟩
abbrev S5632x512 : Shape := ⟨2, ![5632, 512]⟩

abbrev nBuf : Space → Nat
  | .hbm => 6
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S5632x2048, .bf16⟩
  | .hbm, ⟨4, _⟩ => ⟨S1x5632x2048, .bf16⟩
  | .hbm, ⟨5, _⟩ => ⟨S8192x2048, .f32⟩
  | .local _ .vmem, ⟨0, _⟩ => ⟨S1024x5632, .bf16⟩
  | .local _ .vmem, ⟨1, _⟩ => ⟨S1024x5632, .bf16⟩
  | .local _ .vmem, ⟨2, _⟩ => ⟨S1x5632x512, .bf16⟩
  | .local _ .vmem, ⟨3, _⟩ => ⟨S1x5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnDownReferenceIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S8192x2048, .f32⟩
  | .hbm, ⟨4, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== FinalNorm.lean ====
abbrev S4x2048x2048 : Shape := ⟨3, ![4, 2048, 2048]⟩
abbrev S2048 : Shape := ⟨1, ![2048]⟩
abbrev S8192x2048 : Shape := ⟨2, ![8192, 2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 5
  | .vmem => 5
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S8192x2048, .f32⟩
  | .hbm, ⟨3, _⟩ => ⟨S1x2048, .f32⟩
  | .hbm, ⟨4, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormReferenceIdeal.lean ====
abbrev S4x2048x2048 : Shape := ⟨3, ![4, 2048, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S8192x2048 : Shape := ⟨2, ![8192, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S4x2048x2048, .f32⟩
  | .hbm, ⟨3, _⟩ => ⟨S_, .f32⟩
  | .hbm, ⟨4, _⟩ => ⟨S4x2048, .f32⟩
  | .hbm, ⟨5, _⟩ => ⟨S4x2048x1, .f32⟩
  | .hbm, ⟨6, _⟩ => ⟨S_, .f32⟩
  | .hbm, ⟨7, _⟩ => ⟨S4x2048x1, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S4x2048x1, .f32⟩
  | .hbm, ⟨13, _⟩ => ⟨S4x2048x2048, .f32⟩
  | .hbm, ⟨14, _⟩ => ⟨S4x2048x2048, .f32⟩
  | .hbm, ⟨15, _⟩ => ⟨S1x1x2048, .f32⟩
  | .hbm, ⟨16, _⟩ => ⟨S4x2048x2048, .f32⟩
  | .hbm, ⟨17, _⟩ => ⟨S4x2048x2048, .f32⟩
  | .hbm, ⟨18, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== OddIn.lean ====
abbrev S8192x2048 : Shape := ⟨2, ![8192, 2048]⟩
abbrev S2048x6432 : Shape := ⟨2, ![2048, 6432]⟩
abbrev S1x2048x6432 : Shape := ⟨3, ![1, 2048, 6432]⟩
abbrev S1x6432x2048 : Shape := ⟨3, ![1, 6432, 2048]⟩
abbrev S8192x3072 : Shape := ⟨2, ![8192, 3072]⟩
abbrev S1024x2048 : Shape := ⟨2, ![1024, 2048]⟩
abbrev S1x1024x2048 : Shape := ⟨3, ![1, 1024, 2048]⟩
abbrev S1024x1024 : Shape := ⟨2, ![1024, 1024]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x6432, .f32⟩
  | .hbm, ⟨2, _⟩ => ⟨S1x2048x6432, .f32⟩
  | .hbm, ⟨3, _⟩ => ⟨S1x6432x2048, .f32⟩
  | .hbm, ⟨4, _⟩ => ⟨S8192x3072, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddInReferenceIdeal.lean ====
abbrev S8192x2048 : Shape := ⟨2, ![8192, 2048]⟩
abbrev S2048x6432 : Shape := ⟨2, ![2048, 6432]⟩
abbrev S8192x6432 : Shape := ⟨2, ![8192, 6432]⟩
abbrev S8192x3072 : Shape := ⟨2, ![8192, 3072]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6432, .f32⟩
  | .hbm, ⟨2, _⟩ => ⟨S8192x6432, .f32⟩
  | .hbm, ⟨3, _⟩ => ⟨S8192x3072, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MixOut.lean ====
abbrev S8192x1024 : Shape := ⟨2, ![8192, 1024]⟩
abbrev S2048x2048 : Shape := ⟨2, ![2048, 2048]⟩
abbrev S8192x2048 : Shape := ⟨2, ![8192, 2048]⟩
abbrev S1x2048x2048 : Shape := ⟨3, ![1, 2048, 2048]⟩
abbrev S1024x1024 : Shape := ⟨2, ![1024, 1024]⟩
abbrev S1x1024x1024 : Shape := ⟨3, ![1, 1024, 1024]⟩

abbrev nBuf : Space → Nat
  | .hbm => 7
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .f32⟩
  | .hbm, ⟨3, _⟩ => ⟨S8192x2048, .f32⟩
  | .hbm, ⟨4, _⟩ => ⟨S1x2048x2048, .f32⟩
  | .hbm, ⟨5, _⟩ => ⟨S1x2048x2048, .f32⟩
  | .hbm, ⟨6, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1x1024x1024, .f32⟩
  | .local _ .vmem, ⟨7, _⟩ => ⟨S1x1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MixOutReferenceIdeal.lean ====
abbrev S8192x1024 : Shape := ⟨2, ![8192, 1024]⟩
abbrev S2048x2048 : Shape := ⟨2, ![2048, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .f32⟩
  | .hbm, ⟨3, _⟩ => ⟨S8192x2048, .f32⟩
  | .hbm, ⟨4, _⟩ => ⟨S8192x2048, .bf16⟩
  | .hbm, ⟨5, _⟩ => ⟨S8192x2048, .f32⟩
  | .hbm, ⟨6, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== OddTail.lean ====
abbrev S8192x2048 : Shape := ⟨2, ![8192, 2048]⟩
abbrev S2048x6432 : Shape := ⟨2, ![2048, 6432]⟩
abbrev S1x2048x6432 : Shape := ⟨3, ![1, 2048, 6432]⟩
abbrev S1x6432x2048 : Shape := ⟨3, ![1, 6432, 2048]⟩
abbrev S1x3072x2048 : Shape := ⟨3, ![1, 3072, 2048]⟩
abbrev S3072x2048 : Shape := ⟨2, ![3072, 2048]⟩
abbrev S1x288x2048 : Shape := ⟨3, ![1, 288, 2048]⟩
abbrev S288x2048 : Shape := ⟨2, ![288, 2048]⟩
abbrev S_ : Shape := ⟨0, ![]⟩
abbrev S384x2048 : Shape := ⟨2, ![384, 2048]⟩
abbrev S3456x2048 : Shape := ⟨2, ![3456, 2048]⟩
abbrev S1x3456x2048 : Shape := ⟨3, ![1, 3456, 2048]⟩
abbrev S8192x3456 : Shape := ⟨2, ![8192, 3456]⟩
abbrev S1024x2048 : Shape := ⟨2, ![1024, 2048]⟩
abbrev S1x1152x2048 : Shape := ⟨3, ![1, 1152, 2048]⟩
abbrev S1024x1152 : Shape := ⟨2, ![1024, 1152]⟩
abbrev S2048x1152 : Shape := ⟨2, ![2048, 1152]⟩
abbrev S1152x2048 : Shape := ⟨2, ![1152, 2048]⟩

abbrev nBuf : Space → Nat
  | .hbm => 14
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x6432, .f32⟩
  | .hbm, ⟨2, _⟩ => ⟨S1x2048x6432, .f32⟩
  | .hbm, ⟨3, _⟩ => ⟨S1x6432x2048, .f32⟩
  | .hbm, ⟨4, _⟩ => ⟨S1x3072x2048, .f32⟩
  | .hbm, ⟨5, _⟩ => ⟨S3072x2048, .f32⟩
  | .hbm, ⟨6, _⟩ => ⟨S1x288x2048, .f32⟩
  | .hbm, ⟨7, _⟩ => ⟨S288x2048, .f32⟩
  | .hbm, ⟨8, _⟩ => ⟨S_, .i32⟩
  | .hbm, ⟨9, _⟩ => ⟨S_, .f32⟩
  | .hbm, ⟨10, _⟩ => ⟨S384x2048, .f32⟩
  | .hbm, ⟨11, _⟩ => ⟨S3456x2048, .f32⟩
  | .hbm, ⟨12, _⟩ => ⟨S1x3456x2048, .f32⟩
  | .hbm, ⟨13, _⟩ => ⟨S8192x3456, .f32⟩
  | .local _ .vmem, ⟨0, _⟩ => ⟨S1024x2048, .bf16⟩
  | .local _ .vmem, ⟨1, _⟩ => ⟨S1024x2048, .bf16⟩
  | .local _ .vmem, ⟨2, _⟩ => ⟨S1x1152x2048, .f32⟩
  | .local _ .vmem, ⟨3, _⟩ => ⟨S1x1152x2048, .f32⟩
  | .local _ .vmem, ⟨4, _⟩ => ⟨S1024x1152, .f32⟩
  | .local _ .vmem, ⟨5, _⟩ => ⟨S1024x1152, .f32⟩
  | .local _ .vmem, ⟨6, _⟩ => ⟨S2048x1152, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1152x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddTailReferenceIdeal.lean ====
abbrev S8192x2048 : Shape := ⟨2, ![8192, 2048]⟩
abbrev S2048x6432 : Shape := ⟨2, ![2048, 6432]⟩
abbrev S8192x6432 : Shape := ⟨2, ![8192, 6432]⟩
abbrev S8192x3072 : Shape := ⟨2, ![8192, 3072]⟩
abbrev S8192x288 : Shape := ⟨2, ![8192, 288]⟩
abbrev S8192x3360 : Shape := ⟨2, ![8192, 3360]⟩
abbrev S_ : Shape := ⟨0, ![]⟩
abbrev S8192x3456 : Shape := ⟨2, ![8192, 3456]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6432, .f32⟩
  | .hbm, ⟨2, _⟩ => ⟨S8192x6432, .f32⟩
  | .hbm, ⟨3, _⟩ => ⟨S8192x3072, .f32⟩
  | .hbm, ⟨4, _⟩ => ⟨S8192x288, .f32⟩
  | .hbm, ⟨5, _⟩ => ⟨S8192x3360, .f32⟩
  | .hbm, ⟨6, _⟩ => ⟨S_, .i32⟩
  | .hbm, ⟨7, _⟩ => ⟨S_, .f32⟩
  | .hbm, ⟨8, _⟩ => ⟨S8192x3456, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== EvenIn.lean ====
abbrev S8192x2048 : Shape := ⟨2, ![8192, 2048]⟩
abbrev S2048x5136 : Shape := ⟨2, ![2048, 5136]⟩
abbrev S1x2048x5136 : Shape := ⟨3, ![1, 2048, 5136]⟩
abbrev S1x5136x2048 : Shape := ⟨3, ![1, 5136, 2048]⟩
abbrev S8192x4096 : Shape := ⟨2, ![8192, 4096]⟩
abbrev S1024x2048 : Shape := ⟨2, ![1024, 2048]⟩
abbrev S1x1024x2048 : Shape := ⟨3, ![1, 1024, 2048]⟩
abbrev S1024x1024 : Shape := ⟨2, ![1024, 1024]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x5136, .f32⟩
  | .hbm, ⟨2, _⟩ => ⟨S1x2048x5136, .f32⟩
  | .hbm, ⟨3, _⟩ => ⟨S1x5136x2048, .f32⟩
  | .hbm, ⟨4, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenInReferenceIdeal.lean ====
abbrev S8192x2048 : Shape := ⟨2, ![8192, 2048]⟩
abbrev S2048x5136 : Shape := ⟨2, ![2048, 5136]⟩
abbrev S8192x5136 : Shape := ⟨2, ![8192, 5136]⟩
abbrev S8192x4096 : Shape := ⟨2, ![8192, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5136, .f32⟩
  | .hbm, ⟨2, _⟩ => ⟨S8192x5136, .f32⟩
  | .hbm, ⟨3, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== EvenTail.lean ====
abbrev S8192x2048 : Shape := ⟨2, ![8192, 2048]⟩
abbrev S2048x5136 : Shape := ⟨2, ![2048, 5136]⟩
abbrev S1x2048x5136 : Shape := ⟨3, ![1, 2048, 5136]⟩
abbrev S1x5136x2048 : Shape := ⟨3, ![1, 5136, 2048]⟩
abbrev S1x1024x2048 : Shape := ⟨3, ![1, 1024, 2048]⟩
abbrev S1024x2048 : Shape := ⟨2, ![1024, 2048]⟩
abbrev S1x16x2048 : Shape := ⟨3, ![1, 16, 2048]⟩
abbrev S16x2048 : Shape := ⟨2, ![16, 2048]⟩
abbrev S_ : Shape := ⟨0, ![]⟩
abbrev S128x2048 : Shape := ⟨2, ![128, 2048]⟩
abbrev S1152x2048 : Shape := ⟨2, ![1152, 2048]⟩
abbrev S1x1152x2048 : Shape := ⟨3, ![1, 1152, 2048]⟩
abbrev S8192x1152 : Shape := ⟨2, ![8192, 1152]⟩
abbrev S1024x1152 : Shape := ⟨2, ![1024, 1152]⟩
abbrev S2048x1152 : Shape := ⟨2, ![2048, 1152]⟩

abbrev nBuf : Space → Nat
  | .hbm => 14
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x5136, .f32⟩
  | .hbm, ⟨2, _⟩ => ⟨S1x2048x5136, .f32⟩
  | .hbm, ⟨3, _⟩ => ⟨S1x5136x2048, .f32⟩
  | .hbm, ⟨4, _⟩ => ⟨S1x1024x2048, .f32⟩
  | .hbm, ⟨5, _⟩ => ⟨S1024x2048, .f32⟩
  | .hbm, ⟨6, _⟩ => ⟨S1x16x2048, .f32⟩
  | .hbm, ⟨7, _⟩ => ⟨S16x2048, .f32⟩
  | .hbm, ⟨8, _⟩ => ⟨S_, .i32⟩
  | .hbm, ⟨9, _⟩ => ⟨S_, .f32⟩
  | .hbm, ⟨10, _⟩ => ⟨S128x2048, .f32⟩
  | .hbm, ⟨11, _⟩ => ⟨S1152x2048, .f32⟩
  | .hbm, ⟨12, _⟩ => ⟨S1x1152x2048, .f32⟩
  | .hbm, ⟨13, _⟩ => ⟨S8192x1152, .f32⟩
  | .local _ .vmem, ⟨0, _⟩ => ⟨S1024x2048, .bf16⟩
  | .local _ .vmem, ⟨1, _⟩ => ⟨S1024x2048, .bf16⟩
  | .local _ .vmem, ⟨2, _⟩ => ⟨S1x1152x2048, .f32⟩
  | .local _ .vmem, ⟨3, _⟩ => ⟨S1024x1152, .f32⟩
  | .local _ .vmem, ⟨4, _⟩ => ⟨S1024x1152, .f32⟩
  | .local _ .vmem, ⟨5, _⟩ => ⟨S2048x1152, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1152x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenTailReferenceIdeal.lean ====
abbrev S8192x2048 : Shape := ⟨2, ![8192, 2048]⟩
abbrev S2048x5136 : Shape := ⟨2, ![2048, 5136]⟩
abbrev S8192x5136 : Shape := ⟨2, ![8192, 5136]⟩
abbrev S8192x1024 : Shape := ⟨2, ![8192, 1024]⟩
abbrev S8192x16 : Shape := ⟨2, ![8192, 16]⟩
abbrev S8192x1040 : Shape := ⟨2, ![8192, 1040]⟩
abbrev S_ : Shape := ⟨0, ![]⟩
abbrev S8192x1152 : Shape := ⟨2, ![8192, 1152]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5136, .f32⟩
  | .hbm, ⟨2, _⟩ => ⟨S8192x5136, .f32⟩
  | .hbm, ⟨3, _⟩ => ⟨S8192x1024, .f32⟩
  | .hbm, ⟨4, _⟩ => ⟨S8192x16, .f32⟩
  | .hbm, ⟨5, _⟩ => ⟨S8192x1040, .f32⟩
  | .hbm, ⟨6, _⟩ => ⟨S_, .i32⟩
  | .hbm, ⟨7, _⟩ => ⟨S_, .f32⟩
  | .hbm, ⟨8, _⟩ => ⟨S8192x1152, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== ScanGate.lean ====
abbrev S4x2048x1024 : Shape := ⟨3, ![4, 2048, 1024]⟩
abbrev S1024x1024 : Shape := ⟨2, ![1024, 1024]⟩
abbrev S8192x1024 : Shape := ⟨2, ![8192, 1024]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S8192x1024, .f32⟩
  | .hbm, ⟨3, _⟩ => ⟨S1024x1024, .bf16⟩
  | .hbm, ⟨4, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ScanGateReferenceIdeal.lean ====
abbrev S4x2048x1024 : Shape := ⟨3, ![4, 2048, 1024]⟩
abbrev S1024x1024 : Shape := ⟨2, ![1024, 1024]⟩
abbrev S_ : Shape := ⟨0, ![]⟩
abbrev S8192x1024 : Shape := ⟨2, ![8192, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S4x2048x1024, .f32⟩
  | .hbm, ⟨3, _⟩ => ⟨S4x2048x1024, .f32⟩
  | .hbm, ⟨4, _⟩ => ⟨S4x2048x1024, .f32⟩
  | .hbm, ⟨5, _⟩ => ⟨S_, .f32⟩
  | .hbm, ⟨6, _⟩ => ⟨S4x2048x1024, .f32⟩
  | .hbm, ⟨7, _⟩ => ⟨S4x2048x1024, .f32⟩
  | .hbm, ⟨8, _⟩ => ⟨S_, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S4x2048x1024, .bf16⟩
  | .hbm, ⟨13, _⟩ => ⟨S8192x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Rope.lean ====
abbrev S_ : Shape := ⟨0, ![]⟩
abbrev S63 : Shape := ⟨1, ![63]⟩
abbrev S1 : Shape := ⟨1, ![1]⟩
abbrev S64 : Shape := ⟨1, ![64]⟩
abbrev S128 : Shape := ⟨1, ![128]⟩
abbrev S1x128 : Shape := ⟨2, ![1, 128]⟩
abbrev S2048x128 : Shape := ⟨2, ![2048, 128]⟩

abbrev nBuf : Space → Nat
  | .hbm => 31
  | .vmem => 3
  | .smem => 0
  | _ => 0

abbrev bufTy : (tb : Table) → Fin (tcTables nBuf tb) → BufTy
  | .hbm, ⟨0, _⟩ => ⟨S_, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S63, .f32⟩
  | .hbm, ⟨8, _⟩ => ⟨S_, .f32⟩
  | .hbm, ⟨9, _⟩ => ⟨S63, .f32⟩
  | .hbm, ⟨10, _⟩ => ⟨S63, .f32⟩
  | .hbm, ⟨11, _⟩ => ⟨S1, .f32⟩
  | .hbm, ⟨12, _⟩ => ⟨S_, .f32⟩
  | .hbm, ⟨13, _⟩ => ⟨S63, .f32⟩
  | .hbm, ⟨14, _⟩ => ⟨S63, .f32⟩
  | .hbm, ⟨15, _⟩ => ⟨S63, .f32⟩
  | .hbm, ⟨16, _⟩ => ⟨S63, .f32⟩
  | .hbm, ⟨17, _⟩ => ⟨S1, .f32⟩
  | .hbm, ⟨18, _⟩ => ⟨S63, .f32⟩
  | .hbm, ⟨19, _⟩ => ⟨S63, .f32⟩
  | .hbm, ⟨20, _⟩ => ⟨S63, .f32⟩
  | .hbm, ⟨21, _⟩ => ⟨S1, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S128, .f32⟩
  | .hbm, ⟨28, _⟩ => ⟨S1x128, .f32⟩
  | .hbm, ⟨29, _⟩ => ⟨S2048x128, .f32⟩
  | .hbm, ⟨30, _⟩ => ⟨S2048x128, .f32⟩
  | .local _ .vmem, ⟨0, _⟩ => ⟨S1x128, .f32⟩
  | .local _ .vmem, ⟨1, _⟩ => ⟨S2048x128, .f32⟩
  | .local _ .vmem, ⟨2, _⟩ => ⟨S2048x128, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_cst : Ref sig .tc := ⟨.hbm, 0, rfl⟩
abbrev main_cst_0 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_cst : Ref sig .tc := ⟨.hbm, 5, rfl⟩
abbrev main_call0_v3 : Ref sig .tc := ⟨.hbm, 6, rfl⟩
abbrev main_call0_v4 : Ref sig .tc := ⟨.hbm, 7, rfl⟩
abbrev main_call0_cst_0 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_cst_1 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_v12 : Ref sig .tc := ⟨.hbm, 17, rfl⟩
abbrev main_call0_v13 : Ref sig .tc := ⟨.hbm, 18, rfl⟩
abbrev main_call0_v14 : Ref sig .tc := ⟨.hbm, 19, rfl⟩
abbrev main_call0_v15 : Ref sig .tc := ⟨.hbm, 20, rfl⟩
abbrev main_call0_v16 : Ref sig .tc := ⟨.hbm, 21, rfl⟩
abbrev main_v0 : Ref sig .tc := ⟨.hbm, 22, rfl⟩
abbrev main_v1 : Ref sig .tc := ⟨.hbm, 23, rfl⟩
abbrev main_cst_1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6_0 : Ref sig .tc := ⟨.hbm, 29, rfl⟩
abbrev main_v6_1 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== RopeReferenceIdeal.lean ====
abbrev S2048 : Shape := ⟨1, ![2048]⟩
abbrev S_ : Shape := ⟨0, ![]⟩
abbrev S63 : Shape := ⟨1, ![63]⟩
abbrev S1 : Shape := ⟨1, ![1]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩

abbrev nBuf : Space → Nat
  | .hbm => 38
  | .vmem => 0
  | .smem => 0
  | _ => 0

abbrev bufTy : (tb : Table) → Fin (tcTables nBuf tb) → BufTy
  | .hbm, ⟨0, _⟩ => ⟨S2048, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S63, .f32⟩
  | .hbm, ⟨9, _⟩ => ⟨S_, .f32⟩
  | .hbm, ⟨10, _⟩ => ⟨S63, .f32⟩
  | .hbm, ⟨11, _⟩ => ⟨S63, .f32⟩
  | .hbm, ⟨12, _⟩ => ⟨S1, .f32⟩
  | .hbm, ⟨13, _⟩ => ⟨S_, .f32⟩
  | .hbm, ⟨14, _⟩ => ⟨S63, .f32⟩
  | .hbm, ⟨15, _⟩ => ⟨S63, .f32⟩
  | .hbm, ⟨16, _⟩ => ⟨S63, .f32⟩
  | .hbm, ⟨17, _⟩ => ⟨S63, .f32⟩
  | .hbm, ⟨18, _⟩ => ⟨S1, .f32⟩
  | .hbm, ⟨19, _⟩ => ⟨S63, .f32⟩
  | .hbm, ⟨20, _⟩ => ⟨S63, .f32⟩
  | .hbm, ⟨21, _⟩ => ⟨S63, .f32⟩
  | .hbm, ⟨22, _⟩ => ⟨S1, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S2048x1, .f32⟩
  | .hbm, ⟨29, _⟩ => ⟨S1x64, .f32⟩
  | .hbm, ⟨30, _⟩ => ⟨S2048x64, .f32⟩
  | .hbm, ⟨31, _⟩ => ⟨S2048x64, .f32⟩
  | .hbm, ⟨32, _⟩ => ⟨S2048x64, .f32⟩
  | .hbm, ⟨33, _⟩ => ⟨S2048x64, .f32⟩
  | .hbm, ⟨34, _⟩ => ⟨S2048x64, .f32⟩
  | .hbm, ⟨35, _⟩ => ⟨S2048x128, .f32⟩
  | .hbm, ⟨36, _⟩ => ⟨S2048x64, .f32⟩
  | .hbm, ⟨37, _⟩ => ⟨S2048x128, .f32⟩
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_v0 : Ref sig .tc := ⟨.hbm, 0, rfl⟩
abbrev main_cst : Ref sig .tc := ⟨.hbm, 1, rfl⟩
abbrev main_cst_0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_cst : Ref sig .tc := ⟨.hbm, 6, rfl⟩
abbrev main_call0_v3 : Ref sig .tc := ⟨.hbm, 7, rfl⟩
abbrev main_call0_v4 : Ref sig .tc := ⟨.hbm, 8, rfl⟩
abbrev main_call0_cst_0 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_cst_1 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_v1 : Ref sig .tc := ⟨.hbm, 23, rfl⟩
abbrev main_v2 : Ref sig .tc := ⟨.hbm, 24, rfl⟩
abbrev main_cst_1 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩

abbrev nD : Nat := 1
abbrev τ : Topo := Topo.v7x

variable {F : FTy → Type} [FloatOps F]
-- ==== LayerNorm.lean ====
abbrev S4x2048x2048 : Shape := ⟨3, ![4, 2048, 2048]⟩
abbrev S2048 : Shape := ⟨1, ![2048]⟩
abbrev S8192x2048 : Shape := ⟨2, ![8192, 2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 5
  | .vmem => 5
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S8192x2048, .f32⟩
  | .hbm, ⟨3, _⟩ => ⟨S1x2048, .f32⟩
  | .hbm, ⟨4, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== LayerNormReferenceIdeal.lean ====
abbrev S4x2048x2048 : Shape := ⟨3, ![4, 2048, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S8192x2048 : Shape := ⟨2, ![8192, 2048]⟩

abbrev nBuf : Space → Nat
  | .hbm => 20
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S4x2048x2048, .f32⟩
  | .hbm, ⟨3, _⟩ => ⟨S_, .f32⟩
  | .hbm, ⟨4, _⟩ => ⟨S4x2048, .f32⟩
  | .hbm, ⟨5, _⟩ => ⟨S4x2048x1, .f32⟩
  | .hbm, ⟨6, _⟩ => ⟨S_, .f32⟩
  | .hbm, ⟨7, _⟩ => ⟨S4x2048x1, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S4x2048x1, .f32⟩
  | .hbm, ⟨13, _⟩ => ⟨S4x2048x2048, .f32⟩
  | .hbm, ⟨14, _⟩ => ⟨S4x2048x2048, .f32⟩
  | .hbm, ⟨15, _⟩ => ⟨S1x1x2048, .f32⟩
  | .hbm, ⟨16, _⟩ => ⟨S4x2048x2048, .f32⟩
  | .hbm, ⟨17, _⟩ => ⟨S4x2048x2048, .f32⟩
  | .hbm, ⟨18, _⟩ => ⟨S8192x2048, .f32⟩
  | .hbm, ⟨19, _⟩ => ⟨S8192x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== ScanMaps.lean ====
abbrev S64x64 : Shape := ⟨2, ![64, 64]⟩
abbrev S64 : Shape := ⟨1, ![64]⟩
abbrev S64x64x16 : Shape := ⟨3, ![64, 64, 16]⟩
abbrev S1x4096 : Shape := ⟨2, ![1, 4096]⟩
abbrev S64x1 : Shape := ⟨2, ![64, 1]⟩
abbrev S64x1x64 : Shape := ⟨3, ![64, 1, 64]⟩
abbrev S16x64x64 : Shape := ⟨3, ![16, 64, 64]⟩
abbrev S16x4096 : Shape := ⟨2, ![16, 4096]⟩
abbrev S256x4096 : Shape := ⟨2, ![256, 4096]⟩
abbrev S8x4096 : Shape := ⟨2, ![8, 4096]⟩
abbrev S32x4096 : Shape := ⟨2, ![32, 4096]⟩
abbrev S64x4096 : Shape := ⟨2, ![64, 4096]⟩
abbrev S128x4096 : Shape := ⟨2, ![128, 4096]⟩

abbrev nBuf : Space → Nat
  | .hbm => 19
  | .vmem => 9
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S1x4096, .f32⟩
  | .hbm, ⟨6, _⟩ => ⟨S1x4096, .f32⟩
  | .hbm, ⟨7, _⟩ => ⟨S64x1, .f32⟩
  | .hbm, ⟨8, _⟩ => ⟨S64x1x64, .f32⟩
  | .hbm, ⟨9, _⟩ => ⟨S64x64, .f32⟩
  | .hbm, ⟨10, _⟩ => ⟨S1x4096, .f32⟩
  | .hbm, ⟨11, _⟩ => ⟨S16x64x64, .f32⟩
  | .hbm, ⟨12, _⟩ => ⟨S16x4096, .f32⟩
  | .hbm, ⟨13, _⟩ => ⟨S16x64x64, .f32⟩
  | .hbm, ⟨14, _⟩ => ⟨S16x4096, .f32⟩
  | .hbm, ⟨15, _⟩ => ⟨S256x4096, .f32⟩
  | .hbm, ⟨16, _⟩ => ⟨S256x4096, .f32⟩
  | .hbm, ⟨17, _⟩ => ⟨S16x4096, .f32⟩
  | .hbm, ⟨18, _⟩ => ⟨S16x4096, .f32⟩
  | .local _ .vmem, ⟨0, _⟩ => ⟨S1x4096, .f32⟩
  | .local _ .vmem, ⟨1, _⟩ => ⟨S1x4096, .f32⟩
  | .local _ .vmem, ⟨2, _⟩ => ⟨S1x4096, .f32⟩
  | .local _ .vmem, ⟨3, _⟩ => ⟨S16x4096, .f32⟩
  | .local _ .vmem, ⟨4, _⟩ => ⟨S16x4096, .f32⟩
  | .local _ .vmem, ⟨5, _⟩ => ⟨S256x4096, .f32⟩
  | .local _ .vmem, ⟨6, _⟩ => ⟨S256x4096, .f32⟩
  | .local _ .vmem, ⟨7, _⟩ => ⟨S16x4096, .f32⟩
  | .local _ .vmem, ⟨8, _⟩ => ⟨S16x4096, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ScanMapsReferenceIdeal.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S_ : Shape := ⟨0, ![]⟩
abbrev S64x64x1 : Shape := ⟨3, ![64, 64, 1]⟩
abbrev S16x64x64 : Shape := ⟨3, ![16, 64, 64]⟩
abbrev S16x4096 : Shape := ⟨2, ![16, 4096]⟩

abbrev nBuf : Space → Nat
  | .hbm => 48
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64, .f32⟩
  | .hbm, ⟨6, _⟩ => ⟨S64x1, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S_, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64x1, .f32⟩
  | .hbm, ⟨31, _⟩ => ⟨S64x64x16, .f32⟩
  | .hbm, ⟨32, _⟩ => ⟨S64x64x16, .f32⟩
  | .hbm, ⟨33, _⟩ => ⟨S64x64x1, .f32⟩
  | .hbm, ⟨34, _⟩ => ⟨S64x64x16, .f32⟩
  | .hbm, ⟨35, _⟩ => ⟨S64x64x16, .f32⟩
  | .hbm, ⟨36, _⟩ => ⟨S64x64x16, .f32⟩
  | .hbm, ⟨37, _⟩ => ⟨S64x64x1, .f32⟩
  | .hbm, ⟨38, _⟩ => ⟨S64x64x16, .f32⟩
  | .hbm, ⟨39, _⟩ => ⟨S64x64x16, .f32⟩
  | .hbm, ⟨40, _⟩ => ⟨S64x64x1, .f32⟩
  | .hbm, ⟨41, _⟩ => ⟨S64x64x16, .f32⟩
  | .hbm, ⟨42, _⟩ => ⟨S64x64x16, .f32⟩
  | .hbm, ⟨43, _⟩ => ⟨S64x64x16, .f32⟩
  | .hbm, ⟨44, _⟩ => ⟨S16x64x64, .f32⟩
  | .hbm, ⟨45, _⟩ => ⟨S16x4096, .f32⟩
  | .hbm, ⟨46, _⟩ => ⟨S16x64x64, .f32⟩
  | .hbm, ⟨47, _⟩ => ⟨S16x4096, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩

abbrev nD : Nat := 1
abbrev τ : Topo := Topo.v7x

variable {F : FTy → Type} [FloatOps F]
-- ==== Proof.RetMath.lean ====
/-
  The retention of one head over the reals: the weighted sum over all earlier positions, and what a chunk of positions
  adds to the state and reads from it.
-/
module

public import Mathlib.Algebra.BigOperators.Fin
public import Mathlib.Data.EReal.Operations
public import Mathlib.Data.Real.Basic
public import Mathlib.Tactic.Ring

@[expose] public section

noncomputable section

namespace Cert.Retain

/-- The state after `n` positions, at one lane of the keys and one of the values. -/
def state (γ : ℝ) (k v : ℕ → ℝ) (n : ℕ) : ℝ := ∑ s ∈ Finset.range n, γ ^ (n - 1 - s) * (k s * v s)

/-- The output at position `t`, at one lane of the values. -/
def reads {d : ℕ} (γ : ℝ) (q k : ℕ → Fin d → ℝ) (v : ℕ → ℝ) (t : ℕ) : ℝ :=
  ∑ s ∈ Finset.range (t + 1), γ ^ (t - s) * ((∑ l, q t l * k s l) * v s)

theorem state_zero (γ : ℝ) (k v : ℕ → ℝ) : state γ k v 0 = 0 := by simp [state]

/-- A chunk of `C` positions carries the state on. -/
theorem state_add (γ : ℝ) (k v : ℕ → ℝ) (a C : ℕ) :
    state γ k v a * γ ^ C + ∑ j : Fin C, k (a + j) * γ ^ (C - 1 - (j : ℕ)) * v (a + j) = state γ k v (a + C) := by
  unfold state
  rw [Finset.sum_range_add, Finset.sum_mul, ← Finset.sum_range (fun j => k (a + j) * γ ^ (C - 1 - j) * v (a + j))]
  refine congr (congrArg _ (Finset.sum_congr rfl fun s hs => ?_)) (Finset.sum_congr rfl fun j hj => ?_)
  · have h := Finset.mem_range.mp hs
    rw [show a + C - 1 - s = (a - 1 - s) + C by omega, pow_add]; ring
  · rw [show a + C - 1 - (a + j) = C - 1 - j by omega]; ring

/-- A position's output from its own chunk and the state before it. -/
theorem reads_add {d : ℕ} (γ : ℝ) (q k : ℕ → Fin d → ℝ) (v : ℕ → ℝ) (a C : ℕ) (r : Fin C) :
    (∑ j : Fin C, (∑ l, q (a + r) l * k (a + j) l) * (if (j : ℕ) ≤ r then γ ^ ((r : ℕ) - j) else 0) * v (a + j))
      + ∑ l, q (a + r) l * γ ^ ((r : ℕ) + 1) * state γ (fun s => k s l) v a = reads γ q k v (a + r) := by
  unfold reads state
  rw [show a + (r : ℕ) + 1 = a + (r + 1) by omega, Finset.sum_range_add, add_comm]
  refine congr (congrArg _ ?_) ?_
  · simp only [Finset.mul_sum, Finset.sum_mul]
    rw [Finset.sum_comm]
    refine Finset.sum_congr rfl fun s hs => Finset.sum_congr rfl fun l _ => ?_
    have h := Finset.mem_range.mp hs
    rw [show a + (r : ℕ) - s = (a - 1 - s) + (r + 1) by omega, pow_add γ (a - 1 - s)]; ring
  · rw [← Finset.sum_range (fun j => (∑ l, q (a + r) l * k (a + j) l) * (if j ≤ (r : ℕ) then γ ^ ((r : ℕ) - j) else 0) * v (a + j))]
    have hr := r.isLt
    rw [← Finset.sum_subset (Finset.range_subset_range.mpr (show (r : ℕ) + 1 ≤ C by omega))]
    · refine Finset.sum_congr rfl fun j hj => ?_
      have h := Finset.mem_range.mp hj
      rw [if_pos (by omega), show a + (r : ℕ) - (a + j) = r - j by omega]; ring
    · intro j _ hj
      rw [if_neg (fun h => hj (Finset.mem_range.mpr (by omega)))]; ring

/-- A sum of reals, read among the extended reals. -/
theorem coe_sum {ι : Type} (s : Finset ι) (f : ι → ℝ) : (∑ i ∈ s, (f i : EReal)) = ((∑ i ∈ s, f i : ℝ) : EReal) := by
  induction s using Finset.cons_induction with
  | empty => simp
  | cons a s h ih => rw [Finset.sum_cons, Finset.sum_cons, ih, EReal.coe_add]

end Cert.Retain

end
-- ==== Proof.RetBody.lean ====
/-
  What one head of the retention does over a chunk, as one composition of operations that the four heads share, and
  its values when the inputs are real.
-/
module

public import proofs.«01_k».proof.Defs
public import proofs.«01_k».proof.Proof.RetMath
public import proofs.«01_k».proof.Proof.Gen.KernelIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Retain

/-- A head's reading over a chunk: the chunk's own positions under the decaying mask, and the state before them. -/
def mixed (lg : EReal) (q k : FVec Ideal S256x128 .f32) (v : FVec Ideal S256x256 .bf16) (s : FVec Ideal S1x128x256 .f32) :
    FVec Ideal S256x256 .f32 :=
  addf
    (matmul dot_S256x256_S256x256_S256x256_1_0_0_1_n_n none
      (truncf .bf16
        (mulf
          (matmul dot_S256x128_S256x128_S256x256_1_1_0_0_n_n none (truncf .bf16 q bitsLt_bf16_f32) (truncf .bf16 k bitsLt_bf16_f32)
            (constant S256x256 .f32 0x00000000#32))
          (select
            (cmpi .sge (iota .tc S256x256 32 [0] iota_S256x256_d0_w32) (iota .tc S256x256 32 [1] iota_S256x256_d1_w32))
            (exp (mulf (broadcast S256x256 (lg : Ideal .f32)) (k0_pay3 (F := Ideal))))
            (broadcast S256x256 (Scalar.ofBits .f32 0x00000000#32))))
        bitsLt_bf16_f32)
      v (constant S256x256 .f32 0x00000000#32))
    (matmul dot_S256x128_S128x256_S256x256_1_0_0_1_n_n none
      (truncf .bf16
        (mulf q
          (broadcastTo S256x128
            (exp (mulf (broadcast S256x1 (lg : Ideal .f32)) (addf (k0_pay4 (F := Ideal)) (broadcast S256x1 (Scalar.ofBits .f32 0x3F800000#32)))))
            broadcasts_S256x1_S256x128))
        bitsLt_bf16_f32)
      (truncf .bf16 (shapeCast S128x256 s shapeCasts_S1x128x256_S128x256) bitsLt_bf16_f32)
      (constant S256x256 .f32 0x00000000#32))

/-- A head's state after a chunk. -/
def carried (lg gc : EReal) (k : FVec Ideal S256x128 .f32) (v : FVec Ideal S256x256 .bf16) (s : FVec Ideal S1x128x256 .f32) :
    FVec Ideal S1x128x256 .f32 :=
  shapeCast S1x128x256
    (addf (mulf (shapeCast S128x256 s shapeCasts_S1x128x256_S128x256) (broadcast S128x256 (gc : Ideal .f32)))
      (matmul dot_S256x128_S256x256_S128x256_0_0_1_1_n_n none
        (truncf .bf16
          (mulf k
            (broadcastTo S256x128
              (exp (mulf (broadcast S256x1 (lg : Ideal .f32)) (subf (broadcast S256x1 (Scalar.ofBits .f32 0x437F0000#32)) (k0_pay4 (F := Ideal)))))
              broadcasts_S256x1_S256x128))
          bitsLt_bf16_f32)
        v (constant S128x256 .f32 0x00000000#32)))
    shapeCasts_S128x256_S1x128x256

/-- What a head stores: its reading over its root mean square, gated. -/
def closed (o : FVec Ideal S256x256 .f32) (g : FVec Ideal S1x256x256 .f32) : FVec Ideal S1x256x256 .bf16 :=
  k0_pay16 o
    (rsqrt
      (addf
        (divf
          (shapeCast S256x1 (multiReduction .add [1] S256 (mulf o o) 0x00000000#32 reduces_S256x256_S256 (.inl rfl) rfl) shapeCasts_S256_S256x1)
          (broadcast S256x1 (Scalar.ofBits .f32 0x43800000#32)))
        (broadcast S256x1 (Scalar.ofBits .f32 0x358637BD#32))))
    g

/-- A head's stored block from the blocks it reads. -/
def headOut (lg : EReal) (c s : FVec Ideal S256x128 .f32) (xq xk : FVec Ideal S1x256x128 .f32) (xv xg : FVec Ideal S1x256x256 .f32)
    (st : FVec Ideal S1x128x256 .f32) : FVec Ideal S1x256x256 .bf16 :=
  closed (mixed lg (k0_pay7 c s xq) (k0_pay8 c s xk) (k0_pay9 xv) st) xg

/-- A head's state after a chunk, from the blocks it reads. -/
def headState (lg gc : EReal) (c s : FVec Ideal S256x128 .f32) (xk : FVec Ideal S1x256x128 .f32) (xv : FVec Ideal S1x256x256 .f32)
    (st : FVec Ideal S1x128x256 .f32) : FVec Ideal S1x128x256 .f32 :=
  carried lg gc (k0_pay8 c s xk) (k0_pay9 xv) st

/-- The logarithm of a head's decay, as the program names it. -/
def logs : Fin 4 → EReal
  | 0 => (Named.named (F := Ideal) κ "log_g0" 0xBD020AEC#32 : Ideal .f32)
  | 1 => (Named.named (F := Ideal) κ "log_g1" 0xBC8102B3#32 : Ideal .f32)
  | 2 => (Named.named (F := Ideal) κ "log_g2" 0xBC0080AC#32 : Ideal .f32)
  | 3 => (Named.named (F := Ideal) κ "log_g3" 0xBB80402B#32 : Ideal .f32)

/-- The decay of a whole chunk, as the program names it. -/
def decays : Fin 4 → EReal
  | 0 => (Named.named (F := Ideal) κ "gamma0_c" 0x399ACCA1#32 : Ideal .f32)
  | 1 => (Named.named (F := Ideal) κ "gamma1_c" 0x3C9160A5#32 : Ideal .f32)
  | 2 => (Named.named (F := Ideal) κ "gamma2_c" 0x3E097FCE#32 : Ideal .f32)
  | 3 => (Named.named (F := Ideal) κ "gamma3_c" 0x3EBBFC5D#32 : Ideal .f32)

section heads

variable (c s : FVec Ideal S256x128 .f32) (xq xk : FVec Ideal S1x256x128 .f32) (xv xg : FVec Ideal S1x256x256 .f32)
  (st : FVec Ideal S1x128x256 .f32)

theorem out0 : k0_pay16 (k0_pay13 (k0_pay4 (F := Ideal)) (k0_pay7 c s xq) (k0_pay8 c s xk) (k0_pay9 xv) (k0_pay10 (F := Ideal)) (k0_pay11 c s xq) st)
    (k0_pay15 (k0_pay4 (F := Ideal)) (k0_pay7 c s xq) (k0_pay8 c s xk) (k0_pay9 xv) (k0_pay10 (F := Ideal)) (k0_pay11 c s xq) st) xg
    = headOut (logs 0) c s xq xk xv xg st := rfl

theorem out1 : k0_pay24 (k0_pay23 (k0_pay4 (F := Ideal)) (k0_pay17 (k0_pay5 c) (k0_pay6 s) xq) (k0_pay19 xv)
      (k0_pay20 (iota Kind.tc S256x256 32 [0] iota_S256x256_d0_w32) (iota Kind.tc S256x256 32 [1] iota_S256x256_d1_w32) (k0_pay3 (F := Ideal))
        (k0_pay5 c) (k0_pay6 s) xq xk) st) xg
    = headOut (logs 1) c s xq xk xv xg st := rfl

theorem out2 : k0_pay33 (k0_pay31 xg) (k0_pay32 (k0_pay4 (F := Ideal)) (k0_pay25 (k0_pay5 c) (k0_pay6 s) xq) (k0_pay27 xv)
      (k0_pay28 (iota Kind.tc S256x256 32 [0] iota_S256x256_d0_w32) (iota Kind.tc S256x256 32 [1] iota_S256x256_d1_w32) (k0_pay3 (F := Ideal))
        (k0_pay5 c) (k0_pay6 s) xq xk) st xg)
    = headOut (logs 2) c s xq xk xv xg st := rfl

theorem out3 : k0_pay1 (k0_pay40 (k0_pay4 (F := Ideal)) (k0_pay34 (k0_pay5 c) (k0_pay6 s) xq) (k0_pay37 st)
      (k0_pay38 (iota Kind.tc S256x256 32 [0] iota_S256x256_d0_w32) (iota Kind.tc S256x256 32 [1] iota_S256x256_d1_w32) (k0_pay3 (F := Ideal))
        (k0_pay5 c) (k0_pay6 s) xq xk xv) xg)
    = headOut (logs 3) c s xq xk xv xg st := rfl

theorem state0 : k0_pay14 (k0_pay4 (F := Ideal)) (k0_pay8 c s xk) (k0_pay9 xv) st = headState (logs 0) (decays 0) c s xk xv st := rfl

theorem state1 : k0_pay22 (k0_pay4 (F := Ideal)) (k0_pay18 (k0_pay5 c) (k0_pay6 s) xk) (k0_pay19 xv) st
    = headState (logs 1) (decays 1) c s xk xv st := rfl

theorem state2 : k0_pay30 (k0_pay4 (F := Ideal)) (k0_pay26 (k0_pay5 c) (k0_pay6 s) xk) (k0_pay27 xv) st
    = headState (logs 2) (decays 2) c s xk xv st := rfl

theorem state3 : k0_pay39 (k0_pay4 (F := Ideal)) (k0_pay35 (k0_pay5 c) (k0_pay6 s) xk) (k0_pay36 xv) (k0_pay37 st)
    = headState (logs 3) (decays 3) c s xk xv st := rfl

end heads

/-- The bits of 255. -/
theorem of255 : Ideal.ofBits .f32 0x437F0000#32 = ((255 : ℝ) : EReal) := by
  simp [Ideal.ofBits, Ideal.ieee, -EReal.coe_mul]; norm_num

/-- The bits of 127. -/
theorem of127 : Ideal.ofBits .f32 0x42FE0000#32 = ((127 : ℝ) : EReal) := by
  simp [Ideal.ofBits, Ideal.ieee, -EReal.coe_mul]; norm_num

/-- The bits of 128. -/
theorem of128 : Ideal.ofBits .f32 0x43000000#32 = ((128 : ℝ) : EReal) := by
  simp [Ideal.ofBits, Ideal.ieee, -EReal.coe_mul]; norm_num

/-- The bits of 2. -/
theorem of2 : Ideal.ofBits .f32 0x40000000#32 = ((2 : ℝ) : EReal) := by
  simp [Ideal.ofBits, Ideal.ieee, -EReal.coe_mul]; norm_num

/-- The bits of −5. -/
theorem of_neg5 : Ideal.ofBits .f32 0xC0A00000#32 = ((-5 : ℝ) : EReal) := by
  simp [Ideal.ofBits, Ideal.ieee, -EReal.coe_mul]; norm_num

/-- The bits of −∞. -/
theorem of_bot : Ideal.ofBits .f32 0xFF800000#32 = (⊥ : EReal) := by
  simp [Ideal.ofBits, Ideal.ieee]

/-- The bits of +∞. -/
theorem of_top : Ideal.ofBits .f32 0x7F800000#32 = (⊤ : EReal) := by
  simp [Ideal.ofBits, Ideal.ieee]

/-- The keys' factor is a real number. -/
theorem of_scale : ∃ κ : ℝ, Ideal.ofBits .f32 0x3DB504F3#32 = ((κ : ℝ) : EReal) := by
  simp [Ideal.ofBits, Ideal.ieee, -EReal.coe_mul]

/-- The power a logarithm names. -/
theorem exp_log (γ : ℝ) (hγ : 0 < γ) (n : ℕ) : Ideal.exp (((Real.log γ : ℝ) : EReal) * ((n : ℝ) : EReal)) = ((γ ^ n : ℝ) : EReal) := by
  rw [← EReal.coe_mul]
  show ((Real.exp (Real.log γ * n) : ℝ) : EReal) = _
  rw [mul_comm, Real.exp_nat_mul, Real.exp_log hγ]

/-- A word's value as an integer, of two small naturals' difference in order. -/
theorem word_sub (r j : ℕ) (hr : r < 2048) (hj : j ≤ r) : (BitVec.ofNat 32 r - BitVec.ofNat 32 j).toInt = ((r - j : ℕ) : ℤ) := by
  have e : BitVec.ofNat 32 r - BitVec.ofNat 32 j = BitVec.ofNat 32 (r - j) := by
    apply BitVec.eq_of_toNat_eq; simp only [BitVec.toNat_sub, BitVec.toNat_ofNat]; omega
  rw [e, BitVec.toInt_eq_toNat_of_lt (by simp only [BitVec.toNat_ofNat]; omega)]
  simp only [BitVec.toNat_ofNat]; omega

/-- A small natural's word as an integer. -/
theorem word_int (r : ℕ) (hr : r < 2048) : (BitVec.ofNat 32 r).toInt = ((r : ℕ) : ℤ) := by
  rw [BitVec.toInt_eq_toNat_of_lt (by simp only [BitVec.toNat_ofNat]; omega)]
  simp only [BitVec.toNat_ofNat]; omega

/-- A small natural's word as a float. -/
theorem word_float (r : ℕ) (hr : r < 2048) : (FloatOps.sitofp (F := Ideal) FTy.f32 (BitVec.ofNat 32 r) : EReal) = ((r : ℝ) : EReal) := by
  show (((BitVec.ofNat 32 r).toInt : ℝ) : EReal) = _
  rw [word_int r hr]; norm_cast

/-- The decay between two positions in order. -/
theorem decay_between (γ : ℝ) (hγ : 0 < γ) (r j : ℕ) (hr : r < 2048) (hj : j ≤ r) :
    Ideal.exp (((Real.log γ : ℝ) : EReal) * (FloatOps.sitofp (F := Ideal) FTy.f32 (IntOp.subi (BitVec.ofNat 32 r) (BitVec.ofNat 32 j)) : EReal))
      = ((γ ^ (r - j) : ℝ) : EReal) := by
  rw [← exp_log γ hγ]
  refine congrArg _ (congrArg _ ?_)
  show (((BitVec.ofNat 32 r - BitVec.ofNat 32 j).toInt : ℝ) : EReal) = _
  rw [word_sub r j hr hj]; norm_cast

/-- A test of one small natural's word against another's decides their order. -/
theorem word_test (r j : ℕ) (hr : r < 2048) (hj : j < 2048) (a b : EReal) :
    Scalar.select (IntOp.cmpi CmpIPredicate.sge (BitVec.ofNat 32 r) (BitVec.ofNat 32 j)) a b = if j ≤ r then a else b := by
  have e : (BitVec.ofNat 32 j).sle (BitVec.ofNat 32 r) = decide (j ≤ r) := by
    rw [BitVec.sle, word_int r hr, word_int j hj]; simp
  by_cases h : j ≤ r <;> simp [Scalar.select, IntOp.cmpi, e, h]

/-- A head's reading over a chunk that starts at position `a`, of real values. -/
theorem mixed_real (γ : ℝ) (hγ : 0 < γ) (q k : ℕ → Fin 128 → ℝ) (v : ℕ → Fin 256 → ℝ) (a : ℕ) (xq xk : FVec Ideal S256x128 .f32)
    (xv : FVec Ideal S256x256 .bf16) (st : FVec Ideal S1x128x256 .f32) (hq : ∀ r l, xq (ix2 r l) = ((q (a + r) l : ℝ) : EReal))
    (hk : ∀ r l, xk (ix2 r l) = ((k (a + r) l : ℝ) : EReal)) (hv : ∀ r e, xv (ix2 r e) = ((v (a + r) e : ℝ) : EReal))
    (hs : ∀ l e, st (ix3 0 l e) = ((state γ (fun s => k s l) (fun s => v s e) a : ℝ) : EReal)) (r e : Fin 256) :
    mixed ((Real.log γ : ℝ) : EReal) xq xk xv st (ix2 r e) = ((reads γ q k (fun s => v s e) (a + r) : ℝ) : EReal) := by
  have hr := r.isLt
  pointwise [mixed, k0_pay3, k0_pay4]
  rw [← reads_add γ q k (fun s => v s e) a 256 r, EReal.coe_add, ← coe_sum, ← coe_sum]
  refine congr (congrArg _ (Finset.sum_congr rfl fun j _ => ?_)) (Finset.sum_congr rfl fun l _ => ?_)
  · have hj := j.isLt
    rw [word_test r j (by omega) (by omega)]
    by_cases h : (j : ℕ) ≤ r
    · rw [if_pos h, if_pos h, decay_between γ hγ r j (by omega) h, hv]
      simp only [hq, hk, ← EReal.coe_mul, coe_sum]
    · rw [if_neg h, if_neg h]; simp
  · rw [hq, hs, word_float r (by omega), show ((r : ℕ) : ℝ) = (((r : ℕ) : ℕ) : ℝ) from rfl,
      show ((((r : ℕ) : ℝ) : EReal) + 1) = (((((r : ℕ) + 1 : ℕ)) : ℝ) : EReal) by push_cast; rfl, exp_log γ hγ]
    simp only [← EReal.coe_mul]

/-- A head's state after a chunk that starts at position `a`, of real values. -/
theorem carried_real (γ : ℝ) (hγ : 0 < γ) (k : ℕ → Fin 128 → ℝ) (v : ℕ → Fin 256 → ℝ) (a : ℕ) (xk : FVec Ideal S256x128 .f32)
    (xv : FVec Ideal S256x256 .bf16) (st : FVec Ideal S1x128x256 .f32)
    (hk : ∀ r l, xk (ix2 r l) = ((k (a + r) l : ℝ) : EReal)) (hv : ∀ r e, xv (ix2 r e) = ((v (a + r) e : ℝ) : EReal))
    (hs : ∀ l e, st (ix3 0 l e) = ((state γ (fun s => k s l) (fun s => v s e) a : ℝ) : EReal)) (d : Fin 128) (e : Fin 256) :
    carried ((Real.log γ : ℝ) : EReal) ((γ ^ 256 : ℝ) : EReal) xk xv st (ix3 0 d e)
      = ((state γ (fun s => k s d) (fun s => v s e) (a + 256) : ℝ) : EReal) := by
  pointwise [carried, k0_pay4]
  rw [← state_add γ _ _ a 256, EReal.coe_add, ← coe_sum, hs, ← EReal.coe_mul]
  refine congrArg _ (Finset.sum_congr rfl fun j _ => ?_)
  have hj := j.isLt
  rw [hk, hv, word_float j (by omega), of255, ← EReal.coe_sub,
    show ((255 : ℝ) - ((j : ℕ) : ℝ)) = ((256 - 1 - (j : ℕ) : ℕ) : ℝ) by rw [Nat.cast_sub (by omega)]; norm_num, exp_log γ hγ]
  simp only [← EReal.coe_mul]

/-- What a head stores at an index. -/
def closedAt (o : Fin 256 → EReal) (g : EReal) (e : Fin 256) : EReal :=
  o e * Ideal.rsqrt (Ideal.div (∑ x, o x * o x) (Ideal.ofBits FTy.f32 0x43800000#32) + Ideal.ofBits FTy.f32 0x358637BD#32) * g * Ideal.logistic g

theorem closed_at (o : FVec Ideal S256x256 .f32) (g : FVec Ideal S1x256x256 .f32) (r e : Fin 256) :
    closed o g (ix3 0 r e) = closedAt (fun x => o (ix2 r x)) (g (ix3 0 r e)) e := by
  pointwise [closed, closedAt, k0_pay16]

/-- The decay of each head. -/
def gam (h : ℕ) : ℝ := 1 - 1 / 2 ^ (5 + h)

theorem gam_pos (h : ℕ) : 0 < gam h := by
  have : (1 : ℝ) < 2 ^ (5 + h) := one_lt_pow₀ (by norm_num) (by omega)
  unfold gam; rw [sub_pos, div_lt_one (by linarith)]; exact this

theorem logs_eq (h : Fin 4) : logs h = ((Real.log (gam h) : ℝ) : EReal) := by
  fin_cases h
  · refine (IdealRules.named_const.ideal_named_scalar _ _ _ _ rfl).trans ?_
    norm_num [gam]
  · refine (IdealRules.named_const.ideal_named_scalar _ _ _ _ rfl).trans ?_
    norm_num [gam]
  · refine (IdealRules.named_const.ideal_named_scalar _ _ _ _ rfl).trans ?_
    norm_num [gam]
  · refine (IdealRules.named_const.ideal_named_scalar _ _ _ _ rfl).trans ?_
    norm_num [gam]

theorem decays_eq (h : Fin 4) : decays h = ((gam h ^ 256 : ℝ) : EReal) := by
  fin_cases h
  · refine (IdealRules.named_const.ideal_named_scalar _ _ _ _ rfl).trans ?_
    norm_num [gam, -EReal.coe_pow]
  · refine (IdealRules.named_const.ideal_named_scalar _ _ _ _ rfl).trans ?_
    norm_num [gam, -EReal.coe_pow]
  · refine (IdealRules.named_const.ideal_named_scalar _ _ _ _ rfl).trans ?_
    norm_num [gam, -EReal.coe_pow]
  · refine (IdealRules.named_const.ideal_named_scalar _ _ _ _ rfl).trans ?_
    norm_num [gam, -EReal.coe_pow]

end Cert.KernelIdeal.Value

end
-- ==== Proof.RetSpec.lean ====
/-
  The retention in real numbers: its rotated rows, its states and its readings, and real arrays read off finite ones.
-/
module

public import proofs.«01_k».proof.Defs
public import proofs.«01_k».proof.Proof.RetMath
public import proofs.«01_k».proof.Proof.RetBody
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Retain

/-- Real arrays the retention reads: queries, keys, values and the two tables. -/
structure Arrays where
  q : ℕ → ℕ → ℕ → ℝ
  k : ℕ → ℕ → ℕ → ℝ
  v : ℕ → ℕ → ℕ → ℝ
  c : ℕ → ℕ → ℝ
  s : ℕ → ℕ → ℝ

/-- The rotation of one head's row. -/
def rot (x : ℕ → ℝ) (c s : ℕ → ℝ) (l : ℕ) : ℝ :=
  if l < 64 then x l * c l - x (64 + l) * s l else x (l - 64) * s (l - 64) + x (64 + (l - 64)) * c (l - 64)

/-- The keys' factor. -/
def scale : ℝ := Cert.KernelIdeal.Value.of_scale.choose

theorem of_scale : Ideal.ofBits .f32 0x3DB504F3#32 = ((scale : ℝ) : EReal) := Cert.KernelIdeal.Value.of_scale.choose_spec

variable (A : Arrays) (b h : ℕ)

/-- A head's queries, keys and values at a position. -/
def rowQ (t : ℕ) (l : Fin 128) : ℝ := rot (fun d => A.q b t (h * 128 + d)) (A.c t) (A.s t) l
def rowK (t : ℕ) (l : Fin 128) : ℝ := rot (fun d => A.k b t (h * 128 + d)) (A.c t) (A.s t) l * scale
def rowV (t : ℕ) (e : Fin 256) : ℝ := A.v b t (h * 256 + e)

/-- The logarithm's argument of a head. -/
abbrev gam (h : ℕ) : ℝ := Cert.KernelIdeal.Value.gam h

/-- A head's state before position `n`. -/
def kept (d : Fin 128) (e : Fin 256) (n : ℕ) : ℝ := state (gam h) (fun s => rowK A b h s d) (fun s => rowV A b h s e) n

/-- A head's reading at position `t`. -/
def answer (t : ℕ) (e : Fin 256) : ℝ := reads (gam h) (rowQ A b h) (rowK A b h) (fun s => rowV A b h s e) t

/-- A value whose absolute value lies below the top is real. -/
theorem real_of_lt (x : EReal) (h : Ideal.cmp .olt (max x (-x)) (Ideal.ofBits .f32 0x7F800000#32) = 1#1) : ∃ r : ℝ, x = ((r : ℝ) : EReal) := by
  rw [Cert.KernelIdeal.Value.of_top] at h
  induction x using EReal.rec with
  | bot => simp [Ideal.cmp] at h
  | coe r => exact ⟨r, rfl⟩
  | top => simp [Ideal.cmp] at h

/-- A three-index array of real values is one of naturals. -/
theorem reals3 {n0 n1 n2 : ℕ} (x : (⟨3, ![n0, n1, n2]⟩ : Shape).Idx → EReal) (h : ∀ i, ∃ r : ℝ, x i = ((r : ℝ) : EReal)) :
    ∃ f : ℕ → ℕ → ℕ → ℝ, ∀ a b c, x (ix3 a b c) = ((f a b c : ℝ) : EReal) := by
  choose g hg using h
  refine ⟨fun a b c => if p : a < n0 ∧ b < n1 ∧ c < n2 then g (ix3 ⟨a, p.1⟩ ⟨b, p.2.1⟩ ⟨c, p.2.2⟩) else 0, fun a b c => ?_⟩
  simp only [a.isLt, b.isLt, c.isLt, and_self, dite_true]; exact hg _

/-- A two-index array of real values is one of naturals. -/
theorem reals2 {n0 n1 : ℕ} (x : (⟨2, ![n0, n1]⟩ : Shape).Idx → EReal) (h : ∀ i, ∃ r : ℝ, x i = ((r : ℝ) : EReal)) :
    ∃ f : ℕ → ℕ → ℝ, ∀ a b, x (ix2 a b) = ((f a b : ℝ) : EReal) := by
  choose g hg using h
  refine ⟨fun a b => if p : a < n0 ∧ b < n1 then g (ix2 ⟨a, p.1⟩ ⟨b, p.2⟩) else 0, fun a b => ?_⟩
  simp only [a.isLt, b.isLt, and_self, dite_true]; exact hg _

end Cert.Retain

end
-- ==== Proof.RetPre.lean ====
/-
  The reference of the retention before its loop: what the loop's buffers and the inner output hold, as functions of
  the arguments.
-/
module

public import proofs.«01_k».proof.Defs
public import proofs.«01_k».proof.Proof.Gen.ReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceIdeal.Value

open Cert.ReferenceIdeal Cert.ReferenceIdeal.Gen Idealize.ShloMosaic.StableHlo

variable (m : (ℓ : Loc nD τ sig) → Buf (Elt Ideal) ℓ)

/-- The rotation of a row's heads by the tables. -/
def rotOf (X : FVec Ideal S4x2048x512 .f32) (C S : FVec Ideal S2048x64 .f32) : FVec Ideal S4x2048x4x128 .f32 :=
  concatenate S4x2048x4x128 3
    [⟨S4x2048x4x64, subf
        (mulf (extractStridedSlice S4x2048x4x64 ![0, 0, 0, 0] (shapeCast S4x2048x4x128 X shapeCasts_S4x2048x512_S4x2048x4x128) slices_S4x2048x4x128_S4x2048x4x64_0_0_0_0)
          (broadcastInDim S4x2048x4x64 ![0, 1, 2, 3] bcast_S1x2048x1x64_S4x2048x4x64_0_1_2_3 (broadcastInDim S1x2048x1x64 ![1, 3] bcast_S2048x64_S1x2048x1x64_1_3 C)))
        (mulf (extractStridedSlice S4x2048x4x64 ![0, 0, 0, 64] (shapeCast S4x2048x4x128 X shapeCasts_S4x2048x512_S4x2048x4x128) slices_S4x2048x4x128_S4x2048x4x64_0_0_0_64)
          (broadcastInDim S4x2048x4x64 ![0, 1, 2, 3] bcast_S1x2048x1x64_S4x2048x4x64_0_1_2_3 (broadcastInDim S1x2048x1x64 ![1, 3] bcast_S2048x64_S1x2048x1x64_1_3 S)))⟩,
     ⟨S4x2048x4x64, addf
        (mulf (extractStridedSlice S4x2048x4x64 ![0, 0, 0, 0] (shapeCast S4x2048x4x128 X shapeCasts_S4x2048x512_S4x2048x4x128) slices_S4x2048x4x128_S4x2048x4x64_0_0_0_0)
          (broadcastInDim S4x2048x4x64 ![0, 1, 2, 3] bcast_S1x2048x1x64_S4x2048x4x64_0_1_2_3 (broadcastInDim S1x2048x1x64 ![1, 3] bcast_S2048x64_S1x2048x1x64_1_3 S)))
        (mulf (extractStridedSlice S4x2048x4x64 ![0, 0, 0, 64] (shapeCast S4x2048x4x128 X shapeCasts_S4x2048x512_S4x2048x4x128) slices_S4x2048x4x128_S4x2048x4x64_0_0_0_64)
          (broadcastInDim S4x2048x4x64 ![0, 1, 2, 3] bcast_S1x2048x1x64_S4x2048x4x64_0_1_2_3 (broadcastInDim S1x2048x1x64 ![1, 3] bcast_S2048x64_S1x2048x1x64_1_3 C)))⟩]
    concatenates_S4x2048x4x64_S4x2048x4x64_S4x2048x4x128_d3

/-- The rotated queries, in chunks. -/
def qOf (X : FVec Ideal S4x2048x512 .f32) (C S : FVec Ideal S2048x64 .f32) : FVec Ideal S4x16x4x128x128 .f32 :=
  transpose S4x16x4x128x128 [0, 1, 3, 2, 4] (shapeCast S4x16x128x4x128 (rotOf X C S) shapeCasts_S4x2048x4x128_S4x16x128x4x128)
    transposes_S4x16x128x4x128_S4x16x4x128x128_0_1_3_2_4

/-- The rotated keys, scaled, in chunks. -/
def kOf (X : FVec Ideal S4x2048x512 .f32) (C S : FVec Ideal S2048x64 .f32) : FVec Ideal S4x16x4x128x128 .f32 :=
  transpose S4x16x4x128x128 [0, 1, 3, 2, 4]
    (shapeCast S4x16x128x4x128
      (mulf (rotOf X C S) (broadcastInDim S4x2048x4x128 ![] bcast_S_S4x2048x4x128 (constant S_ .f32 0x3DB504F3#32)))
      shapeCasts_S4x2048x4x128_S4x16x128x4x128)
    transposes_S4x16x128x4x128_S4x16x4x128x128_0_1_3_2_4

/-- The values, in chunks. -/
def vOf (X : FVec Ideal S4x2048x1024 .f32) : FVec Ideal S4x16x4x128x256 .f32 :=
  transpose S4x16x4x128x256 [0, 1, 3, 2, 4]
    (shapeCast S4x16x128x4x256 (shapeCast S4x2048x4x256 X shapeCasts_S4x2048x1024_S4x2048x4x256) shapeCasts_S4x2048x4x256_S4x16x128x4x256)
    transposes_S4x16x128x4x256_S4x16x4x128x256_0_1_3_2_4

/-- The logarithms of the heads' decays. -/
def lgOf : FVec Ideal S4 .f32 :=
  Host.log (subf (broadcastInDim S4 ![] bcast_S_S4 (constant S_ .f32 0x3F800000#32))
    (Host.powf (broadcastInDim S4 ![] bcast_S_S4 (constant S_ .f32 0x40000000#32))
      (subf (broadcastInDim S4 ![] bcast_S_S4 (constant S_ .f32 0xC0A00000#32)) (sitofp .f32 (iotaInDim S4 32 0)))))

/-- The positions of a chunk. -/
def ixOf : FVec Ideal S128 .f32 := sitofp .f32 (iotaInDim S128 32 0)

/-- The lower triangle. -/
def trilOf : IVec S128x128 1 :=
  select (cmpi .sge (addi (iotaInDim S128x128 32 0) (broadcastInDim S128x128 ![] bcast_S_S128x128 (constantI S_ 32 0#32))) (iotaInDim S128x128 32 1))
    (broadcastInDim S128x128 ![] bcast_S_S128x128 (constantI S_ 1 1#1)) (broadcastInDim S128x128 ![] bcast_S_S128x128 (constantI S_ 1 0#1))

/-- The decaying mask of a chunk. -/
def maskOf : FVec Ideal S4x128x128 .f32 :=
  Host.exp
    (select (broadcastInDim S4x128x128 ![1, 2] bcast_S128x128_S4x128x128_1_2 trilOf)
      (mulf (broadcastInDim S4x128x128 ![0, 1, 2] bcast_S4x1x1_S4x128x128_0_1_2 (broadcastInDim S4x1x1 ![0] bcast_S4_S4x1x1_0 lgOf))
        (broadcastInDim S4x128x128 ![0, 1, 2] bcast_S1x128x128_S4x128x128_0_1_2
          (broadcastInDim S1x128x128 ![1, 2] bcast_S128x128_S1x128x128_1_2
            (subf (broadcastInDim S128x128 ![0, 1] bcast_S128x1_S128x128_0_1 (broadcastInDim S128x1 ![0] bcast_S128_S128x1_0 ixOf))
              (broadcastInDim S128x128 ![0, 1] bcast_S1x128_S128x128_0_1 (broadcastInDim S1x128 ![1] bcast_S128_S1x128_1 ixOf))))))
      (broadcastInDim S4x128x128 ![] bcast_S_S4x128x128 (constant S_ .f32 0xFF800000#32)))

/-- The chunks' own outputs. -/
def innerOf (Q K : FVec Ideal S4x16x4x128x128 .f32) (V : FVec Ideal S4x16x4x128x256 .f32) : FVec Ideal S4x16x4x128x256 .f32 :=
  Host.dotGeneral dot_S4x16x4x128x128_S4x16x4x128x256_S4x16x4x128x256_4_3_3_4_012_012 none
    (mulf (Host.dotGeneral dot_S4x16x4x128x128_S4x16x4x128x128_S4x16x4x128x128_4_4_3_3_012_012 none Q K)
      (broadcastInDim S4x16x4x128x128 ![0, 1, 2, 3, 4] bcast_S1x1x4x128x128_S4x16x4x128x128_0_1_2_3_4
        (broadcastInDim S1x1x4x128x128 ![2, 3, 4] bcast_S4x128x128_S1x1x4x128x128_2_3_4 maskOf)))
    V

/-- A decay at the positions of a chunk. -/
def decayOf (x : FVec Ideal S128 .f32) : FVec Ideal S4x16x4x128x128 .f32 :=
  broadcastInDim S4x16x4x128x128 ![0, 1, 2, 3, 4] bcast_S1x1x4x128x1_S4x16x4x128x128_0_1_2_3_4
    (broadcastInDim S1x1x4x128x1 ![2, 3, 4] bcast_S4x128x1_S1x1x4x128x1_2_3_4
      (broadcastInDim S4x128x1 ![0, 1] bcast_S4x128_S4x128x1_0_1
        (Host.exp
          (mulf (broadcastInDim S4x128 ![0, 1] bcast_S4x1_S4x128_0_1 (broadcastInDim S4x1 ![0] bcast_S4_S4x1_0 lgOf))
            (broadcastInDim S4x128 ![0, 1] bcast_S1x128_S4x128_0_1 (broadcastInDim S1x128 ![1] bcast_S128_S1x128_1 x))))))

/-- The queries the loop reads, by chunk. -/
def qdOf (Q : FVec Ideal S4x16x4x128x128 .f32) : FVec Ideal S16x4x4x128x128 .f32 :=
  transpose S16x4x4x128x128 [1, 0, 2, 3, 4]
    (mulf Q (decayOf (addf ixOf (broadcastInDim S128 ![] bcast_S_S128 (constant S_ .f32 0x3F800000#32)))))
    transposes_S4x16x4x128x128_S16x4x4x128x128_1_0_2_3_4

/-- The keys the loop reads, by chunk. -/
def kdOf (K : FVec Ideal S4x16x4x128x128 .f32) : FVec Ideal S16x4x4x128x128 .f32 :=
  transpose S16x4x4x128x128 [1, 0, 2, 3, 4]
    (mulf K (decayOf (subf (broadcastInDim S128 ![] bcast_S_S128 (constant S_ .f32 0x42FE0000#32)) ixOf)))
    transposes_S4x16x4x128x128_S16x4x4x128x128_1_0_2_3_4

/-- The values the loop reads, by chunk. -/
def vdOf (V : FVec Ideal S4x16x4x128x256 .f32) : FVec Ideal S16x4x4x128x256 .f32 :=
  transpose S16x4x4x128x256 [1, 0, 2, 3, 4] V transposes_S4x16x4x128x256_S16x4x4x128x256_1_0_2_3_4

/-- The decay of a whole chunk. -/
def wholeOf : FVec Ideal S1x4x1x1 .f32 :=
  broadcastInDim S1x4x1x1 ![1] bcast_S4_S1x4x1x1_1 (Host.exp (mulf lgOf (broadcastInDim S4 ![] bcast_S_S4 (constant S_ .f32 0x43000000#32))))

/-- The chunked arguments at launch. -/
abbrev Q (c : Dev nD) := qOf (m ((c : Thread nD τ).loc main_arg0)) (m ((c : Thread nD τ).loc main_arg4)) (m ((c : Thread nD τ).loc main_arg5))
abbrev K (c : Dev nD) := kOf (m ((c : Thread nD τ).loc main_arg1)) (m ((c : Thread nD τ).loc main_arg4)) (m ((c : Thread nD τ).loc main_arg5))
abbrev V (c : Dev nD) := vOf (m ((c : Thread nD τ).loc main_arg2))

set_option maxRecDepth 100000

theorem entry_0 (c : Dev nD) : entryContents preI m c (Proc.devRef .tc main_v100_0) = qdOf (Q m c) := by
  simp only [entryContents, afterL_cons, afterL_nil]
  after_reads_simp
  rfl

theorem entry_1 (c : Dev nD) : entryContents preI m c (Proc.devRef .tc main_v100_1) = kdOf (K m c) := by
  simp only [entryContents, afterL_cons, afterL_nil]
  after_reads_simp
  rfl

theorem entry_2 (c : Dev nD) : entryContents preI m c (Proc.devRef .tc main_v100_2) = vdOf (V m c) := by
  simp only [entryContents, afterL_cons, afterL_nil]
  after_reads_simp
  rfl

theorem entry_3 (c : Dev nD) : entryContents preI m c (Proc.devRef .tc main_v100_3) = wholeOf := by
  simp only [entryContents, afterL_cons, afterL_nil]
  after_reads_simp
  rfl

theorem entry_5 (c : Dev nD) : entryContents preI m c (Proc.devRef .tc main_v100_5)
    = (broadcastInDim S4x4x128x256 ![] bcast_S_S4x4x128x256 (constant S_ .f32 0x00000000#32) : FVec Ideal S4x4x128x256 .f32) := by
  simp only [entryContents, afterL_cons, afterL_nil]
  after_reads_simp
  rfl

theorem entry_inner (c : Dev nD) : entryContents preI m c (Proc.devRef .tc main_v66) = innerOf (Q m c) (K m c) (V m c) := by
  simp only [entryContents, afterL_cons, afterL_nil]
  after_reads_simp
  rfl

theorem entry_gate (c : Dev nD) : entryContents preI m c (Proc.devRef .tc main_arg3) = m ((c : Thread nD τ).loc main_arg3) := by
  simp only [entryContents, afterL_cons, afterL_nil]
  after_reads_simp

end Cert.ReferenceIdeal.Value

end
-- ==== Proof.RetRef.lean ====
/-
  The reference's values before its loop, of real arguments.
-/
module

public import proofs.«01_k».proof.Defs
public import proofs.«01_k».proof.Proof.RetSpec
public import proofs.«01_k».proof.Proof.RetPre
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceIdeal.Value

open Cert.ReferenceIdeal Cert.ReferenceIdeal.Gen Idealize.ShloMosaic.StableHlo Cert.Retain
open Cert.KernelIdeal.Value (of127 of128 of2 of_neg5 of_bot word_float word_test exp_log gam_pos)

section values
variable (A : Arrays) (X : FVec Ideal S4x2048x512 .f32) (Y : FVec Ideal S4x2048x1024 .f32) (C S : FVec Ideal S2048x64 .f32)
  (hC : ∀ t l, C (ix2 t l) = ((A.c t l : ℝ) : EReal)) (hS : ∀ t l, S (ix2 t l) = ((A.s t l : ℝ) : EReal))

include hC hS

theorem q_at (hX : ∀ b t l, X (ix3 b t l) = ((A.q b t l : ℝ) : EReal)) (b : Fin 4) (n : Fin 16) (h : Fin 4) (i l : Fin 128) :
    qOf X C S (ix5 b n h i l) = ((rowQ A b h (n * 128 + i) l : ℝ) : EReal) := by
  pointwise [qOf, rotOf]
  simp only [hX, hC, hS, rowQ, rot, ← EReal.coe_mul, ← EReal.coe_sub, ← EReal.coe_add]
  split_ifs <;> rfl

theorem k_at (hX : ∀ b t l, X (ix3 b t l) = ((A.k b t l : ℝ) : EReal)) (b : Fin 4) (n : Fin 16) (h : Fin 4) (i l : Fin 128) :
    kOf X C S (ix5 b n h i l) = ((rowK A b h (n * 128 + i) l : ℝ) : EReal) := by
  pointwise [kOf, rotOf]
  simp only [hX, hC, hS, rowK, rot, of_scale, ← EReal.coe_mul, ← EReal.coe_sub, ← EReal.coe_add]
  split_ifs <;> simp only [← EReal.coe_mul]

omit hC hS in
theorem v_at (hY : ∀ b t l, Y (ix3 b t l) = ((A.v b t l : ℝ) : EReal)) (b : Fin 4) (n : Fin 16) (h : Fin 4) (i : Fin 128) (l : Fin 256) :
    vOf Y (ix5 b n h i l) = ((rowV A b h (n * 128 + i) l : ℝ) : EReal) := by
  pointwise [vOf]
  rw [hY]; rfl

end values

/-- The logarithm of a head's decay. -/
theorem lg_at (h : Fin 4) : lgOf (ix1 h) = ((Real.log (gam h) : ℝ) : EReal) := by
  have e : (-5 - (h : ℕ) : ℝ) = -((5 + (h : ℕ) : ℕ) : ℝ) := by push_cast; ring
  have g : (1 : ℝ) - (2 : ℝ) ^ (-5 - (h : ℕ) : ℝ) = gam h := by
    rw [e, Real.rpow_neg (by norm_num), Real.rpow_natCast]; simp [gam, Cert.KernelIdeal.Value.gam]
  pointwise [lgOf]
  rw [of2, of_neg5, word_float h (by omega), ← EReal.coe_sub]
  show Ideal.log (1 - (((2 : ℝ) ^ (-5 - (h : ℕ) : ℝ) : ℝ) : EReal)) = _
  rw [← EReal.coe_one, ← EReal.coe_sub, g]
  show (if gam h ≤ 0 then (⊥ : EReal) else ((Real.log (gam h) : ℝ) : EReal)) = _
  rw [if_neg (not_le.mpr (gam_pos h))]

/-- The mask at two positions of a chunk. -/
theorem mask_at (h : Fin 4) (i j : Fin 128) :
    maskOf (ix3 h i j) = (((if (j : ℕ) ≤ i then gam h ^ ((i : ℕ) - j) else 0) : ℝ) : EReal) := by
  have hi := i.isLt
  have hj := j.isLt
  pointwise [maskOf, trilOf, ixOf]
  rw [show IntOp.addi (BitVec.ofNat 32 (i : ℕ)) 0#32 = BitVec.ofNat 32 (i : ℕ) from BitVec.add_zero _, lg_at,
    word_float i (by omega), word_float j (by omega), ← EReal.coe_sub, of_bot]
  have t := word_test i j (by omega) (by omega) 1 0
  by_cases p : (j : ℕ) ≤ i
  · have hc : IntOp.cmpi CmpIPredicate.sge (BitVec.ofNat 32 (i : ℕ)) (BitVec.ofNat 32 (j : ℕ)) = 1#1 := by
      by_contra q; simp [Scalar.select, q, p] at t
    rw [hc, if_pos p, ← Nat.cast_sub p]
    exact exp_log (gam h) (gam_pos h) _
  · have hc : ¬ IntOp.cmpi CmpIPredicate.sge (BitVec.ofNat 32 (i : ℕ)) (BitVec.ofNat 32 (j : ℕ)) = 1#1 := by
      intro q; simp [Scalar.select, q, p] at t
    rw [if_neg p, (by decide : ∀ x : BitVec 1, ¬ x = 1#1 → x = 0#1) _ hc]
    rfl

section chunks
variable (A : Arrays) (Q K : FVec Ideal S4x16x4x128x128 .f32) (V : FVec Ideal S4x16x4x128x256 .f32)
  (hQ : ∀ b n h i l, Q (ix5 b n h i l) = ((rowQ A b h (n * 128 + i) l : ℝ) : EReal))
  (hK : ∀ b n h i l, K (ix5 b n h i l) = ((rowK A b h (n * 128 + i) l : ℝ) : EReal))
  (hV : ∀ b n h i l, V (ix5 b n h i l) = ((rowV A b h (n * 128 + i) l : ℝ) : EReal))

include hQ in
theorem qd_at (n : Fin 16) (b h : Fin 4) (i l : Fin 128) :
    qdOf Q (ix5 n b h i l) = ((rowQ A b h (n * 128 + i) l * gam h ^ ((i : ℕ) + 1) : ℝ) : EReal) := by
  have hi := i.isLt
  pointwise [qdOf, decayOf, ixOf]
  rw [hQ, lg_at, word_float i (by omega),
    show ((((i : ℕ) : ℝ) : EReal) + 1) = (((((i : ℕ) + 1 : ℕ)) : ℝ) : EReal) by push_cast; rfl, exp_log _ (gam_pos h), ← EReal.coe_mul]

include hK in
theorem kd_at (n : Fin 16) (b h : Fin 4) (i l : Fin 128) :
    kdOf K (ix5 n b h i l) = ((rowK A b h (n * 128 + i) l * gam h ^ (128 - 1 - (i : ℕ)) : ℝ) : EReal) := by
  have hi := i.isLt
  pointwise [kdOf, decayOf, ixOf]
  rw [hK, lg_at, word_float i (by omega), of127, ← EReal.coe_sub,
    show ((127 : ℝ) - ((i : ℕ) : ℝ)) = ((128 - 1 - (i : ℕ) : ℕ) : ℝ) by rw [Nat.cast_sub (by omega)]; norm_num, exp_log _ (gam_pos h),
    ← EReal.coe_mul]

include hV in
theorem vd_at (n : Fin 16) (b h : Fin 4) (i : Fin 128) (l : Fin 256) :
    vdOf V (ix5 n b h i l) = ((rowV A b h (n * 128 + i) l : ℝ) : EReal) := by
  pointwise [vdOf]
  rw [hV]

theorem whole_at (h : Fin 4) : wholeOf (ix4 0 h 0 0) = ((gam h ^ 128 : ℝ) : EReal) := by
  pointwise [wholeOf]
  rw [lg_at, of128, show (128 : ℝ) = ((128 : ℕ) : ℝ) by norm_num, exp_log _ (gam_pos h)]

include hQ hK hV in
theorem inner_at (b : Fin 4) (n : Fin 16) (h : Fin 4) (i : Fin 128) (e : Fin 256) :
    innerOf Q K V (ix5 b n h i e)
      = (((∑ j : Fin 128, (∑ l, rowQ A b h (n * 128 + i) l * rowK A b h (n * 128 + j) l)
          * (if (j : ℕ) ≤ i then gam h ^ ((i : ℕ) - j) else 0) * rowV A b h (n * 128 + j) e) : ℝ) : EReal) := by
  pointwise [innerOf]
  simp only [hQ, hK, hV, mask_at, ← EReal.coe_mul, coe_sum]

end chunks

end Cert.ReferenceIdeal.Value

end
-- ==== Proof.RetLoop.lean ====
/-
  The reference's loop over the chunks: one trip as operations on arrays.
-/
module

public import proofs.«01_k».proof.Defs
public import proofs.«01_k».proof.Proof.RetSpec
public import proofs.«01_k».proof.Proof.RetPre
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

open Idealize.ShloMosaic.WordCmp

namespace Cert.ReferenceIdeal.Value

open Cert.ReferenceIdeal Cert.ReferenceIdeal.Gen Idealize.ShloMosaic.StableHlo Cert.Retain
open Cert.KernelIdeal.Value (word_int)

/-- Where the slices of a trip start. -/
def starts (ctr : IVec S_ 32) : Fin 5 → Int := fun k =>
  (((![ctr, constantI S_ 32 0#32, constantI S_ 32 0#32, constantI S_ 32 0#32, constantI S_ 32 0#32] : Fin 5 → (⟨S_, .i32⟩ : BufTy).Contents (Elt Ideal))) k
    (Shape.Idx.first h_S_)).toInt

/-- The chunk a trip reads of the queries or the keys. -/
def pickK (X : FVec Ideal S16x4x4x128x128 .f32) (ctr : IVec S_ 32) : FVec Ideal S4x4x128x128 .f32 :=
  shapeCast S4x4x128x128 (Host.dynamicSlice S1x4x4x128x128 X (starts ctr) sliceFits_S16x4x4x128x128_S1x4x4x128x128) shapeCasts_S1x4x4x128x128_S4x4x128x128

/-- The chunk a trip reads of the values. -/
def pickV (X : FVec Ideal S16x4x4x128x256 .f32) (ctr : IVec S_ 32) : FVec Ideal S4x4x128x256 .f32 :=
  shapeCast S4x4x128x256 (Host.dynamicSlice S1x4x4x128x256 X (starts ctr) sliceFits_S16x4x4x128x256_S1x4x4x128x256) shapeCasts_S1x4x4x128x256_S4x4x128x256

/-- The state after a trip. -/
def nextState (S : FVec Ideal S4x4x128x256 .f32) (D : FVec Ideal S1x4x1x1 .f32) (X : FVec Ideal S16x4x4x128x128 .f32) (Y : FVec Ideal S16x4x4x128x256 .f32)
    (ctr : IVec S_ 32) : FVec Ideal S4x4x128x256 .f32 :=
  addf (mulf S (broadcastInDim S4x4x128x256 ![0, 1, 2, 3] bcast_S1x4x1x1_S4x4x128x256_0_1_2_3 D))
    (Host.dotGeneral dot_S4x4x128x128_S4x4x128x256_S4x4x128x256_2_2_3_3_01_01 none (pickK X ctr) (pickV Y ctr))

/-- The outputs after a trip. -/
def nextStack (O : FVec Ideal S16x4x4x128x256 .f32) (Z : FVec Ideal S16x4x4x128x128 .f32) (S : FVec Ideal S4x4x128x256 .f32) (ctr : IVec S_ 32) :
    FVec Ideal S16x4x4x128x256 .f32 :=
  Host.dynamicUpdateSlice O
    (broadcastInDim S1x4x4x128x256 ![1, 2, 3, 4] bcast_S4x4x128x256_S1x4x4x128x256_1_2_3_4
      (Host.dotGeneral dot_S4x4x128x128_S4x4x128x256_S4x4x128x256_3_2_2_3_01_01 none (pickK Z ctr) S))
    (starts ctr) updateFits_S16x4x4x128x256_S1x4x4x128x256

theorem step_state (W : Valuation τ sig (Elt Ideal)) : step_main_v100_5 W
    = nextState (W (Proc.devRef .tc main_v100_5)) (W (Proc.devRef .tc main_v100_3)) (W (Proc.devRef .tc main_v100_1)) (W (Proc.devRef .tc main_v100_2))
        (W (Proc.devRef .tc main_v100_4)) := rfl

attribute [local irreducible] Host.dynamicUpdateSlice Host.dynamicSlice in
theorem step_stack (W : Valuation τ sig (Elt Ideal)) : step_main_v100_6 W
    = nextStack (W (Proc.devRef .tc main_v100_6)) (W (Proc.devRef .tc main_v100_0)) (W (Proc.devRef .tc main_v100_5)) (W (Proc.devRef .tc main_v100_4)) := by
  unfold step_main_v100_6 nextStack pickK starts
  exact rfl

/-- The counter's word at trip `n`. -/
abbrev word (n : ℕ) : IVec S_ 32 := fun _ => BitVec.ofNat 32 n

theorem starts_at (n : Fin 16) (a : Fin 5) : starts (word n) a = (((![(n : ℕ), 0, 0, 0, 0] : Fin 5 → ℕ) a : ℕ) : Int) := by
  fin_cases a
  · exact word_int n (by omega)
  all_goals rfl

theorem slicesK (n : Fin 16) : S16x4x4x128x128.Slices ![(n : ℕ), 0, 0, 0, 0] S1x4x4x128x128 :=
  ⟨rfl, fun a => by have := n.isLt; fin_cases a <;> simp <;> omega⟩

theorem slicesV (n : Fin 16) : S16x4x4x128x256.Slices ![(n : ℕ), 0, 0, 0, 0] S1x4x4x128x256 :=
  ⟨rfl, fun a => by have := n.isLt; fin_cases a <;> simp <;> omega⟩

theorem pickK_at (X : FVec Ideal S16x4x4x128x128 .f32) (n : Fin 16) (b h : Fin 4) (i l : Fin 128) :
    pickK X (word n) (ix4 b h i l) = X (ix5 n b h i l) := by
  unfold pickK
  rw [WordCmp.dynamicSlice_eq_extract _ _ _ _ ![(n : ℕ), 0, 0, 0, 0] (slicesK n) (starts_at n)]
  pointwise []

theorem pickV_at (X : FVec Ideal S16x4x4x128x256 .f32) (n : Fin 16) (b h : Fin 4) (i : Fin 128) (l : Fin 256) :
    pickV X (word n) (ix4 b h i l) = X (ix5 n b h i l) := by
  unfold pickV
  rw [WordCmp.dynamicSlice_eq_extract _ _ _ _ ![(n : ℕ), 0, 0, 0, 0] (slicesV n) (starts_at n)]
  pointwise []

theorem nextState_at (S : FVec Ideal S4x4x128x256 .f32) (D : FVec Ideal S1x4x1x1 .f32) (X : FVec Ideal S16x4x4x128x128 .f32)
    (Y : FVec Ideal S16x4x4x128x256 .f32) (n : Fin 16) (b h : Fin 4) (d : Fin 128) (e : Fin 256) :
    nextState S D X Y (word n) (ix4 b h d e) = S (ix4 b h d e) * D (ix4 0 h 0 0) + ∑ x, X (ix5 n b h x d) * Y (ix5 n b h x e) := by
  pointwise [nextState]
  simp only [pickK_at, pickV_at]

theorem nextStack_at (O : FVec Ideal S16x4x4x128x256 .f32) (Z : FVec Ideal S16x4x4x128x128 .f32) (S : FVec Ideal S4x4x128x256 .f32) (n n' : Fin 16)
    (b h : Fin 4) (i : Fin 128) (e : Fin 256) :
    nextStack O Z S (word n) (ix5 n' b h i e) = if n' = n then ∑ l, Z (ix5 n b h i l) * S (ix4 b h l e) else O (ix5 n' b h i e) := by
  unfold nextStack
  rw [WordCmp.dynamicUpdateSlice_eq_update _ _ _ _ ![(n : ℕ), 0, 0, 0, 0] (slicesV n) (starts_at n)]
  by_cases q : n' = n
  · subst q
    rw [if_pos rfl]
    pointwise []
    rw [dif_pos ⟨le_refl _, Nat.lt_succ_self _⟩]
    simp only [pickK_at]
  · rw [if_neg q]
    pointwise []
    rw [dif_neg (fun p => q (Fin.ext (by omega)))]

end Cert.ReferenceIdeal.Value

end
-- ==== Proof.RetRun.lean ====
/-
  What a grid point of the retention leaves: each head's stored block side by side in the output, and each head's state
  stacked in the scratch, from what the point before left.
-/
module

public import proofs.«01_k».proof.Defs
public import proofs.«01_k».proof.Proof.RetBody
public import proofs.«01_k».proof.Proof.Gen.KernelIdeal.Value
public import Idealize.ShloMosaic.Lib.Pipeline.ValueKit
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Retain

variable (m : (ℓ : Loc nD τ sig) → Buf (Elt Ideal) ℓ)

/-- The four heads' states, stacked. -/
def stacked (f : Fin 4 → FVec Ideal S1x128x256 .f32) : FVec Ideal S4x128x256 .f32 := fun j => f (j 0) (ix3 0 (j 1) (j 2))

theorem stacked_of (f : Fin 4 → FVec Ideal S1x128x256 .f32) (h : Fin 4) (j : S4x128x256.Idx) (i : S1x128x256.Idx)
    (h0 : (j 0 : ℕ) = h) (h1 : (j 1 : ℕ) = i 1) (h2 : (j 2 : ℕ) = i 2) : f h i = stacked f j := by
  have e0 : j 0 = h := Fin.ext h0
  have i0 : (i 0 : ℕ) < 1 := (i 0).isLt
  have e : i = ix3 0 (j 1) (j 2) := by
    funext q; apply Fin.ext
    match q with
    | 0 => show (i 0 : ℕ) = 0; omega
    | 1 => exact h1.symm
    | 2 => exact h2.symm
  rw [e]; show _ = f (j 0) _; rw [e0]; rfl

/-- The four heads' blocks, side by side. -/
def beside (f : Fin 4 → FVec Ideal S1x256x256 .bf16) : FVec Ideal S1x256x1024 .bf16 := fun j =>
  f ⟨(j 2 : ℕ) / 256, by have h : (j 2 : ℕ) < 1024 := (j 2).isLt; omega⟩ (ix3 0 (j 1) ⟨(j 2 : ℕ) % 256, Nat.mod_lt _ (by decide)⟩)

theorem beside_of (f : Fin 4 → FVec Ideal S1x256x256 .bf16) (h : Fin 4) (j : S1x256x1024.Idx) (i : S1x256x256.Idx)
    (h1 : (j 1 : ℕ) = i 1) (h2 : (j 2 : ℕ) = 256 * h + i 2) : f h i = beside f j := by
  have i0 : (i 0 : ℕ) < 1 := (i 0).isLt
  have i2 : (i 2 : ℕ) < 256 := (i 2).isLt
  have e0 : (⟨(j 2 : ℕ) / 256, by have h : (j 2 : ℕ) < 1024 := (j 2).isLt; omega⟩ : Fin 4) = h := Fin.ext (by dsimp only; omega)
  have e : i = ix3 0 (j 1) ⟨(j 2 : ℕ) % 256, Nat.mod_lt _ (by decide)⟩ := by
    funext q; apply Fin.ext
    match q with
    | 0 => show (i 0 : ℕ) = 0; omega
    | 1 => exact h1.symm
    | 2 => show (i 2 : ℕ) = (j 2 : ℕ) % 256; omega
  unfold beside
  rw [e0]; exact congrArg (f h) e

/-- Stores of the four states, over whatever came before, leave them stacked. -/
theorem canon_stacked (f : Fin 4 → FVec Ideal S1x128x256 .f32) (L : List (View.Piece (Elt Ideal) S4x128x256 .f32)) :
    View.canon (⟨Rect.unit (s := S4x128x256) ![3, 0, 0] ![1, 128, 256] inb_S4x128x256_S1x128x256_3_0_0, f 3⟩ :: ⟨Rect.unit (s := S4x128x256) ![2, 0, 0] ![1, 128, 256] inb_S4x128x256_S1x128x256_2_0_0, f 2⟩ :: ⟨Rect.unit (s := S4x128x256) ![1, 0, 0] ![1, 128, 256] inb_S4x128x256_S1x128x256_1_0_0, f 1⟩ :: ⟨Rect.unit (s := S4x128x256) ![0, 0, 0] ![1, 128, 256] inb_S4x128x256_S1x128x256_0_0_0, f 0⟩ :: L) = stacked f := by
  funext y
  refine View.canon_append_of_piecesOf (stacked f) L [⟨Rect.unit (s := S4x128x256) ![3, 0, 0] ![1, 128, 256] inb_S4x128x256_S1x128x256_3_0_0, f 3⟩, ⟨Rect.unit (s := S4x128x256) ![2, 0, 0] ![1, 128, 256] inb_S4x128x256_S1x128x256_2_0_0, f 2⟩, ⟨Rect.unit (s := S4x128x256) ![1, 0, 0] ![1, 128, 256] inb_S4x128x256_S1x128x256_1_0_0, f 1⟩, ⟨Rect.unit (s := S4x128x256) ![0, 0, 0] ![1, 128, 256] inb_S4x128x256_S1x128x256_0_0_0, f 0⟩] ⟨fun x => ?_, fun x => ?_, fun x => ?_, fun x => ?_, trivial⟩ y ?_
  · have hx : (x 0 : ℕ) < 1 := (x 0).isLt
    refine stacked_of f 3 _ x ?_ ?_ ?_
    · show 3 + 1 * (x 0 : ℕ) = 3; omega
    · show 0 + 1 * (x 1 : ℕ) = x 1; omega
    · show 0 + 1 * (x 2 : ℕ) = x 2; omega
  · have hx : (x 0 : ℕ) < 1 := (x 0).isLt
    refine stacked_of f 2 _ x ?_ ?_ ?_
    · show 2 + 1 * (x 0 : ℕ) = 2; omega
    · show 0 + 1 * (x 1 : ℕ) = x 1; omega
    · show 0 + 1 * (x 2 : ℕ) = x 2; omega
  · have hx : (x 0 : ℕ) < 1 := (x 0).isLt
    refine stacked_of f 1 _ x ?_ ?_ ?_
    · show 1 + 1 * (x 0 : ℕ) = 1; omega
    · show 0 + 1 * (x 1 : ℕ) = x 1; omega
    · show 0 + 1 * (x 2 : ℕ) = x 2; omega
  · have hx : (x 0 : ℕ) < 1 := (x 0).isLt
    refine stacked_of f 0 _ x ?_ ?_ ?_
    · show 0 + 1 * (x 0 : ℕ) = 0; omega
    · show 0 + 1 * (x 1 : ℕ) = x 1; omega
    · show 0 + 1 * (x 2 : ℕ) = x 2; omega
  · have hy : (y 0 : ℕ) < 4 := (y 0).isLt
    have hy1 : (y 1 : ℕ) < 128 := (y 1).isLt
    have hy2 : (y 2 : ℕ) < 256 := (y 2).isLt
    obtain h | h | h | h : (y 0 : ℕ) = 3 ∨ (y 0 : ℕ) = 2 ∨ (y 0 : ℕ) = 1 ∨ (y 0 : ℕ) = 0 := by omega
    · refine ⟨_, List.mem_cons_self, ?_⟩
      exact (Rect.mem_set_unit (inb := inb_S4x128x256_S1x128x256_3_0_0)).mpr (Fin.forall_fin_succ.mpr ⟨⟨by simp [h], by simp [h]⟩, Fin.forall_fin_succ.mpr
        ⟨⟨by simp, by simpa using hy1⟩, Fin.forall_fin_succ.mpr ⟨⟨by simp, by simpa using hy2⟩, fun a => a.elim0⟩⟩⟩)
    · refine ⟨_, List.mem_cons_of_mem _ (List.mem_cons_self), ?_⟩
      exact (Rect.mem_set_unit (inb := inb_S4x128x256_S1x128x256_2_0_0)).mpr (Fin.forall_fin_succ.mpr ⟨⟨by simp [h], by simp [h]⟩, Fin.forall_fin_succ.mpr
        ⟨⟨by simp, by simpa using hy1⟩, Fin.forall_fin_succ.mpr ⟨⟨by simp, by simpa using hy2⟩, fun a => a.elim0⟩⟩⟩)
    · refine ⟨_, List.mem_cons_of_mem _ (List.mem_cons_of_mem _ (List.mem_cons_self)), ?_⟩
      exact (Rect.mem_set_unit (inb := inb_S4x128x256_S1x128x256_1_0_0)).mpr (Fin.forall_fin_succ.mpr ⟨⟨by simp [h], by simp [h]⟩, Fin.forall_fin_succ.mpr
        ⟨⟨by simp, by simpa using hy1⟩, Fin.forall_fin_succ.mpr ⟨⟨by simp, by simpa using hy2⟩, fun a => a.elim0⟩⟩⟩)
    · refine ⟨_, List.mem_cons_of_mem _ (List.mem_cons_of_mem _ (List.mem_cons_of_mem _ (List.mem_cons_self))), ?_⟩
      exact (Rect.mem_set_unit (inb := inb_S4x128x256_S1x128x256_0_0_0)).mpr (Fin.forall_fin_succ.mpr ⟨⟨by simp [h], by simp [h]⟩, Fin.forall_fin_succ.mpr
        ⟨⟨by simp, by simpa using hy1⟩, Fin.forall_fin_succ.mpr ⟨⟨by simp, by simpa using hy2⟩, fun a => a.elim0⟩⟩⟩)

/-- Stores of the four heads' blocks leave them side by side. -/
theorem canon_beside (f : Fin 4 → FVec Ideal S1x256x256 .bf16) (L : List (View.Piece (Elt Ideal) S1x256x1024 .bf16)) :
    View.canon (⟨Rect.unit (s := S1x256x1024) ![0, 0, 768] ![1, 256, 256] inb_S1x256x1024_S1x256x256_0_0_768, f 3⟩ :: ⟨Rect.unit (s := S1x256x1024) ![0, 0, 512] ![1, 256, 256] inb_S1x256x1024_S1x256x256_0_0_512, f 2⟩ :: ⟨Rect.unit (s := S1x256x1024) ![0, 0, 256] ![1, 256, 256] inb_S1x256x1024_S1x256x256_0_0_256, f 1⟩ :: ⟨Rect.unit (s := S1x256x1024) ![0, 0, 0] ![1, 256, 256] inb_S1x256x1024_S1x256x256_0_0_0, f 0⟩ :: L) = beside f := by
  funext y
  refine View.canon_append_of_piecesOf (beside f) L [⟨Rect.unit (s := S1x256x1024) ![0, 0, 768] ![1, 256, 256] inb_S1x256x1024_S1x256x256_0_0_768, f 3⟩, ⟨Rect.unit (s := S1x256x1024) ![0, 0, 512] ![1, 256, 256] inb_S1x256x1024_S1x256x256_0_0_512, f 2⟩, ⟨Rect.unit (s := S1x256x1024) ![0, 0, 256] ![1, 256, 256] inb_S1x256x1024_S1x256x256_0_0_256, f 1⟩, ⟨Rect.unit (s := S1x256x1024) ![0, 0, 0] ![1, 256, 256] inb_S1x256x1024_S1x256x256_0_0_0, f 0⟩] ⟨fun x => ?_, fun x => ?_, fun x => ?_, fun x => ?_, trivial⟩ y ?_
  · refine beside_of f 3 _ x ?_ ?_
    · show 0 + 1 * (x 1 : ℕ) = x 1; omega
    · show 768 + 1 * (x 2 : ℕ) = 256 * 3 + x 2; omega
  · refine beside_of f 2 _ x ?_ ?_
    · show 0 + 1 * (x 1 : ℕ) = x 1; omega
    · show 512 + 1 * (x 2 : ℕ) = 256 * 2 + x 2; omega
  · refine beside_of f 1 _ x ?_ ?_
    · show 0 + 1 * (x 1 : ℕ) = x 1; omega
    · show 256 + 1 * (x 2 : ℕ) = 256 * 1 + x 2; omega
  · refine beside_of f 0 _ x ?_ ?_
    · show 0 + 1 * (x 1 : ℕ) = x 1; omega
    · show 0 + 1 * (x 2 : ℕ) = 256 * 0 + x 2; omega
  · have hy0 : (y 0 : ℕ) < 1 := (y 0).isLt
    have hy1 : (y 1 : ℕ) < 256 := (y 1).isLt
    have hy2 : (y 2 : ℕ) < 1024 := (y 2).isLt
    obtain h | h | h | h : (768 ≤ (y 2 : ℕ)) ∨ (512 ≤ (y 2 : ℕ) ∧ (y 2 : ℕ) < 768) ∨ (256 ≤ (y 2 : ℕ) ∧ (y 2 : ℕ) < 512) ∨ (y 2 : ℕ) < 256 := by omega
    · refine ⟨_, List.mem_cons_self, ?_⟩
      exact (Rect.mem_set_unit (inb := inb_S1x256x1024_S1x256x256_0_0_768)).mpr (Fin.forall_fin_succ.mpr ⟨⟨by simp, by simpa using hy0⟩, Fin.forall_fin_succ.mpr
        ⟨⟨by simp, by simpa using hy1⟩, Fin.forall_fin_succ.mpr ⟨⟨by simp; try omega, by simp; omega⟩, fun a => a.elim0⟩⟩⟩)
    · refine ⟨_, List.mem_cons_of_mem _ (List.mem_cons_self), ?_⟩
      exact (Rect.mem_set_unit (inb := inb_S1x256x1024_S1x256x256_0_0_512)).mpr (Fin.forall_fin_succ.mpr ⟨⟨by simp, by simpa using hy0⟩, Fin.forall_fin_succ.mpr
        ⟨⟨by simp, by simpa using hy1⟩, Fin.forall_fin_succ.mpr ⟨⟨by simp; try omega, by simp; omega⟩, fun a => a.elim0⟩⟩⟩)
    · refine ⟨_, List.mem_cons_of_mem _ (List.mem_cons_of_mem _ (List.mem_cons_self)), ?_⟩
      exact (Rect.mem_set_unit (inb := inb_S1x256x1024_S1x256x256_0_0_256)).mpr (Fin.forall_fin_succ.mpr ⟨⟨by simp, by simpa using hy0⟩, Fin.forall_fin_succ.mpr
        ⟨⟨by simp, by simpa using hy1⟩, Fin.forall_fin_succ.mpr ⟨⟨by simp; try omega, by simp; omega⟩, fun a => a.elim0⟩⟩⟩)
    · refine ⟨_, List.mem_cons_of_mem _ (List.mem_cons_of_mem _ (List.mem_cons_of_mem _ (List.mem_cons_self))), ?_⟩
      exact (Rect.mem_set_unit (inb := inb_S1x256x1024_S1x256x256_0_0_0)).mpr (Fin.forall_fin_succ.mpr ⟨⟨by simp, by simpa using hy0⟩, Fin.forall_fin_succ.mpr
        ⟨⟨by simp, by simpa using hy1⟩, Fin.forall_fin_succ.mpr ⟨⟨by simp; try omega, by simp; omega⟩, fun a => a.elim0⟩⟩⟩)

/-- A head of a block of queries or keys. -/
def keyHead (v : FVec Ideal S1x256x512 .f32) : Fin 4 → FVec Ideal S1x256x128 .f32
  | 0 => (View.ld (Val := Elt Ideal) (e' := .f32) (S := S1x256x512) v (Rect.unit (s := S1x256x512) ![0, 0, 0] ![1, 256, 128] inb_S1x256x512_S1x256x128_0_0_0) : FVec Ideal S1x256x128 .f32)
  | 1 => (View.ld (Val := Elt Ideal) (e' := .f32) (S := S1x256x512) v (Rect.unit (s := S1x256x512) ![0, 0, 128] ![1, 256, 128] inb_S1x256x512_S1x256x128_0_0_128) : FVec Ideal S1x256x128 .f32)
  | 2 => (View.ld (Val := Elt Ideal) (e' := .f32) (S := S1x256x512) v (Rect.unit (s := S1x256x512) ![0, 0, 256] ![1, 256, 128] inb_S1x256x512_S1x256x128_0_0_256) : FVec Ideal S1x256x128 .f32)
  | 3 => (View.ld (Val := Elt Ideal) (e' := .f32) (S := S1x256x512) v (Rect.unit (s := S1x256x512) ![0, 0, 384] ![1, 256, 128] inb_S1x256x512_S1x256x128_0_0_384) : FVec Ideal S1x256x128 .f32)

/-- A head of a block of values or of the gate. -/
def valHead (v : FVec Ideal S1x256x1024 .f32) : Fin 4 → FVec Ideal S1x256x256 .f32
  | 0 => (View.ld (Val := Elt Ideal) (e' := .f32) (S := S1x256x1024) v (Rect.unit (s := S1x256x1024) ![0, 0, 0] ![1, 256, 256] inb_S1x256x1024_S1x256x256_0_0_0) : FVec Ideal S1x256x256 .f32)
  | 1 => (View.ld (Val := Elt Ideal) (e' := .f32) (S := S1x256x1024) v (Rect.unit (s := S1x256x1024) ![0, 0, 256] ![1, 256, 256] inb_S1x256x1024_S1x256x256_0_0_256) : FVec Ideal S1x256x256 .f32)
  | 2 => (View.ld (Val := Elt Ideal) (e' := .f32) (S := S1x256x1024) v (Rect.unit (s := S1x256x1024) ![0, 0, 512] ![1, 256, 256] inb_S1x256x1024_S1x256x256_0_0_512) : FVec Ideal S1x256x256 .f32)
  | 3 => (View.ld (Val := Elt Ideal) (e' := .f32) (S := S1x256x1024) v (Rect.unit (s := S1x256x1024) ![0, 0, 768] ![1, 256, 256] inb_S1x256x1024_S1x256x256_0_0_768) : FVec Ideal S1x256x256 .f32)

/-- A head of the scratch. -/
def stateHead (v : FVec Ideal S4x128x256 .f32) : Fin 4 → FVec Ideal S1x128x256 .f32
  | 0 => (View.ld (Val := Elt Ideal) (e' := .f32) (S := S4x128x256) v (Rect.unit (s := S4x128x256) ![0, 0, 0] ![1, 128, 256] inb_S4x128x256_S1x128x256_0_0_0) : FVec Ideal S1x128x256 .f32)
  | 1 => (View.ld (Val := Elt Ideal) (e' := .f32) (S := S4x128x256) v (Rect.unit (s := S4x128x256) ![1, 0, 0] ![1, 128, 256] inb_S4x128x256_S1x128x256_1_0_0) : FVec Ideal S1x128x256 .f32)
  | 2 => (View.ld (Val := Elt Ideal) (e' := .f32) (S := S4x128x256) v (Rect.unit (s := S4x128x256) ![2, 0, 0] ![1, 128, 256] inb_S4x128x256_S1x128x256_2_0_0) : FVec Ideal S1x128x256 .f32)
  | 3 => (View.ld (Val := Elt Ideal) (e' := .f32) (S := S4x128x256) v (Rect.unit (s := S4x128x256) ![3, 0, 0] ![1, 128, 256] inb_S4x128x256_S1x128x256_3_0_0) : FVec Ideal S1x128x256 .f32)

theorem keyHead_at (v : FVec Ideal S1x256x512 .f32) (h : Fin 4) (r : Fin 256) (l : Fin 128) : keyHead v h (ix3 0 r l) = v (ix3 0 r ⟨128 * h + l, by have := h.isLt; have := l.isLt; omega⟩) := by
  fin_cases h <;> exact View.ld_unit_apply_of (Val := Elt Ideal) (e := .f32) (S := S1x256x512) _ _ _ _ _ _ (by simp [Fin.forall_fin_succ, ix3])

theorem valHead_at (v : FVec Ideal S1x256x1024 .f32) (h : Fin 4) (r : Fin 256) (l : Fin 256) : valHead v h (ix3 0 r l) = v (ix3 0 r ⟨256 * h + l, by have := h.isLt; have := l.isLt; omega⟩) := by
  fin_cases h <;> exact View.ld_unit_apply_of (Val := Elt Ideal) (e := .f32) (S := S1x256x1024) _ _ _ _ _ _ (by simp [Fin.forall_fin_succ, ix3])

theorem stateHead_at (v : FVec Ideal S4x128x256 .f32) (h : Fin 4) (r : Fin 128) (l : Fin 256) : stateHead v h (ix3 0 r l) = v (ix3 h r l) := by
  fin_cases h <;> exact View.ld_unit_apply_of (Val := Elt Ideal) (e := .f32) (S := S4x128x256) _ _ _ _ _ _ (by simp [Fin.forall_fin_succ, ix3])

/-- The states a point begins with: the first chunk of a sequence begins with zeros. -/
def before (c : Dev nD) (t : Fin cfg0.N) : FVec Ideal S4x128x256 .f32 :=
  if t.val % 8 = 0 then k0_pay2 else (outsAt0 m c (t.val - 1) (Nat.lt_of_le_of_lt (Nat.sub_le _ _) t.isLt)).2

/-- The states a point leaves. -/
theorem left_state (c : Dev nD) (t : Fin cfg0.N) : (outsAt0 m c t.val t.isLt).2
    = stacked fun h => headState (logs h) (decays h) (iblk m c 4 t) (iblk m c 5 t) (keyHead (X0_1 m c t) h) (valHead (X0_2 m c t) h)
        (stateHead (before m c t) h) := by
  unfold before
  by_cases ht : t.val % 8 = 0
  · rw [if_pos ht, outsAt0_A m c t ht]; frame_out
    rw [View.readCov_skip _ _ _ _ _ (by decide), View.readCov_skip _ _ _ _ _ (by decide), View.readCov_skip _ _ _ _ _ (by decide), View.readCov_fill _ _ _ _ _ (by decide),
      View.readCov_skip _ _ _ _ _ (by decide), View.readCov_skip _ _ _ _ _ (by decide), View.readCov_fill _ _ _ _ _ (by decide),
      View.readCov_skip _ _ _ _ _ (by decide), View.readCov_fill _ _ _ _ _ (by decide), View.readCov_fill _ _ _ _ _ (by decide)]
    rw [state0, state1, state2, state3]
    exact canon_stacked (fun h => headState (logs h) (decays h) (iblk m c 4 t) (iblk m c 5 t) (keyHead (X0_1 m c t) h) (valHead (X0_2 m c t) h)
      (stateHead k0_pay2 h)) _
  · rw [if_neg ht, outsAt0_B m c t ht]; frame_out
    simp only [(Memref.isWhole_whole _).read_unread]
    rw [state0, state1, state2, state3]
    exact canon_stacked (fun h => headState (logs h) (decays h) (iblk m c 4 t) (iblk m c 5 t) (keyHead (X0_1 m c t) h) (valHead (X0_2 m c t) h)
      (stateHead (outsAt0 m c (t.val - 1) (Nat.lt_of_le_of_lt (Nat.sub_le _ _) t.isLt)).2 h)) _

/-- The block a point leaves. -/
theorem left_block (c : Dev nD) (t : Fin cfg0.N) : (outsAt0 m c t.val t.isLt).1
    = beside fun h => headOut (logs h) (iblk m c 4 t) (iblk m c 5 t) (keyHead (X0_0 m c t) h) (keyHead (X0_1 m c t) h) (valHead (X0_2 m c t) h)
        (valHead (X0_3 m c t) h) (stateHead (before m c t) h) := by
  unfold before
  by_cases ht : t.val % 8 = 0
  · rw [if_pos ht, outsAt0_A m c t ht]; frame_out
    rw [View.readCov_skip _ _ _ _ _ (by decide), View.readCov_skip _ _ _ _ _ (by decide), View.readCov_skip _ _ _ _ _ (by decide), View.readCov_fill _ _ _ _ _ (by decide),
      View.readCov_skip _ _ _ _ _ (by decide), View.readCov_skip _ _ _ _ _ (by decide), View.readCov_fill _ _ _ _ _ (by decide),
      View.readCov_skip _ _ _ _ _ (by decide), View.readCov_fill _ _ _ _ _ (by decide), View.readCov_fill _ _ _ _ _ (by decide)]
    rw [out0, out1, out2, out3]
    exact canon_beside (fun h => headOut (logs h) (iblk m c 4 t) (iblk m c 5 t) (keyHead (X0_0 m c t) h) (keyHead (X0_1 m c t) h) (valHead (X0_2 m c t) h)
      (valHead (X0_3 m c t) h) (stateHead k0_pay2 h)) []
  · rw [if_neg ht, outsAt0_B m c t ht]; frame_out
    simp only [(Memref.isWhole_whole _).read_unread]
    rw [out0, out1, out2, out3]
    exact canon_beside (fun h => headOut (logs h) (iblk m c 4 t) (iblk m c 5 t) (keyHead (X0_0 m c t) h) (keyHead (X0_1 m c t) h) (valHead (X0_2 m c t) h)
      (valHead (X0_3 m c t) h) (stateHead (outsAt0 m c (t.val - 1) (Nat.lt_of_le_of_lt (Nat.sub_le _ _) t.isLt)).2 h)) []

end Cert.KernelIdeal.Value

end
-- ==== Proof.RetBlk.lean ====
/-
  The kernel's blocks at a grid point as the arguments' own entries, and what they leave of real arguments.
-/
module

public import proofs.«01_k».proof.Defs
public import proofs.«01_k».proof.Proof.RetSpec
public import proofs.«01_k».proof.Proof.RetRun
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Retain

variable (m : (ℓ : Loc nD τ sig) → Buf (Elt Ideal) ℓ)

/-- Where each window's block sits at a point. -/
theorem at_point : ∀ t : Fin cfg0.N, win0_0.index t = ![t.val / 8, t.val % 8, 0] ∧ win0_1.index t = ![t.val / 8, t.val % 8, 1]
      ∧ win0_2.index t = ![t.val / 8, t.val % 8, 1] ∧ win0_3.index t = ![t.val / 8, t.val % 8, 2] ∧ win0_4.index t = ![t.val % 8, 0]
      ∧ win0_5.index t = ![t.val % 8, 0] ∧ win0_6.index t = ![t.val / 8, t.val % 8, 0] ∧ t.val / 8 < 4 :=
  (by decide +kernel : ∀ t : Fin grid0.N, _)

/-- The rows the kernel reads, side by side. -/
def joined (q k : FVec Ideal S4x2048x512 .f32) (v g : FVec Ideal S4x2048x1024 .f32) (z : FVec Ideal S4x2048x384 .f32) : FVec Ideal S4x2048x3456 .f32 :=
  concatenate S4x2048x3456 2 [⟨S4x2048x512, q⟩, ⟨S4x2048x512, k⟩, ⟨S4x2048x1024, v⟩, ⟨S4x2048x1024, g⟩, ⟨S4x2048x384, z⟩]
    concatenates_S4x2048x512_S4x2048x512_S4x2048x1024_S4x2048x1024_S4x2048x384_S4x2048x3456_d2

section joined
variable (q k : FVec Ideal S4x2048x512 .f32) (v g : FVec Ideal S4x2048x1024 .f32) (z : FVec Ideal S4x2048x384 .f32) (b : Fin 4) (t : Fin 2048)

theorem joined_q (i : S4x2048x3456.Idx) (x : Fin 512) (h0 : (i 0 : ℕ) = b) (h1 : (i 1 : ℕ) = t) (h2 : (i 2 : ℕ) = 0 + x) :
    joined q k v g z i = q (ix3 b t x) := by
  have hx := x.isLt
  obtain ⟨a, e, f, rfl⟩ : ∃ a e f, i = ix3 a e f := ⟨i 0, i 1, i 2, by funext q; fin_cases q <;> rfl⟩
  obtain rfl : a = b := Fin.ext h0
  obtain rfl : e = t := Fin.ext h1
  have hf : (f : ℕ) = 0 + x := h2
  pointwise [joined]
  rw [dif_pos (by omega)]
  exact congrArg (fun y => q (ix3 a e y)) (Fin.ext (by dsimp only; omega))

theorem joined_k (i : S4x2048x3456.Idx) (x : Fin 512) (h0 : (i 0 : ℕ) = b) (h1 : (i 1 : ℕ) = t) (h2 : (i 2 : ℕ) = 512 + x) :
    joined q k v g z i = k (ix3 b t x) := by
  have hx := x.isLt
  obtain ⟨a, e, f, rfl⟩ : ∃ a e f, i = ix3 a e f := ⟨i 0, i 1, i 2, by funext q; fin_cases q <;> rfl⟩
  obtain rfl : a = b := Fin.ext h0
  obtain rfl : e = t := Fin.ext h1
  have hf : (f : ℕ) = 512 + x := h2
  pointwise [joined]
  rw [dif_neg (by omega)]
  rw [dif_pos (by omega)]
  exact congrArg (fun y => k (ix3 a e y)) (Fin.ext (by dsimp only; omega))

theorem joined_v (i : S4x2048x3456.Idx) (x : Fin 1024) (h0 : (i 0 : ℕ) = b) (h1 : (i 1 : ℕ) = t) (h2 : (i 2 : ℕ) = 1024 + x) :
    joined q k v g z i = v (ix3 b t x) := by
  have hx := x.isLt
  obtain ⟨a, e, f, rfl⟩ : ∃ a e f, i = ix3 a e f := ⟨i 0, i 1, i 2, by funext q; fin_cases q <;> rfl⟩
  obtain rfl : a = b := Fin.ext h0
  obtain rfl : e = t := Fin.ext h1
  have hf : (f : ℕ) = 1024 + x := h2
  pointwise [joined]
  rw [dif_neg (by omega)]
  rw [dif_neg (by omega)]
  rw [dif_pos (by omega)]
  exact congrArg (fun y => v (ix3 a e y)) (Fin.ext (by dsimp only; omega))

theorem joined_g (i : S4x2048x3456.Idx) (x : Fin 1024) (h0 : (i 0 : ℕ) = b) (h1 : (i 1 : ℕ) = t) (h2 : (i 2 : ℕ) = 2048 + x) :
    joined q k v g z i = g (ix3 b t x) := by
  have hx := x.isLt
  obtain ⟨a, e, f, rfl⟩ : ∃ a e f, i = ix3 a e f := ⟨i 0, i 1, i 2, by funext q; fin_cases q <;> rfl⟩
  obtain rfl : a = b := Fin.ext h0
  obtain rfl : e = t := Fin.ext h1
  have hf : (f : ℕ) = 2048 + x := h2
  pointwise [joined]
  rw [dif_neg (by omega)]
  rw [dif_neg (by omega)]
  rw [dif_neg (by omega)]
  rw [dif_pos (by omega)]
  exact congrArg (fun y => g (ix3 a e y)) (Fin.ext (by dsimp only; omega))

end joined

/-- A table twice, side by side. -/
def twice (x y : FVec Ideal S2048x64 .f32) : FVec Ideal S2048x128 .f32 :=
  concatenate S2048x128 1 [⟨S2048x64, x⟩, ⟨S2048x64, y⟩] concatenates_S2048x64_S2048x64_S2048x128_d1

theorem twice_at (x y : FVec Ideal S2048x64 .f32) (i : S2048x128.Idx) (t : Fin 2048) (l : Fin 128) (h0 : (i 0 : ℕ) = t) (h1 : (i 1 : ℕ) = l) :
    twice x y i = if h : (l : ℕ) < 64 then x (ix2 t ⟨l, h⟩) else y (ix2 t ⟨(l : ℕ) - 64, by omega⟩) := by
  obtain ⟨a, e, rfl⟩ : ∃ a e, i = ix2 a e := ⟨i 0, i 1, by funext q; fin_cases q <;> rfl⟩
  obtain rfl : a = t := Fin.ext h0
  obtain rfl : e = l := Fin.ext h1
  pointwise [twice]

/-- What the kernel's first four windows read. -/
theorem entry_rows (c : Dev nD) : V m c main_v1 = joined (m ((c : Thread nD τ).loc main_arg0)) (m ((c : Thread nD τ).loc main_arg1))
    (m ((c : Thread nD τ).loc main_arg2)) (m ((c : Thread nD τ).loc main_arg3))
    (broadcastInDim S4x2048x384 ![] bcast_S_S4x2048x384 (constant S_ .f32 0x00000000#32)) := by
  show StableHlo.after hostOps0 (fun b => m (c, b)) (Proc.devRef .tc main_v1) = _
  simp only [hostOps0, List.flatten_cons, List.flatten_nil, List.append_nil, List.cons_append, List.nil_append, StableHlo.after_cons, StableHlo.after_nil]
  rw [StableHlo.binary_result_ne (h := by decide), StableHlo.unary_result_ne (h := by decide), StableHlo.binary_result_ne (h := by decide),
    StableHlo.nary_result]
  generalize hF : (StableHlo.unary main_cst main_v0 _ _ _ : HloOp τ sig (Elt Ideal)).result _ = W
  have e0 : W (Proc.devRef .tc main_arg0) = m ((c : Thread nD τ).loc main_arg0) := by
    subst hF; rw [StableHlo.unary_result_ne (h := by decide), StableHlo.nullary_result_ne (h := by decide)]
  have e1 : W (Proc.devRef .tc main_arg1) = m ((c : Thread nD τ).loc main_arg1) := by
    subst hF; rw [StableHlo.unary_result_ne (h := by decide), StableHlo.nullary_result_ne (h := by decide)]
  have e2 : W (Proc.devRef .tc main_arg2) = m ((c : Thread nD τ).loc main_arg2) := by
    subst hF; rw [StableHlo.unary_result_ne (h := by decide), StableHlo.nullary_result_ne (h := by decide)]
  have e3 : W (Proc.devRef .tc main_arg3) = m ((c : Thread nD τ).loc main_arg3) := by
    subst hF; rw [StableHlo.unary_result_ne (h := by decide), StableHlo.nullary_result_ne (h := by decide)]
  have e4 : W (Proc.devRef .tc main_v0) = (broadcastInDim S4x2048x384 ![] bcast_S_S4x2048x384 (constant S_ .f32 0x00000000#32) : FVec Ideal S4x2048x384 .f32) := by
    subst hF; rw [StableHlo.unary_result, StableHlo.nullary_result]
  rw [← e0, ← e1, ← e2, ← e3, ← e4]
  rfl

/-- A row of a point's blocks. -/
abbrev row (t : Fin cfg0.N) (r : Fin 256) : Fin 2048 := ⟨t.val % 8 * 256 + r, by have := r.isLt; omega⟩
/-- The sequence of a point's blocks. -/
abbrev seq (t : Fin cfg0.N) : Fin 4 := ⟨t.val / 8, (at_point t).2.2.2.2.2.2.2⟩

section blocks
variable (c : Dev nD) (t : Fin cfg0.N) (r : Fin 256)

theorem block_q (x : Fin 512) : X0_0 m c t (ix3 0 r x) = m ((c : Thread nD τ).loc main_arg0) (ix3 (seq t) (row t r) x) := by
  unfold X0_0 Pipeline.Window.fill
  rw [dif_pos (moved0_0 t _)]
  blk_simp [iblk]
  refine (congrFun (entry_rows m c) _).trans ?_
  refine joined_q _ _ _ _ _ (seq t) (row t r) _ x ?_ ?_ ?_
  · blk_simp [at_point t]
    exact Nat.add_zero _
  · blk_simp [at_point t]
  · blk_simp [at_point t]

theorem block_k (x : Fin 512) : X0_1 m c t (ix3 0 r x) = m ((c : Thread nD τ).loc main_arg1) (ix3 (seq t) (row t r) x) := by
  unfold X0_1 Pipeline.Window.fill
  rw [dif_pos (moved0_1 t _)]
  blk_simp [iblk]
  refine (congrFun (entry_rows m c) _).trans ?_
  refine joined_k _ _ _ _ _ (seq t) (row t r) _ x ?_ ?_ ?_
  · blk_simp [at_point t]
    exact Nat.add_zero _
  · blk_simp [at_point t]
  · blk_simp [at_point t]

theorem block_v (x : Fin 1024) : X0_2 m c t (ix3 0 r x) = m ((c : Thread nD τ).loc main_arg2) (ix3 (seq t) (row t r) x) := by
  unfold X0_2 Pipeline.Window.fill
  rw [dif_pos (moved0_2 t _)]
  blk_simp [iblk]
  refine (congrFun (entry_rows m c) _).trans ?_
  refine joined_v _ _ _ _ _ (seq t) (row t r) _ x ?_ ?_ ?_
  · blk_simp [at_point t]
    exact Nat.add_zero _
  · blk_simp [at_point t]
  · blk_simp [at_point t]

theorem block_g (x : Fin 1024) : X0_3 m c t (ix3 0 r x) = m ((c : Thread nD τ).loc main_arg3) (ix3 (seq t) (row t r) x) := by
  unfold X0_3 Pipeline.Window.fill
  rw [dif_pos (moved0_3 t _)]
  blk_simp [iblk]
  refine (congrFun (entry_rows m c) _).trans ?_
  refine joined_g _ _ _ _ _ (seq t) (row t r) _ x ?_ ?_ ?_
  · blk_simp [at_point t]
    exact Nat.add_zero _
  · blk_simp [at_point t]
  · blk_simp [at_point t]

theorem block_c (l : Fin 128) : iblk m c 4 t (ix2 r l)
    = if h : (l : ℕ) < 64 then m ((c : Thread nD τ).loc main_arg4) (ix2 (row t r) ⟨l, h⟩)
      else m ((c : Thread nD τ).loc main_arg4) (ix2 (row t r) ⟨(l : ℕ) - 64, by omega⟩) := by
  blk_simp [iblk]
  entry_read
  refine twice_at _ _ _ (row t r) l ?_ ?_
  · blk_simp [at_point t]
  · blk_simp [at_point t]

theorem block_s (l : Fin 128) : iblk m c 5 t (ix2 r l)
    = if h : (l : ℕ) < 64 then (FloatOps.negf (F := Ideal) (φ := .f32) (m ((c : Thread nD τ).loc main_arg5) (ix2 (row t r) ⟨l, h⟩)) : EReal)
      else m ((c : Thread nD τ).loc main_arg5) (ix2 (row t r) ⟨(l : ℕ) - 64, by omega⟩) := by
  blk_simp [iblk]
  entry_read
  refine (twice_at _ _ _ (row t r) l ?_ ?_).trans ?_
  · blk_simp [at_point t]
  · blk_simp [at_point t]
  · rfl

end blocks

end Cert.KernelIdeal.Value

end
-- ==== Proof.RetKer.lean ====
/-
  The kernel's states and blocks of real arguments, and the array it leaves.
-/
module

public import proofs.«01_k».proof.Defs
public import proofs.«01_k».proof.Proof.RetSpec
public import proofs.«01_k».proof.Proof.RetBlk
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Retain

section rows
variable (A : Arrays) (b h a : ℕ) (c s : FVec Ideal S256x128 .f32) (x : FVec Ideal S1x256x128 .f32)
  (hc : ∀ (r : Fin 256) (l : Fin 128), c (ix2 r l) = (((if (l : ℕ) < 64 then A.c (a + r) l else A.c (a + r) ((l : ℕ) - 64)) : ℝ) : EReal))
  (hs : ∀ (r : Fin 256) (l : Fin 128), s (ix2 r l) = (((if (l : ℕ) < 64 then -(A.s (a + r) l) else A.s (a + r) ((l : ℕ) - 64)) : ℝ) : EReal))

include hc hs

theorem query_real (hx : ∀ (r : Fin 256) (l : Fin 128), x (ix3 0 r l) = ((A.q b (a + r) (h * 128 + l) : ℝ) : EReal)) (r : Fin 256) (l : Fin 128) :
    k0_pay7 (F := Ideal) c s x (ix2 r l) = ((rowQ A b h (a + r) l : ℝ) : EReal) := by
  have hl := l.isLt
  pointwise [k0_pay7, k0_pay5, k0_pay6]
  rw [hx, hx, hc, hs, ← EReal.coe_mul, ← EReal.coe_mul, ← EReal.coe_add]
  refine congrArg _ ?_
  unfold rowQ rot
  by_cases p : (l : ℕ) < 64
  · rw [if_pos p, if_pos p, if_pos p]
    dsimp only
    rw [show ((l : ℕ) + 128 - 64) % 128 = 64 + l by omega]; ring
  · rw [if_neg p, if_neg p, if_neg p]
    dsimp only
    rw [show ((l : ℕ) + 128 - 64) % 128 = l - 64 by omega, show 64 + ((l : ℕ) - 64) = l by omega]; ring

theorem key_real (hx : ∀ (r : Fin 256) (l : Fin 128), x (ix3 0 r l) = ((A.k b (a + r) (h * 128 + l) : ℝ) : EReal)) (r : Fin 256) (l : Fin 128) :
    k0_pay8 (F := Ideal) c s x (ix2 r l) = ((rowK A b h (a + r) l : ℝ) : EReal) := by
  have hl := l.isLt
  pointwise [k0_pay8, k0_pay5, k0_pay6]
  rw [hx, hx, hc, hs, Cert.Retain.of_scale, ← EReal.coe_mul, ← EReal.coe_mul, ← EReal.coe_add, ← EReal.coe_mul]
  refine congrArg _ ?_
  unfold rowK rot
  by_cases p : (l : ℕ) < 64
  · rw [if_pos p, if_pos p, if_pos p]
    dsimp only
    rw [show ((l : ℕ) + 128 - 64) % 128 = 64 + l by omega]; ring
  · rw [if_neg p, if_neg p, if_neg p]
    dsimp only
    rw [show ((l : ℕ) + 128 - 64) % 128 = l - 64 by omega, show 64 + ((l : ℕ) - 64) = l by omega]; ring

end rows

/-- The values' block, of real values. -/
theorem value_real (A : Arrays) (b h a : ℕ) (x : FVec Ideal S1x256x256 .f32)
    (hx : ∀ r e : Fin 256, x (ix3 0 r e) = ((A.v b (a + r) (h * 256 + e) : ℝ) : EReal)) (r e : Fin 256) :
    k0_pay9 (F := Ideal) x (ix2 r e) = ((rowV A b h (a + r) e : ℝ) : EReal) := by
  pointwise [k0_pay9]
  rw [hx]; rfl

/-- Real arrays that are the arguments' entries. -/
structure Reads (A : Arrays) (q k : FVec Ideal S4x2048x512 .f32) (v : FVec Ideal S4x2048x1024 .f32) (co si : FVec Ideal S2048x64 .f32) : Prop where
  q : ∀ b t l, q (ix3 b t l) = ((A.q b t l : ℝ) : EReal)
  k : ∀ b t l, k (ix3 b t l) = ((A.k b t l : ℝ) : EReal)
  v : ∀ b t l, v (ix3 b t l) = ((A.v b t l : ℝ) : EReal)
  c : ∀ t l, co (ix2 t l) = ((A.c t l : ℝ) : EReal)
  s : ∀ t l, si (ix2 t l) = ((A.s t l : ℝ) : EReal)

/-- What the retention is at each index. -/
def retention (A : Arrays) (g : FVec Ideal S4x2048x1024 .f32) : FVec Ideal S4x2048x1024 .bf16 := fun i =>
  closedAt (fun x => ((answer A (i 0 : ℕ) ((i 2 : ℕ) / 256) (i 1 : ℕ) x : ℝ) : EReal)) (g i) ⟨(i 2 : ℕ) % 256, Nat.mod_lt _ (by decide)⟩

variable (m : (ℓ : Loc nD τ sig) → Buf (Elt Ideal) ℓ) (c : Dev nD) (A : Arrays)
  (hA : Reads A (m ((c : Thread nD τ).loc main_arg0)) (m ((c : Thread nD τ).loc main_arg1)) (m ((c : Thread nD τ).loc main_arg2))
    (m ((c : Thread nD τ).loc main_arg4)) (m ((c : Thread nD τ).loc main_arg5)))

include hA

theorem cos_real (t : Fin cfg0.N) (r : Fin 256) (l : Fin 128) : iblk m c 4 t (ix2 r l)
    = (((if (l : ℕ) < 64 then A.c (t.val % 8 * 256 + r) l else A.c (t.val % 8 * 256 + r) ((l : ℕ) - 64)) : ℝ) : EReal) := by
  rw [block_c]
  split_ifs with p
  · exact hA.c _ _
  · exact hA.c _ _

theorem sin_real (t : Fin cfg0.N) (r : Fin 256) (l : Fin 128) : iblk m c 5 t (ix2 r l)
    = (((if (l : ℕ) < 64 then -(A.s (t.val % 8 * 256 + r) l) else A.s (t.val % 8 * 256 + r) ((l : ℕ) - 64)) : ℝ) : EReal) := by
  rw [block_s]
  split_ifs with p
  · rw [hA.s]; rfl
  · exact hA.s _ _

theorem queries (t : Fin cfg0.N) (h : Fin 4) (r : Fin 256) (l : Fin 128) :
    k0_pay7 (F := Ideal) (iblk m c 4 t) (iblk m c 5 t) (keyHead (X0_0 m c t) h) (ix2 r l) = ((rowQ A (t.val / 8) h (t.val % 8 * 256 + r) l : ℝ) : EReal) := by
  refine query_real A (t.val / 8) h (t.val % 8 * 256) _ _ _ (cos_real m c A hA t) (sin_real m c A hA t) (fun r l => ?_) r l
  rw [keyHead_at, block_q, hA.q, mul_comm (h : ℕ)]

theorem keys (t : Fin cfg0.N) (h : Fin 4) (r : Fin 256) (l : Fin 128) :
    k0_pay8 (F := Ideal) (iblk m c 4 t) (iblk m c 5 t) (keyHead (X0_1 m c t) h) (ix2 r l) = ((rowK A (t.val / 8) h (t.val % 8 * 256 + r) l : ℝ) : EReal) := by
  refine key_real A (t.val / 8) h (t.val % 8 * 256) _ _ _ (cos_real m c A hA t) (sin_real m c A hA t) (fun r l => ?_) r l
  rw [keyHead_at, block_k, hA.k, mul_comm (h : ℕ)]

theorem vals (t : Fin cfg0.N) (h : Fin 4) (r e : Fin 256) :
    k0_pay9 (F := Ideal) (valHead (X0_2 m c t) h) (ix2 r e) = ((rowV A (t.val / 8) h (t.val % 8 * 256 + r) e : ℝ) : EReal) := by
  refine value_real A (t.val / 8) h (t.val % 8 * 256) _ (fun r l => ?_) r e
  rw [valHead_at, block_v, hA.v, mul_comm (h : ℕ)]

/-- If the states a point begins with are right, so are those it leaves. -/
theorem state_step (t : Fin cfg0.N)
    (hb : ∀ (h : Fin 4) d e, before m c t (ix3 h d e) = ((kept A (t.val / 8) h d e (t.val % 8 * 256) : ℝ) : EReal)) (h : Fin 4) (d : Fin 128) (e : Fin 256) :
    (outsAt0 m c t.val t.isLt).2 (ix3 h d e) = ((kept A (t.val / 8) h d e (t.val % 8 * 256 + 256) : ℝ) : EReal) := by
  rw [left_state]
  show headState (logs h) (decays h) _ _ _ _ _ (ix3 0 d e) = _
  unfold headState
  rw [logs_eq, decays_eq]
  exact carried_real (gam h) (gam_pos h) (rowK A (t.val / 8) h) (rowV A (t.val / 8) h) (t.val % 8 * 256) _ _ _ (keys m c A hA t h) (vals m c A hA t h)
    (fun l e => (stateHead_at _ _ _ _).trans (hb h l e)) d e

/-- The states a point begins with. -/
theorem before_real (n : ℕ) : ∀ (hn : n < cfg0.N) (h : Fin 4) d e,
    before m c ⟨n, hn⟩ (ix3 h d e) = ((kept A (n / 8) h d e (n % 8 * 256) : ℝ) : EReal) := by
  induction n with
  | zero =>
    intro hn h d e
    unfold before
    rw [if_pos (Nat.zero_mod _)]
    pointwise [k0_pay2]
    simp [kept, state_zero]
  | succ n ih =>
    intro hn h d e
    unfold before
    by_cases p : (n + 1) % 8 = 0
    · rw [if_pos p, p]
      pointwise [k0_pay2]
      simp [kept, state_zero]
    · rw [if_neg p]
      have := state_step m c A hA ⟨n, Nat.lt_of_succ_lt hn⟩ (ih (Nat.lt_of_succ_lt hn)) h d e
      dsimp only at this
      rw [show (n + 1) / 8 = n / 8 by omega, show (n + 1) % 8 * 256 = n % 8 * 256 + 256 by omega]
      exact this

/-- A head's block. -/
theorem head_block (t : Fin cfg0.N) (h : Fin 4) (r e : Fin 256) :
    headOut (logs h) (iblk m c 4 t) (iblk m c 5 t) (keyHead (X0_0 m c t) h) (keyHead (X0_1 m c t) h) (valHead (X0_2 m c t) h) (valHead (X0_3 m c t) h)
        (stateHead (before m c t) h) (ix3 0 r e)
      = closedAt (fun x => ((answer A (t.val / 8) h (t.val % 8 * 256 + r) x : ℝ) : EReal))
          (m ((c : Thread nD τ).loc main_arg3) (ix3 (seq t) (row t r) ⟨256 * h + e, by have := h.isLt; have := e.isLt; omega⟩)) e := by
  unfold headOut
  rw [closed_at, valHead_at, block_g, logs_eq]
  refine congrArg (fun o => closedAt o _ e) (funext fun x => ?_)
  exact mixed_real (gam h) (gam_pos h) (rowQ A (t.val / 8) h) (rowK A (t.val / 8) h) (rowV A (t.val / 8) h) (t.val % 8 * 256) _ _ _ _
    (queries m c A hA t h) (keys m c A hA t h) (vals m c A hA t h)
    (fun l e => (stateHead_at _ _ _ _).trans (before_real m c A hA t.val t.isLt h l e)) r x

/-- A point's block of the result. -/
theorem block_real (t : Fin cfg0.N) (y : S1x256x1024.Idx) (i : S4x2048x1024.Idx) (h0 : (i 0 : ℕ) = t.val / 8) (h1 : (i 1 : ℕ) = t.val % 8 * 256 + (y 1 : ℕ))
    (h2 : (i 2 : ℕ) = (y 2 : ℕ)) : (outsAt0 m c t.val t.isLt).1 y = retention A (m ((c : Thread nD τ).loc main_arg3)) i := by
  rw [left_block]
  have hy : (y 2 : ℕ) < 1024 := (y 2).isLt
  refine (head_block m c A hA t ⟨(y 2 : ℕ) / 256, by omega⟩ (y 1) ⟨(y 2 : ℕ) % 256, Nat.mod_lt _ (by decide)⟩).trans ?_
  unfold retention
  rw [h0, h1]
  have hi : i = ix3 (seq t) (row t (y 1)) ⟨256 * ((y 2 : ℕ) / 256) + (y 2 : ℕ) % 256, by omega⟩ := by
    funext q; apply Fin.ext
    match q with
    | 0 => exact h0
    | 1 => exact h1
    | 2 => show (i 2 : ℕ) = 256 * ((y 2 : ℕ) / 256) + (y 2 : ℕ) % 256; omega
  have e2 : (⟨(i 2 : ℕ) % 256, Nat.mod_lt _ (by decide)⟩ : Fin 256) = ⟨(y 2 : ℕ) % 256, Nat.mod_lt _ (by decide)⟩ := Fin.ext (by dsimp only; rw [h2])
  have e3 : (i 2 : ℕ) / 256 = (y 2 : ℕ) / 256 := by rw [h2]
  rw [e2, e3]
  exact congrArg (fun j => closedAt _ (m ((c : Thread nD τ).loc main_arg3) j) _) hi.symm

/-- The array the kernel leaves. -/
theorem result : (dats m 0 c).arrAt 6 (cfgs 0).N = retention A (m ((c : Thread nD τ).loc main_arg3)) := by
  refine (dats m 0 c).arrAt_eq_of_covers 6 _ (by decide +kernel) fun t _ y => ?_
  blk_simp
  rw [after0_6]
  refine block_real m c A hA t _ _ ?_ ?_ ?_
  · blk_simp [at_point t]
  · blk_simp [at_point t]
  · blk_simp [at_point t]

end Cert.KernelIdeal.Value

end
-- ==== Proof.RetTrip.lean ====
/-
  The reference's loop and result, of real arguments.
-/
module

public import proofs.«01_k».proof.Defs
public import proofs.«01_k».proof.Proof.RetRef
public import proofs.«01_k».proof.Proof.RetLoop
public import proofs.«01_k».proof.Proof.RetKer
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceIdeal.Value

open Cert.ReferenceIdeal Cert.ReferenceIdeal.Gen Idealize.ShloMosaic.StableHlo Cert.Retain
open Cert.KernelIdeal.Value (Reads retention closedAt)

/-- The result as a function of the inner outputs, the loop's outputs and the gate. -/
def outOf (U : FVec Ideal S4x16x4x128x256 .f32) (O : FVec Ideal S16x4x4x128x256 .f32) (G : FVec Ideal S4x2048x1024 .f32) : FVec Ideal S4x2048x1024 .bf16 :=
  let o : FVec Ideal S4x2048x4x256 .f32 := shapeCast S4x2048x4x256
    (transpose S4x16x128x4x256 [0, 1, 3, 2, 4] (addf U (transpose S4x16x4x128x256 [1, 0, 2, 3, 4] O transposes_S16x4x4x128x256_S4x16x4x128x256_1_0_2_3_4))
      transposes_S4x16x4x128x256_S4x16x128x4x256_0_1_3_2_4) shapeCasts_S4x16x128x4x256_S4x2048x4x256
  truncf .bf16
    (mulf
      (shapeCast S4x2048x1024
        (mulf o
          (broadcastInDim S4x2048x4x256 ![0, 1, 2, 3] bcast_S4x2048x4x1_S4x2048x4x256_0_1_2_3
            (Host.rsqrt
              (addf
                (Host.divf
                  (broadcastInDim S4x2048x4x1 ![0, 1, 2] bcast_S4x2048x4_S4x2048x4x1_0_1_2
                    (Host.reduceAdd (mulf o o) (constant S_ .f32 0x00000000#32) reducesTo_S4x2048x4x256_S4x2048x4_d3 h_S_))
                  (broadcastInDim S4x2048x4x1 ![] bcast_S_S4x2048x4x1 (constant S_ .f32 0x43800000#32)))
                (broadcastInDim S4x2048x4x1 ![] bcast_S_S4x2048x4x1 (constant S_ .f32 0x358637BD#32))))))
        shapeCasts_S4x2048x4x256_S4x2048x1024)
      (mulf G
        (Host.divf (broadcastInDim S4x2048x1024 ![] bcast_S_S4x2048x1024 (constant S_ .f32 0x3F800000#32))
          (addf (broadcastInDim S4x2048x1024 ![] bcast_S_S4x2048x1024 (constant S_ .f32 0x3F800000#32)) (Host.exp (Host.negf G))))))
    bitsLt_bf16_f32

set_option maxRecDepth 100000 in
/-- What the operations after the loop leave. -/
theorem post_result (W : Valuation τ sig (Elt Ideal)) : afterL postI W (Proc.devRef .tc main_v118)
    = outOf (W (Proc.devRef .tc main_v66)) (W (Proc.devRef .tc main_v100_6)) (W (Proc.devRef .tc main_arg3)) := by
  simp only [afterL_cons, afterL_nil]
  after_reads_simp
  rfl

variable (m : (ℓ : Loc nD τ sig) → Buf (Elt Ideal) ℓ) (c : Dev nD) (A : Arrays)
  (hA : Reads A (m ((c : Thread nD τ).loc main_arg0)) (m ((c : Thread nD τ).loc main_arg1)) (m ((c : Thread nD τ).loc main_arg2))
    (m ((c : Thread nD τ).loc main_arg4)) (m ((c : Thread nD τ).loc main_arg5)))

theorem ctr_word (k : ℕ) : atK m k c (Proc.devRef .tc main_v100_4) = word k := by
  rw [atK_ctr]; funext _; simp [Scf.iv]

/-- What a trip leaves, carried buffer by carried buffer. -/
theorem trip_keeps (k : ℕ) :
    atK m (k + 1) c (Proc.devRef .tc main_v100_0) = atK m k c (Proc.devRef .tc main_v100_0)
    ∧ atK m (k + 1) c (Proc.devRef .tc main_v100_1) = atK m k c (Proc.devRef .tc main_v100_1)
    ∧ atK m (k + 1) c (Proc.devRef .tc main_v100_2) = atK m k c (Proc.devRef .tc main_v100_2)
    ∧ atK m (k + 1) c (Proc.devRef .tc main_v100_3) = atK m k c (Proc.devRef .tc main_v100_3) := by
  rw [show atK m (k + 1) c = afterL bodyI (after condOps (atK m k c)) from rfl]
  exact ⟨(trip_agree _ main_v100_0 (by decide)).trans (STEP_main_v100_0 _), (trip_agree _ main_v100_1 (by decide)).trans (STEP_main_v100_1 _),
    (trip_agree _ main_v100_2 (by decide)).trans (STEP_main_v100_2 _), (trip_agree _ main_v100_3 (by decide)).trans (STEP_main_v100_3 _)⟩

/-- The buffers the loop reads only. -/
theorem fixed : ∀ k, atK m k c (Proc.devRef .tc main_v100_0) = qdOf (Q m c) ∧ atK m k c (Proc.devRef .tc main_v100_1) = kdOf (K m c)
    ∧ atK m k c (Proc.devRef .tc main_v100_2) = vdOf (V m c) ∧ atK m k c (Proc.devRef .tc main_v100_3) = wholeOf
  | 0 => ⟨entry_0 m c, entry_1 m c, entry_2 m c, entry_3 m c⟩
  | k + 1 => by
    obtain ⟨a0, a1, a2, a3⟩ := trip_keeps m c k
    obtain ⟨b0, b1, b2, b3⟩ := fixed k
    exact ⟨a0.trans b0, a1.trans b1, a2.trans b2, a3.trans b3⟩

/-- The state after a trip. -/
theorem trip_state (k : ℕ) : atK m (k + 1) c (Proc.devRef .tc main_v100_5)
    = nextState (atK m k c (Proc.devRef .tc main_v100_5)) wholeOf (kdOf (K m c)) (vdOf (V m c)) (word k) := by
  obtain ⟨b0, b1, b2, b3⟩ := fixed m c k
  rw [← b1, ← b2, ← b3, ← ctr_word m c k]
  exact ((trip_agree (atK m k c) main_v100_5 (by decide)).trans (STEP_main_v100_5 _)).trans (step_state _)

/-- The outputs after a trip. -/
theorem trip_stack (k : ℕ) : atK m (k + 1) c (Proc.devRef .tc main_v100_6)
    = nextStack (atK m k c (Proc.devRef .tc main_v100_6)) (qdOf (Q m c)) (atK m k c (Proc.devRef .tc main_v100_5)) (word k) := by
  obtain ⟨b0, b1, b2, b3⟩ := fixed m c k
  rw [← b0, ← ctr_word m c k]
  exact ((trip_agree (atK m k c) main_v100_6 (by decide)).trans (STEP_main_v100_6 _)).trans (step_stack _)

include hA

theorem Q_real (b : Fin 4) (n : Fin 16) (h : Fin 4) (i l : Fin 128) : Q m c (ix5 b n h i l) = ((rowQ A b h (n * 128 + i) l : ℝ) : EReal) :=
  q_at A _ _ _ hA.c hA.s hA.q b n h i l
theorem K_real (b : Fin 4) (n : Fin 16) (h : Fin 4) (i l : Fin 128) : K m c (ix5 b n h i l) = ((rowK A b h (n * 128 + i) l : ℝ) : EReal) :=
  k_at A _ _ _ hA.c hA.s hA.k b n h i l
theorem V_real (b : Fin 4) (n : Fin 16) (h : Fin 4) (i : Fin 128) (l : Fin 256) : V m c (ix5 b n h i l) = ((rowV A b h (n * 128 + i) l : ℝ) : EReal) :=
  v_at A _ hA.v b n h i l

/-- The states before each trip. -/
theorem states (k : ℕ) (hk : k ≤ 16) (b h : Fin 4) (d : Fin 128) (e : Fin 256) :
    (atK m k c (Proc.devRef .tc main_v100_5) : FVec Ideal S4x4x128x256 .f32) (ix4 b h d e) = ((kept A b h d e (k * 128) : ℝ) : EReal) := by
  induction k generalizing d e with
  | zero =>
    refine (congrFun (entry_5 m c) _).trans ?_
    pointwise []
    simp [kept, state_zero]
  | succ k ih =>
    refine (congrFun (trip_state m c k) _).trans ((nextState_at _ _ _ _ ⟨k, by omega⟩ b h d e).trans ?_)
    rw [ih (by omega), whole_at]
    simp only [kd_at A _ (K_real m c A hA), vd_at A _ (V_real m c A hA)]
    rw [show (k + 1) * 128 = k * 128 + 128 by ring]
    unfold kept
    rw [← state_add, EReal.coe_add, EReal.coe_mul, ← coe_sum]
    simp only [← EReal.coe_mul]

/-- The outputs of the trips so far. -/
theorem outputs (k : ℕ) (hk : k ≤ 16) (n : Fin 16) (hn : (n : ℕ) < k) (b h : Fin 4) (i : Fin 128) (e : Fin 256) :
    (atK m k c (Proc.devRef .tc main_v100_6) : FVec Ideal S16x4x4x128x256 .f32) (ix5 n b h i e)
      = ((∑ l, rowQ A b h (n * 128 + i) l * gam h ^ ((i : ℕ) + 1) * kept A b h l e (n * 128) : ℝ) : EReal) := by
  induction k with
  | zero => omega
  | succ k ih =>
    refine (congrFun (trip_stack m c k) _).trans ((nextStack_at _ _ _ ⟨k, by omega⟩ n b h i e).trans ?_)
    by_cases p : n = ⟨k, by omega⟩
    · rw [if_pos p, ← p]
      have pk : (n : ℕ) = k := by rw [p]
      rw [← coe_sum]
      refine Finset.sum_congr rfl fun l _ => ?_
      rw [qd_at A _ (Q_real m c A hA), states m c A hA k (by omega), ← pk, ← EReal.coe_mul]
    · rw [if_neg p]
      exact ih (by omega) (by have : (n : ℕ) ≠ k := fun q => p (Fin.ext q); omega)

/-- The two outputs of a chunk make up the reading. -/
theorem total (b : Fin 4) (n : Fin 16) (h : Fin 4) (i : Fin 128) (e : Fin 256) :
    (innerOf (Q m c) (K m c) (V m c) (ix5 b n h i e) : EReal)
      + (atK m 16 c (Proc.devRef .tc main_v100_6) : FVec Ideal S16x4x4x128x256 .f32) (ix5 n b h i e)
      = ((answer A b h (n * 128 + i) e : ℝ) : EReal) := by
  rw [inner_at A _ _ _ (Q_real m c A hA) (K_real m c A hA) (V_real m c A hA), outputs m c A hA 16 (le_refl _) n n.isLt, ← EReal.coe_add]
  exact congrArg _ (reads_add (gam h) (rowQ A b h) (rowK A b h) (fun s => rowV A b h s e) (n * 128) 128 i)

end Cert.ReferenceIdeal.Value

end
-- ==== Proof.Retention.lean ====
/-
  The claims of the retention: its reference's frame, the kernel's named constants, and that the two compute one array of
  finite arguments.
-/
module

public import proofs.«01_k».proof.Defs
public import proofs.«01_k».proof.Proof.RetTrip
public import proofs.«01_k».proof.Proof.Gen.Pre_finite
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceIdeal.Value

open Cert.ReferenceIdeal Cert.ReferenceIdeal.Gen Idealize.ShloMosaic.StableHlo Cert.Retain
open Cert.KernelIdeal.Value (Reads retention closedAt)

/-- The result at an index, where the two outputs of a chunk make up the reading. -/
theorem outOf_at (U : FVec Ideal S4x16x4x128x256 .f32) (O : FVec Ideal S16x4x4x128x256 .f32) (G : FVec Ideal S4x2048x1024 .f32) (A : Arrays)
    (hUO : ∀ b n h i e, (U (ix5 b n h i e) : EReal) + O (ix5 n b h i e) = ((answer A b h (n * 128 + i) e : ℝ) : EReal)) :
    outOf U O G = retention A G := by
  funext j
  obtain ⟨b, t, x, rfl⟩ : ∃ b t x, j = ix3 b t x := ⟨j 0, j 1, j 2, by funext q; fin_cases q <;> rfl⟩
  pointwise [outOf]
  simp only [hUO]
  show _ = closedAt (fun e => ((answer A (b : ℕ) ((x : ℕ) / 256) (t : ℕ) e : ℝ) : EReal)) (G (ix3 b t x)) ⟨(x : ℕ) % 256, Nat.mod_lt _ (by decide)⟩
  unfold closedAt
  rw [Nat.div_add_mod' (t : ℕ) 128, ← mul_assoc]
  rfl

variable (m : (ℓ : Loc nD τ sig) → Buf (Elt Ideal) ℓ) (c : Dev nD)

/-- A buffer that neither the loop's condition nor its body writes keeps its contents through a trip. -/
theorem trip_keep (W : Valuation τ sig (Elt Ideal)) (r : Ref sig .tc) (hc : r ∉ condOps_W) (h0 : r ∉ while0Ops0_W) (h1 : r ∉ while0Ops0_1_W)
    (h2 : r ∉ while0Ops0_2_W) (h3 : r ∉ while0Ops0_3_W) (h4 : r ∉ while0Ops0_4_W) (h5 : r ∉ while0Ops0_5_W) :
    afterL bodyI (after condOps W) (Proc.devRef .tc r) = W (Proc.devRef .tc r) := by
  simp only [afterL_cons, afterL_nil]
  rw [after_of_writes_sub while0Ops0_5 _ while0Ops0_5_writes h5, after_of_writes_sub while0Ops0_4 _ while0Ops0_4_writes h4,
    after_of_writes_sub while0Ops0_3 _ while0Ops0_3_writes h3, after_of_writes_sub while0Ops0_2 _ while0Ops0_2_writes h2,
    after_of_writes_sub while0Ops0_1 _ while0Ops0_1_writes h1, after_of_writes_sub while0Ops0 _ while0Ops0_writes h0,
    after_of_writes_sub condOps _ condOps_writes hc]

theorem loop_keep (r : Ref sig .tc) (hc : r ∉ condOps_W) (h0 : r ∉ while0Ops0_W) (h1 : r ∉ while0Ops0_1_W)
    (h2 : r ∉ while0Ops0_2_W) (h3 : r ∉ while0Ops0_3_W) (h4 : r ∉ while0Ops0_4_W) (h5 : r ∉ while0Ops0_5_W) :
    ∀ k, atK m k c (Proc.devRef .tc r) = entryContents preI m c (Proc.devRef .tc r)
  | 0 => rfl
  | k + 1 => (trip_keep (atK m k c) r hc h0 h1 h2 h3 h4 h5).trans (loop_keep r hc h0 h1 h2 h3 h4 h5 k)

/-- An argument ends as it began. -/
theorem arg_keep (r : Ref sig .tc) (hc : r ∉ condOps_W) (h0 : r ∉ while0Ops0_W) (h1 : r ∉ while0Ops0_1_W)
    (h2 : r ∉ while0Ops0_2_W) (h3 : r ∉ while0Ops0_3_W) (h4 : r ∉ while0Ops0_4_W) (h5 : r ∉ while0Ops0_5_W)
    (p0 : r ∉ hostOps0_W) (p1 : r ∉ hostOps0_1_W) (p2 : r ∉ hostOps0_2_W) (p3 : r ∉ hostOps0_3_W) (p4 : r ∉ hostOps0_4_W)
    (hp : ∀ W : Valuation τ sig (Elt Ideal), afterL postI W (Proc.devRef .tc r) = W (Proc.devRef .tc r)) :
    finalContents condOps preI bodyI postI 16 m c (Proc.devRef .tc r) = m ((c : Thread nD τ).loc r) := by
  show afterL postI (after condOps (atK m 16 c)) (Proc.devRef .tc r) = _
  rw [hp, after_of_writes_sub condOps _ condOps_writes hc,
    loop_keep m c r hc h0 h1 h2 h3 h4 h5]
  simp only [entryContents, afterL_cons, afterL_nil]
  rw [after_of_writes_sub hostOps0_4 _ hostOps0_4_writes p4, after_of_writes_sub hostOps0_3 _ hostOps0_3_writes p3,
    after_of_writes_sub hostOps0_2 _ hostOps0_2_writes p2, after_of_writes_sub hostOps0_1 _ hostOps0_1_writes p1,
    after_of_writes_sub hostOps0 _ hostOps0_writes p0]

/-- The result the reference leaves. -/
theorem final_result (A : Arrays)
    (hA : Reads A (m ((c : Thread nD τ).loc main_arg0)) (m ((c : Thread nD τ).loc main_arg1)) (m ((c : Thread nD τ).loc main_arg2))
      (m ((c : Thread nD τ).loc main_arg4)) (m ((c : Thread nD τ).loc main_arg5))) :
    finalContents condOps preI bodyI postI 16 m c (Proc.devRef .tc main_v118) = retention A (m ((c : Thread nD τ).loc main_arg3)) := by
  have e := post_result (after condOps (atK m 16 c))
  rw [after_of_writes_sub condOps _ condOps_writes (r := main_v66) (by decide +kernel),
    after_of_writes_sub condOps _ condOps_writes (r := main_v100_6) (by decide +kernel),
    after_of_writes_sub condOps _ condOps_writes (r := main_arg3) (by decide +kernel),
    loop_keep m c main_v66 (by decide +kernel) (by decide +kernel) (by decide +kernel) (by decide +kernel) (by decide +kernel) (by decide +kernel) (by decide +kernel),
    loop_keep m c main_arg3 (by decide +kernel) (by decide +kernel) (by decide +kernel) (by decide +kernel) (by decide +kernel) (by decide +kernel) (by decide +kernel),
    entry_inner, entry_gate] at e
  exact e.trans (outOf_at _ _ _ A (total m c A hA))

/-- The arguments end as they began. -/
theorem args_keep (mem : (ℓ : Loc nD τ sig) → Buf (Elt Ideal) ℓ)
    (h : ∀ b : Ref sig .tc, (Proc.devRef .tc b : DevRef τ sig).isScoped = false →
      mem ((c.tc : Thread nD τ).loc b) = finalContents condOps preI bodyI postI 16 m c (Proc.devRef .tc b)) :
    mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4)
    ∧ mem ((c.tc : Thread nD τ).loc main_arg5) = m ((c.tc : Thread nD τ).loc main_arg5) := by
  refine ⟨?_, ?_, ?_, ?_, ?_, ?_⟩
  · exact (h _ rfl).trans (arg_keep m c main_arg0 (by decide +kernel) (by decide +kernel) (by decide +kernel) (by decide +kernel) (by decide +kernel) (by decide +kernel) (by decide +kernel) (by decide +kernel) (by decide +kernel) (by decide +kernel) (by decide +kernel) (by decide +kernel) (fun W => by simp only [afterL_cons, afterL_nil]; after_reads_simp))
  · exact (h _ rfl).trans (arg_keep m c main_arg1 (by decide +kernel) (by decide +kernel) (by decide +kernel) (by decide +kernel) (by decide +kernel) (by decide +kernel) (by decide +kernel) (by decide +kernel) (by decide +kernel) (by decide +kernel) (by decide +kernel) (by decide +kernel) (fun W => by simp only [afterL_cons, afterL_nil]; after_reads_simp))
  · exact (h _ rfl).trans (arg_keep m c main_arg2 (by decide +kernel) (by decide +kernel) (by decide +kernel) (by decide +kernel) (by decide +kernel) (by decide +kernel) (by decide +kernel) (by decide +kernel) (by decide +kernel) (by decide +kernel) (by decide +kernel) (by decide +kernel) (fun W => by simp only [afterL_cons, afterL_nil]; after_reads_simp))
  · exact (h _ rfl).trans (arg_keep m c main_arg3 (by decide +kernel) (by decide +kernel) (by decide +kernel) (by decide +kernel) (by decide +kernel) (by decide +kernel) (by decide +kernel) (by decide +kernel) (by decide +kernel) (by decide +kernel) (by decide +kernel) (by decide +kernel) (fun W => by simp only [afterL_cons, afterL_nil]; after_reads_simp))
  · exact (h _ rfl).trans (arg_keep m c main_arg4 (by decide +kernel) (by decide +kernel) (by decide +kernel) (by decide +kernel) (by decide +kernel) (by decide +kernel) (by decide +kernel) (by decide +kernel) (by decide +kernel) (by decide +kernel) (by decide +kernel) (by decide +kernel) (fun W => by simp only [afterL_cons, afterL_nil]; after_reads_simp))
  · exact (h _ rfl).trans (arg_keep m c main_arg5 (by decide +kernel) (by decide +kernel) (by decide +kernel) (by decide +kernel) (by decide +kernel) (by decide +kernel) (by decide +kernel) (by decide +kernel) (by decide +kernel) (by decide +kernel) (by decide +kernel) (by decide +kernel) (fun W => by simp only [afterL_cons, afterL_nil]; after_reads_simp))

end Cert.ReferenceIdeal.Value

namespace Cert.Proof

open Cert.Retain

/-- The reference runs and leaves its arguments. -/
theorem reference_frame : Cert.quiescent_ReferenceIdeal := fun m g _ =>
  (θ_run Cert.ReferenceIdeal.defs _ _).mono
    (fun r h => ⟨fun c => Cert.ReferenceIdeal.Value.args_keep m c r.2.mem (h c), sem_eq_zero_of_no_sems (by decide) r.2⟩)
    (Cert.ReferenceIdeal.Value.run_fold (F := Ideal) m g)

/-- Each named constant's word and value. -/
theorem kernel_preserves : Cert.preserves_Kernel_KernelIdeal :=
  ⟨IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl,
    IdealRules.named_const.statement _ _ _ _ _ rfl⟩

/-- Finite arguments are real. -/
theorem reals (m : (ℓ : Loc Cert.KernelIdeal.nD Cert.KernelIdeal.τ Cert.KernelIdeal.sig) → Buf (Elt Ideal) ℓ) (h : Cert.Pre_KernelIdeal_finite m)
    (c : Dev Cert.KernelIdeal.nD) : ∃ A : Arrays, Cert.KernelIdeal.Value.Reads A
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) := by
  obtain ⟨h0, h1, h2, h3, h4⟩ := h c
  obtain ⟨q, hq⟩ := reals3 (m ((c.tc : Thread Cert.KernelIdeal.nD Cert.KernelIdeal.τ).loc Cert.KernelIdeal.main_arg0)) fun i =>
    real_of_lt _ (congrFun h0 i)
  obtain ⟨k, hk⟩ := reals3 (m ((c.tc : Thread Cert.KernelIdeal.nD Cert.KernelIdeal.τ).loc Cert.KernelIdeal.main_arg1)) fun i =>
    real_of_lt _ (congrFun h1 i)
  obtain ⟨v, hv⟩ := reals3 (m ((c.tc : Thread Cert.KernelIdeal.nD Cert.KernelIdeal.τ).loc Cert.KernelIdeal.main_arg2)) fun i =>
    real_of_lt _ (congrFun h2 i)
  obtain ⟨co, hco⟩ := reals2 (m ((c.tc : Thread Cert.KernelIdeal.nD Cert.KernelIdeal.τ).loc Cert.KernelIdeal.main_arg4)) fun i =>
    real_of_lt _ (congrFun h3 i)
  obtain ⟨si, hsi⟩ := reals2 (m ((c.tc : Thread Cert.KernelIdeal.nD Cert.KernelIdeal.τ).loc Cert.KernelIdeal.main_arg5)) fun i =>
    real_of_lt _ (congrFun h4 i)
  exact ⟨⟨q, k, v, co, si⟩, ⟨hq, hk, hv, hco, hsi⟩⟩

/-- The claim of the retention. -/
theorem retention_algebraic : Cert.algebraic_KernelIdeal_ReferenceIdeal_pre_finite := by
  intro m g m' g' hpre hargs
  choose A hA using reals m hpre
  refine ⟨fun c => Cert.KernelIdeal.Value.retention (A c) (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Value.result m c (A c) (hA c)), (h c).2⟩) (Cert.KernelIdeal.Value.run_blocks (F := Ideal) m g)
  · refine (θ_run Cert.ReferenceIdeal.defs _ _).mono (fun r h c => ?_) (Cert.ReferenceIdeal.Value.run_fold (F := Ideal) m' g')
    obtain ⟨a0, a1, a2, a3, a4, a5⟩ := hargs c
    refine ⟨((h c Cert.ReferenceIdeal.main_v118 rfl).trans (Cert.ReferenceIdeal.Value.final_result m' c (A c) ?_)).trans ?_,
      Cert.ReferenceIdeal.Value.args_keep m' c r.2.mem (h c)⟩
    · rw [a0, a1, a2, a4, a5]; exact hA c
    · rw [a3]

end Cert.Proof

end
-- ==== Proof.UpRef.lean ====
/-
  The reference of the up-projection read at its indices: the projection, padded with two rows of zeros in front of each
  sequence, is weighted with the three taps and summed, and the first half of the columns gates the second.
-/
module

public import proofs.«01_k».proof.Defs
public import proofs.«01_k».proof.Proof.Gen.FfnUpReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnUpReferenceIdeal.Value

open Cert.FfnUpReferenceIdeal Cert.FfnUpReferenceIdeal.Gen

/-- The projection with two rows of zeros before the first of each sequence. -/
def padOf (A : FVec Ideal S4x2048x2048 .bf16) (B : FVec Ideal S2048x11264 .f32) : FVec Ideal S4x2050x11264 .f32 :=
  pad S4x2050x11264 ![0, 2, 0] ![0, 0, 0] ![0, 0, 0] (Host.dotGeneral
    dot_S4x2048x2048_S2048x11264_S4x2048x11264_2_0_01_1_n_n none A B) (sitofp .f32 (constantI S_ 32 0#32))
    pads_S4x2048x11264_S4x2050x11264_000_200_000 h_S_

/-- The causal convolution of width three over the projection. -/
def convOf (A : FVec Ideal S4x2048x2048 .bf16) (B : FVec Ideal S2048x11264 .f32) (C : FVec Ideal S3x11264 .f32) :
    FVec Ideal S4x2048x11264 .f32 :=
  addf (addf (addf (broadcastInDim S4x2048x11264 ![] bcast_S_S4x2048x11264 (constant S_ .f32 0x00000000#32)) (mulf
    (broadcastInDim S4x2048x11264 ![0, 1, 2] bcast_S1x1x11264_S4x2048x11264_0_1_2 (broadcastInDim S1x1x11264 ![2]
    bcast_S11264_S1x1x11264_2 (shapeCast _ (extractStridedSlice S1x11264 ![0, 0] C slices_S3x11264_S1x11264_0_0)
    shapeCasts_S1x11264_S11264))) (extractStridedSlice S4x2048x11264 ![0, 0, 0] (padOf A B)
    slices_S4x2050x11264_S4x2048x11264_0_0_0))) (mulf (broadcastInDim S4x2048x11264 ![0, 1, 2]
    bcast_S1x1x11264_S4x2048x11264_0_1_2 (broadcastInDim S1x1x11264 ![2] bcast_S11264_S1x1x11264_2 (shapeCast _
    (extractStridedSlice S1x11264 ![1, 0] C slices_S3x11264_S1x11264_1_0) shapeCasts_S1x11264_S11264))) (extractStridedSlice
    S4x2048x11264 ![0, 1, 0] (padOf A B) slices_S4x2050x11264_S4x2048x11264_0_1_0))) (mulf (broadcastInDim S4x2048x11264
    ![0, 1, 2] bcast_S1x1x11264_S4x2048x11264_0_1_2 (broadcastInDim S1x1x11264 ![2] bcast_S11264_S1x1x11264_2 (shapeCast _
    (extractStridedSlice S1x11264 ![2, 0] C slices_S3x11264_S1x11264_2_0) shapeCasts_S1x11264_S11264))) (extractStridedSlice
    S4x2048x11264 ![0, 2, 0] (padOf A B) slices_S4x2050x11264_S4x2048x11264_0_2_0))

/-- The reference's result as a function of its three arguments. -/
def upOf (A : FVec Ideal S4x2048x2048 .bf16) (B : FVec Ideal S2048x11264 .f32) (C : FVec Ideal S3x11264 .f32) :
    FVec Ideal S8192x5632 .bf16 :=
  shapeCast _ (truncf .bf16 (mulf (mulf (extractStridedSlice S4x2048x5632 ![0, 0, 0] (convOf A B C)
    slices_S4x2048x11264_S4x2048x5632_0_0_0) (Host.divf (broadcastInDim S4x2048x5632 ![] bcast_S_S4x2048x5632 (constant S_
    .f32 0x3F800000#32)) (addf (broadcastInDim S4x2048x5632 ![] bcast_S_S4x2048x5632 (constant S_ .f32 0x3F800000#32))
    (Host.exp (Host.negf (extractStridedSlice S4x2048x5632 ![0, 0, 0] (convOf A B C)
    slices_S4x2048x11264_S4x2048x5632_0_0_0)))))) (extractStridedSlice S4x2048x5632 ![0, 0, 5632] (convOf A B C)
    slices_S4x2048x11264_S4x2048x5632_0_0_5632)) bitsLt_bf16_f32) shapeCasts_S4x2048x5632_S8192x5632

variable (A : FVec Ideal S4x2048x2048 .bf16) (B : FVec Ideal S2048x11264 .f32) (C : FVec Ideal S3x11264 .f32)

/-- The integer zero converts to the real one. -/
theorem sitofp_zero : (FloatOps.sitofp FTy.f32 0#32 : Ideal .f32) = 0 := by
  show ((BitVec.toInt 0#32 : ℝ) : EReal) = 0
  simp

/-- The padding holds zeros. -/
theorem pad_low (b : Fin 4) (p : Fin 2050) (col : Fin 11264) (hp : (p : ℕ) < 2) : padOf A B (ix3 b p col) = 0 := by
  pointwise [padOf]
  rw [dif_neg (by omega)]
  exact sitofp_zero

/-- Behind the padding comes the projection. -/
theorem pad_high (b : Fin 4) (p : Fin 2050) (s : Fin 2048) (col : Fin 11264) (hp : (p : ℕ) = s + 2) :
    padOf A B (ix3 b p col) = ∑ k : Fin 2048, A (ix3 b s k) * B (ix2 k col) := by
  pointwise [padOf]
  rw [dif_pos (by omega)]
  blk_point

/-- The convolution at an index: three taps. -/
theorem conv_at (b : Fin 4) (s : Fin 2048) (col : Fin 11264) (p0 p1 p2 : Fin 2050) (h0 : (p0 : ℕ) = s) (h1 : (p1 : ℕ) = s + 1)
    (h2 : (p2 : ℕ) = s + 2) : convOf A B C (ix3 b s col)
      = C (ix2 0 col) * padOf A B (ix3 b p0 col) + C (ix2 1 col) * padOf A B (ix3 b p1 col) + C (ix2 2 col) * padOf A B (ix3 b p2 col) := by
  pointwise [convOf]
  have e0 : (⟨(s : ℕ), by omega⟩ : Fin 2050) = p0 := Fin.ext (by dsimp only; omega)
  have e1 : (⟨1 + (s : ℕ), by omega⟩ : Fin 2050) = p1 := Fin.ext (by dsimp only; omega)
  have e2 : (⟨2 + (s : ℕ), by omega⟩ : Fin 2050) = p2 := Fin.ext (by dsimp only; omega)
  rw [e0, e1, e2]

/-- The gated product. -/
def gated (g v : EReal) : EReal := g * Ideal.div 1 (1 + Ideal.exp (-g)) * v

/-- The result at an index: the column's convolution gates that of the column half the width further on. -/
theorem up_at (i : Fin 8192) (f : Fin 5632) (b : Fin 4) (s : Fin 2048) (fg fv : Fin 11264) (hi : (i : ℕ) = b * 2048 + s)
    (hg : (fg : ℕ) = f) (hv : (fv : ℕ) = 5632 + f) :
    upOf A B C (ix2 i f) = gated (convOf A B C (ix3 b s fg)) (convOf A B C (ix3 b s fv)) := by
  pointwise [upOf, gated]
  have eb : (⟨(i : ℕ) / 2048, by omega⟩ : Fin 4) = b := Fin.ext (by dsimp only; omega)
  have es : (⟨(i : ℕ) % 2048, by omega⟩ : Fin 2048) = s := Fin.ext (by dsimp only; omega)
  have eg : (⟨(f : ℕ), by omega⟩ : Fin 11264) = fg := Fin.ext (by dsimp only; omega)
  have ev : (⟨5632 + (f : ℕ), by omega⟩ : Fin 11264) = fv := Fin.ext (by dsimp only; omega)
  rw [eb, es, eg, ev]

end Cert.FfnUpReferenceIdeal.Value

end
-- ==== Proof.UpBody.lean ====
/-
  The body of the up-projection at one point, over variables: the block's rows are multiplied by two blocks of columns,
  each product is convolved along the rows with the last rows that the point before left, and the one gates the other.
-/
module

public import proofs.«01_k».proof.Defs
public import proofs.«01_k».proof.Proof.Gen.FfnUpIdeal.Value
public import proofs.«01_k».proof.Proof.UpRef
public import proofs.«01_k».proof.Proof.Gen.FfnUpReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnUpIdeal.Value

open Cert.FfnUpIdeal Cert.FfnUpIdeal.Gen
open Cert.FfnUpReferenceIdeal.Value (gated)

/-- What a point stores, over the rows it reads, its two blocks of the weights and of the taps, and what the point before left. -/
def bodyOf (x : FVec Ideal S1024x2048 .bf16) (wg wv : FVec Ideal S2048x512 .bf16) (cg cv : FVec Ideal S1x3x512 .f32)
    (pg pv : FVec Ideal S1x8x512 .f32) : FVec Ideal S1024x512 .bf16 :=
  k0_pay3 (k0_pay9 x wv)
    (k0_pay12 (k0_pay8 x wg) (iota Kind.tc S1024x512 32 [0] iota_S1024x512_d0_w32) (k0_pay10 pg) (k0_pay11 x wg pg) (0#32) cg)
    (k0_pay14 (k0_pay9 x wv) (iota Kind.tc S1024x512 32 [0] iota_S1024x512_d0_w32) pv)
    (k0_pay15 (iota Kind.tc S1024x512 32 [0] iota_S1024x512_d0_w32))
    (k0_pay16 (k0_pay9 x wv) (iota Kind.tc S1024x512 32 [0] iota_S1024x512_d0_w32) pv) (k0_pay17 pv) cv

/-- A row's product with a column of the weights. -/
def rowdot (x : FVec Ideal S1024x2048 .bf16) (w : FVec Ideal S2048x512 .bf16) (r : Fin 1024) (f : Fin 512) : EReal :=
  ∑ l : Fin 2048, x (ix2 r l) * w (ix2 l f)

/-- A row of the convolution in a block: the rows before it are the block's own or, at its top, the last two of `p`. -/
def taps (x : FVec Ideal S1024x2048 .bf16) (w : FVec Ideal S2048x512 .bf16) (k : FVec Ideal S1x3x512 .f32)
    (p : FVec Ideal S1x8x512 .f32) (r : Fin 1024) (f : Fin 512) : EReal :=
  k (ix3 0 0 f) * Scalar.select (IntOp.cmpi CmpIPredicate.eq (BitVec.ofNat 32 r) 0#32) (p (ix3 0 6 f))
      (Scalar.select (IntOp.cmpi CmpIPredicate.eq (BitVec.ofNat 32 r) 1#32) (p (ix3 0 7 f))
        (rowdot x w ⟨((r : ℕ) + 1024 - 2) % 1024, Nat.mod_lt _ (by decide)⟩ f))
    + k (ix3 0 1 f) * Scalar.select (IntOp.cmpi CmpIPredicate.eq (BitVec.ofNat 32 r) 0#32) (p (ix3 0 7 f))
        (rowdot x w ⟨((r : ℕ) + 1024 - 1) % 1024, Nat.mod_lt _ (by decide)⟩ f)
    + k (ix3 0 2 f) * rowdot x w r f

/-- A test of a row against a literal decides it. -/
theorem row_test (r : Fin 1024) (n : ℕ) (hn : n < 1024) (a b : EReal) :
    Scalar.select (IntOp.cmpi CmpIPredicate.eq (BitVec.ofNat 32 r) (BitVec.ofNat 32 n)) a b = if (r : ℕ) = n then a else b := by
  have h := r.isLt
  have e : (BitVec.ofNat 32 r = BitVec.ofNat 32 n) ↔ (r : ℕ) = n := by
    rw [← BitVec.toNat_inj]; simp only [BitVec.toNat_ofNat]; omega
  by_cases hr : (r : ℕ) = n
  · simp [Scalar.select, IntOp.cmpi, hr]
  · have hb : (BitVec.ofNat 32 (r : ℕ) == BitVec.ofNat 32 n) = false := beq_eq_false_iff_ne.mpr fun q => hr (e.mp q)
    simp [Scalar.select, IntOp.cmpi, hb, hr]

/-- The taps from the three values they weight, each named at the rows where it comes from. -/
theorem taps_eq (x : FVec Ideal S1024x2048 .bf16) (w : FVec Ideal S2048x512 .bf16) (k : FVec Ideal S1x3x512 .f32)
    (p : FVec Ideal S1x8x512 .f32) (r : Fin 1024) (f : Fin 512) (z0 z1 z2 : EReal) (h2 : rowdot x w r f = z2)
    (h1 : (r : ℕ) = 0 → p (ix3 0 7 f) = z1) (h1' : ∀ s : Fin 1024, (s : ℕ) + 1 = r → rowdot x w s f = z1)
    (h0 : (r : ℕ) = 0 → p (ix3 0 6 f) = z0) (h0' : (r : ℕ) = 1 → p (ix3 0 7 f) = z0)
    (h0'' : ∀ s : Fin 1024, (s : ℕ) + 2 = r → rowdot x w s f = z0) :
    taps x w k p r f = k (ix3 0 0 f) * z0 + k (ix3 0 1 f) * z1 + k (ix3 0 2 f) * z2 := by
  have h := r.isLt
  unfold taps
  rw [row_test r 0 (by decide), row_test r 0 (by decide), row_test r 1 (by decide), h2]
  by_cases r0 : (r : ℕ) = 0
  · rw [if_pos r0, if_pos r0, h0 r0, h1 r0]
  · rw [if_neg r0, if_neg r0, h1' ⟨((r : ℕ) + 1024 - 1) % 1024, Nat.mod_lt _ (by decide)⟩ (by dsimp only; omega)]
    by_cases r1 : (r : ℕ) = 1
    · rw [if_pos r1, h0' r1]
    · rw [if_neg r1, h0'' ⟨((r : ℕ) + 1024 - 2) % 1024, Nat.mod_lt _ (by decide)⟩ (by dsimp only; omega)]

/-- What a point stores at an index: the convolution of the first half of the columns gates that of the second. -/
theorem body_at (x : FVec Ideal S1024x2048 .bf16) (wg wv : FVec Ideal S2048x512 .bf16) (cg cv : FVec Ideal S1x3x512 .f32)
    (pg pv : FVec Ideal S1x8x512 .f32) (r : Fin 1024) (f : Fin 512) :
    bodyOf x wg wv cg cv pg pv (ix2 r f) = gated (taps x wg cg pg r f) (taps x wv cv pv r f) := by
  pointwise [bodyOf, gated, k0_pay3, k0_pay7, k0_pay8, k0_pay9, k0_pay10, k0_pay11, k0_pay12, k0_pay13, k0_pay14, k0_pay15, k0_pay16, k0_pay17]
  rfl

end Cert.FfnUpIdeal.Value

end
-- ==== Proof.UpRun.lean ====
/-
  The up-projection of the channel mixer: a column of the grid keeps its two blocks of the weights in two scratches from
  its first point on and carries the last eight rows of both products from one half of a sequence to the next. So the
  convolution in a block is the reference's over the whole sequence, zeros standing before its first row.
-/
module

public import proofs.«01_k».proof.Defs
public import proofs.«01_k».proof.Proof.Gen.FfnUpReferenceIdeal.Run
public import Idealize.ShloMosaic.Lib.Pipeline.ValueKit
public import Idealize.ShloMosaic.Lib.Claim
public import Idealize.ShloMosaic.Lib.Pipeline.ReadBack
public import proofs.«01_k».proof.Proof.UpBody

@[expose] public section

set_option maxRecDepth 16384

noncomputable section

open Idealize.ShloMosaic Idealize.ShloMosaic.TcCoe Idealize.SL.Sem
open Idealize.ShloMosaic.Pipeline (Dat)

namespace Cert.FfnUpIdeal.Value

open Cert.FfnUpIdeal Cert.FfnUpIdeal.Gen
open Cert.FfnUpReferenceIdeal.Value (gated upOf convOf padOf up_at conv_at pad_low pad_high)

variable (m : (ℓ : Loc nD τ sig) → Buf (Elt Ideal) ℓ)

/-- Where each window's block sits at a point. -/
theorem at_point : ∀ t : Fin cfg0.N, win0_0.index t = ![t.val % 8, 0] ∧ win0_1.index t = ![0, 0, t.val / 8]
      ∧ win0_2.index t = ![0, 0, t.val / 8 + 11] ∧ win0_3.index t = ![0, 0, t.val / 8]
      ∧ win0_4.index t = ![0, 0, t.val / 8 + 11] ∧ win0_5.index t = ![t.val % 8, t.val / 8] ∧ t.val / 8 < 11 :=
  (by decide +kernel : ∀ t : Fin grid0.N, _)

/-- Within a column the blocks of the weights are those of the point before. -/
theorem same_weights (c : Dev nD) (n : ℕ) (h : n + 1 < cfg0.N) (hn : (n + 1) % 8 ≠ 0) :
    iblk m c 1 ⟨n, Nat.lt_of_succ_lt h⟩ = iblk m c 1 ⟨n + 1, h⟩ ∧ iblk m c 2 ⟨n, Nat.lt_of_succ_lt h⟩ = iblk m c 2 ⟨n + 1, h⟩ := by
  have e : n / 8 = (n + 1) / 8 := by omega
  constructor <;> funext y <;> blk_ext [iblk, at_point ⟨n, Nat.lt_of_succ_lt h⟩, at_point ⟨n + 1, h⟩]

/-- Within a column a point leaves the two scratches of the weights as they are. -/
theorem kept (c : Dev nD) (t : Fin cfg0.N) (ht : ¬t.val % 8 = 0) :
    (outsAt0 m c t.val t.isLt).2.2 = (outsAt0 m c (t.val - 1) (Nat.lt_of_le_of_lt (Nat.sub_le _ _) t.isLt)).2.2 := by
  by_cases h1 : t.val % 2 = 0
  · rw [outsAt0_C m c t ht h1]
    dsimp only [sout0_C_1, sout0_C_2]
  · rw [outsAt0_B m c t ht h1]
    dsimp only [sout0_B_1, sout0_B_2]

/-- The two scratches hold the point's own blocks of the weights. -/
theorem held (c : Dev nD) : ∀ (n : ℕ) (h : n < cfg0.N), (outsAt0 m c n h).2.2.1 = k0_pay4 (iblk m c 1 ⟨n, h⟩)
      ∧ (outsAt0 m c n h).2.2.2 = k0_pay5 (iblk m c 2 ⟨n, h⟩) := by
  intro n
  induction n with
  | zero => intro h; rw [outsAt0_A m c ⟨0, h⟩ rfl rfl]; constructor <;> frame_out
  | succ n ih =>
    intro h
    by_cases hn : (n + 1) % 8 = 0
    · rw [outsAt0_A m c ⟨n + 1, h⟩ hn (by dsimp only; omega)]; constructor <;> frame_out
    · rw [← (same_weights m c n h hn).1, ← (same_weights m c n h hn).2, kept m c ⟨n + 1, h⟩ hn]
      exact ih (Nat.lt_of_succ_lt h)

/-- So they do when a point begins that is not the first of its column. -/
theorem held_before (c : Dev nD) (t : Fin cfg0.N) (ht : ¬t.val % 8 = 0) :
    (outsAt0 m c (t.val - 1) (Nat.lt_of_le_of_lt (Nat.sub_le _ _) t.isLt)).2.2.1 = k0_pay4 (iblk m c 1 t)
      ∧ (outsAt0 m c (t.val - 1) (Nat.lt_of_le_of_lt (Nat.sub_le _ _) t.isLt)).2.2.2 = k0_pay5 (iblk m c 2 t) := by
  rw [← kept m c t ht]
  exact held m c t.val t.isLt

/-- The rows of the carried scratch that a point begins with: the first half of a sequence begins with zeros. -/
def before (c : Dev nD) (t : Fin cfg0.N) : FVec Ideal S2x8x512 .f32 :=
  if t.val % 2 = 0 then k0_pay6 else (outsAt0 m c (t.val - 1) (Nat.lt_of_le_of_lt (Nat.sub_le _ _) t.isLt)).2.1

/-- One of the two halves of the carried scratch. -/
def halfOf (v : FVec Ideal S2x8x512 .f32) (a : Fin 2) : FVec Ideal S1x8x512 .f32 := fun j => v (ix3 a (j 1) (j 2))

/-- A load of the first half. -/
theorem ld_first (v : FVec Ideal S2x8x512 .f32) :
    (View.ld (Val := Elt Ideal) (e' := .f32) (S := S2x8x512) v (Rect.unit (s := S2x8x512) ![0, 0, 0] ![1, 8, 512] inb_S2x8x512_S1x8x512_0_0_0) : FVec Ideal S1x8x512 .f32) = halfOf v 0 := by
  funext j
  obtain ⟨a, e, f, rfl⟩ : ∃ (a : Fin 1) (e : Fin 8) (f : Fin 512), j = ix3 a e f := ⟨j 0, j 1, j 2, by funext q; fin_cases q <;> rfl⟩
  exact View.ld_unit_apply_of (Val := Elt Ideal) (e := .f32) (S := S2x8x512) _ _ _ _ _ _ (by simp [Fin.forall_fin_succ, ix3])

/-- A load of the second half. -/
theorem ld_second (v : FVec Ideal S2x8x512 .f32) :
    (View.ld (Val := Elt Ideal) (e' := .f32) (S := S2x8x512) v (Rect.unit (s := S2x8x512) ![1, 0, 0] ![1, 8, 512] inb_S2x8x512_S1x8x512_1_0_0) : FVec Ideal S1x8x512 .f32) = halfOf v 1 := by
  funext j
  obtain ⟨a, e, f, rfl⟩ : ∃ (a : Fin 1) (e : Fin 8) (f : Fin 512), j = ix3 a e f := ⟨j 0, j 1, j 2, by funext q; fin_cases q <;> rfl⟩
  exact View.ld_unit_apply_of (Val := Elt Ideal) (e := .f32) (S := S2x8x512) _ _ _ _ _ _ (by simp [Fin.forall_fin_succ, ix3])

/-- What a point leaves in the result's buffer. -/
theorem left (c : Dev nD) (t : Fin cfg0.N) : (outsAt0 m c t.val t.isLt).1
    = bodyOf (iblk m c 0 t) (k0_pay4 (iblk m c 1 t)) (k0_pay5 (iblk m c 2 t)) (iblk m c 3 t) (iblk m c 4 t)
        (halfOf (before m c t) 0) (halfOf (before m c t) 1) := by
  unfold before
  by_cases h1 : t.val % 2 = 0
  · rw [if_pos h1, ← ld_first, ← ld_second]
    by_cases ht : t.val % 8 = 0
    · rw [outsAt0_A m c t ht h1]; frame_out
      rw [View.readCov_fill _ _ _ _ _ (by decide), View.readCov_fill _ _ _ _ _ (by decide)]
      rfl
    · rw [outsAt0_C m c t ht h1]; frame_out
      rw [View.readCov_fill _ _ _ _ _ (by decide), View.readCov_fill _ _ _ _ _ (by decide), ← (held_before m c t ht).1, ← (held_before m c t ht).2]
      unfold bodyOf
      simp only [(Memref.isWhole_whole _).read_unread]
  · have ht : ¬t.val % 8 = 0 := by omega
    rw [outsAt0_B m c t ht h1]; frame_out
    rw [if_neg h1, ← ld_first, ← ld_second, ← (held_before m c t ht).1, ← (held_before m c t ht).2]
    unfold bodyOf
    simp only [(Memref.isWhole_whole _).read_unread]

end Cert.FfnUpIdeal.Value
end
-- ==== Proof.Up.lean ====
/-
  The up-projection read at its indices: what a point stores is the convolution over the whole sequence at the block's own
  rows, since the carried scratch holds the last rows of the point before, and so the result is the reference's.
-/
module

public import proofs.«01_k».proof.Defs
public import proofs.«01_k».proof.Proof.UpRun
public import proofs.«01_k».proof.Proof.Gen.FfnUpReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnUpIdeal.Value

open Cert.FfnUpIdeal Cert.FfnUpIdeal.Gen
open Cert.FfnUpReferenceIdeal.Value (gated upOf convOf padOf up_at conv_at pad_low pad_high)

variable (m : (ℓ : Loc nD τ sig) → Buf (Elt Ideal) ℓ)

/-- The halves of a scratch, joined. -/
def joined (g v : FVec Ideal S1x8x512 .f32) : FVec Ideal S2x8x512 .f32 := fun j => if (j 0 : ℕ) = 0 then g (ix3 0 (j 1) (j 2)) else v (ix3 0 (j 1) (j 2))

/-- Stores of the two halves, over whatever came before, leave the halves joined. -/
theorem canon_joined (g v : FVec Ideal S1x8x512 .f32) (L : List (View.Piece (Elt Ideal) S2x8x512 .f32)) :
    View.canon (⟨Rect.unit (s := S2x8x512) ![1, 0, 0] ![1, 8, 512] inb_S2x8x512_S1x8x512_1_0_0, v⟩
      :: ⟨Rect.unit (s := S2x8x512) ![0, 0, 0] ![1, 8, 512] inb_S2x8x512_S1x8x512_0_0_0, g⟩ :: L) = joined g v := by
  funext y
  refine View.canon_append_of_piecesOf (joined g v) L [⟨Rect.unit (s := S2x8x512) ![1, 0, 0] ![1, 8, 512] inb_S2x8x512_S1x8x512_1_0_0, v⟩,
    ⟨Rect.unit (s := S2x8x512) ![0, 0, 0] ![1, 8, 512] inb_S2x8x512_S1x8x512_0_0_0, g⟩] ⟨fun x => ?_, fun x => ?_, trivial⟩ y ?_
  · unfold joined
    rw [if_neg fun e => by have q : 1 + 1 * (x 0 : ℕ) = 0 := e; omega]
    exact congrArg v (by blk_ext)
  · have hx : (x 0 : ℕ) < 1 := (x 0).isLt
    unfold joined
    refine Eq.trans ?_ (if_pos (show 0 + 1 * (x 0 : ℕ) = 0 by omega)).symm
    exact congrArg g (by blk_ext)
  · have hy : (y 0 : ℕ) < 2 := (y 0).isLt
    by_cases h : (y 0 : ℕ) = 0
    · refine ⟨_, List.mem_cons_of_mem _ (List.mem_singleton_self _), ?_⟩
      exact (Rect.mem_set_unit (inb := inb_S2x8x512_S1x8x512_0_0_0)).mpr (Fin.forall_fin_succ.mpr ⟨⟨by simp, by simp; omega⟩, Fin.forall_fin_succ.mpr
        ⟨⟨by simp, by simpa using (y 1).isLt⟩, Fin.forall_fin_succ.mpr ⟨⟨by simp, by simpa using (y 2).isLt⟩, fun a => a.elim0⟩⟩⟩)
    · refine ⟨_, List.mem_cons_self, ?_⟩
      exact (Rect.mem_set_unit (inb := inb_S2x8x512_S1x8x512_1_0_0)).mpr (Fin.forall_fin_succ.mpr ⟨⟨by simp; omega, by simp; omega⟩, Fin.forall_fin_succ.mpr
        ⟨⟨by simp, by simpa using (y 1).isLt⟩, Fin.forall_fin_succ.mpr ⟨⟨by simp, by simpa using (y 2).isLt⟩, fun a => a.elim0⟩⟩⟩)

/-- The last eight rows of a product. -/
def lastRows (x : FVec Ideal S1024x2048 .bf16) (w : FVec Ideal S2048x512 .bf16) : FVec Ideal S1x8x512 .f32 :=
  fun j => rowdot x w ⟨1016 + j 1, by have h : (j 1 : ℕ) < 8 := (j 1).isLt; omega⟩ (j 2)

/-- What is stored in the carried scratch is the last rows of the two products. -/
theorem rows_first (x : FVec Ideal S1024x2048 .bf16) (w : FVec Ideal S2048x512 .bf16) : k0_pay1 (k0_pay8 x w) = lastRows x w := by
  funext j
  pointwise [k0_pay1, k0_pay7, k0_pay8, lastRows, rowdot]

/-- What is stored in the carried scratch is the last rows of the two products. -/
theorem rows_second (x : FVec Ideal S1024x2048 .bf16) (w : FVec Ideal S2048x512 .bf16) : k0_pay2 (k0_pay9 x w) = lastRows x w := by
  funext j
  pointwise [k0_pay2, k0_pay7, k0_pay9, lastRows, rowdot]

/-- The carried scratch after a point holds the last rows of the point's two products. -/
theorem carry (c : Dev nD) (t : Fin cfg0.N) : (outsAt0 m c t.val t.isLt).2.1
    = joined (lastRows (iblk m c 0 t) (k0_pay4 (iblk m c 1 t))) (lastRows (iblk m c 0 t) (k0_pay5 (iblk m c 2 t))) := by
  rw [← rows_first, ← rows_second]
  by_cases h1 : t.val % 2 = 0
  · by_cases ht : t.val % 8 = 0
    · rw [outsAt0_A m c t ht h1]; frame_out
      exact canon_joined _ _ _
    · rw [outsAt0_C m c t ht h1]; frame_out
      refine (canon_joined _ _ _).trans ?_
      rw [(Memref.isWhole_whole _).read_unread, (Memref.isWhole_whole _).read_unread, (held_before m c t ht).1, (held_before m c t ht).2]
  · have ht : ¬t.val % 8 = 0 := by omega
    rw [outsAt0_B m c t ht h1]; frame_out
    refine (canon_joined _ _ _).trans ?_
    rw [(Memref.isWhole_whole _).read_unread, (Memref.isWhole_whole _).read_unread, (held_before m c t ht).1, (held_before m c t ht).2]

/-- A row of the activations in the argument flattened over the batch. -/
theorem flat_at (A : FVec Ideal S4x2048x2048 .bf16) (i : S8192x2048.Idx) (b : Fin 4) (s k : Fin 2048) (hs : (i 0 : ℕ) = b * 2048 + s) (hk : (i 1 : ℕ) = k) :
    shapeCast S8192x2048 A shapeCasts_S4x2048x2048_S8192x2048 i = A (ix3 b s k) := by
  pointwise
  exact congrArg A (by blk_ext)

/-- A row of the block of activations. -/
theorem act_at (c : Dev nD) (t : Fin cfg0.N) (r : Fin 1024) (k : Fin 2048) (b : Fin 4) (s : Fin 2048)
    (hs : t.val % 8 * 1024 + (r : ℕ) = b * 2048 + s) :
    iblk m c 0 t (ix2 r k) = m ((c : Thread nD τ).loc main_arg0) (ix3 b s k) := by
  blk_simp [iblk]
  entry_read
  refine flat_at _ _ b s k ?_ ?_
  · blk_simp [at_point t]; omega
  · blk_simp [at_point t]

/-- The block of the first half of the weights' columns. -/
theorem first_at (c : Dev nD) (t : Fin cfg0.N) (k : Fin 2048) (f : Fin 512) (col : Fin 11264) (hc : (col : ℕ) = t.val / 8 * 512 + f) :
    iblk m c 1 t (ix3 0 k f) = m ((c : Thread nD τ).loc main_arg1) (ix2 k col) := by
  blk_point [iblk, V, at_point t]

/-- The block of the second half of the weights' columns. -/
theorem second_at (c : Dev nD) (t : Fin cfg0.N) (k : Fin 2048) (f : Fin 512) (col : Fin 11264) (hc : (col : ℕ) = (t.val / 8 + 11) * 512 + f) :
    iblk m c 2 t (ix3 0 k f) = m ((c : Thread nD τ).loc main_arg1) (ix2 k col) := by
  blk_point [iblk, V, at_point t]

/-- The taps of the first half of the columns. -/
theorem tap_first_at (c : Dev nD) (t : Fin cfg0.N) (k : Fin 3) (f : Fin 512) (col : Fin 11264) (hc : (col : ℕ) = t.val / 8 * 512 + f) :
    iblk m c 3 t (ix3 0 k f) = m ((c : Thread nD τ).loc main_arg2) (ix2 k col) := by
  blk_point [iblk, V, at_point t]

/-- The taps of the second half of the columns. -/
theorem tap_second_at (c : Dev nD) (t : Fin cfg0.N) (k : Fin 3) (f : Fin 512) (col : Fin 11264) (hc : (col : ℕ) = (t.val / 8 + 11) * 512 + f) :
    iblk m c 4 t (ix3 0 k f) = m ((c : Thread nD τ).loc main_arg2) (ix2 k col) := by
  blk_point [iblk, V, at_point t]

/-- The projection's value at a row and a column. -/
def proj (A : FVec Ideal S4x2048x2048 .bf16) (B : FVec Ideal S2048x11264 .f32) (b : Fin 4) (s : Fin 2048) (col : Fin 11264) : EReal :=
  ∑ k : Fin 2048, A (ix3 b s k) * B (ix2 k col)

/-- A row's product with a column of the point's first block. -/
theorem row_first (c : Dev nD) (t : Fin cfg0.N) (r : Fin 1024) (f : Fin 512) (b : Fin 4) (s : Fin 2048) (col : Fin 11264)
    (hs : t.val % 8 * 1024 + (r : ℕ) = b * 2048 + s) (hc : (col : ℕ) = t.val / 8 * 512 + f) :
    rowdot (iblk m c 0 t) (k0_pay4 (iblk m c 1 t)) r f
      = proj (m ((c : Thread nD τ).loc main_arg0)) (m ((c : Thread nD τ).loc main_arg1)) b s col := by
  unfold rowdot proj
  pointwise [k0_pay4]
  exact Fin.sum_fin_congr fun k => congrArg₂ (fun u v : EReal => u * v) (act_at m c t r k b s hs) (first_at m c t k f col hc)

/-- A row's product with a column of the point's second block. -/
theorem row_second (c : Dev nD) (t : Fin cfg0.N) (r : Fin 1024) (f : Fin 512) (b : Fin 4) (s : Fin 2048) (col : Fin 11264)
    (hs : t.val % 8 * 1024 + (r : ℕ) = b * 2048 + s) (hc : (col : ℕ) = (t.val / 8 + 11) * 512 + f) :
    rowdot (iblk m c 0 t) (k0_pay5 (iblk m c 2 t)) r f
      = proj (m ((c : Thread nD τ).loc main_arg0)) (m ((c : Thread nD τ).loc main_arg1)) b s col := by
  unfold rowdot proj
  pointwise [k0_pay5]
  exact Fin.sum_fin_congr fun k => congrArg₂ (fun u v : EReal => u * v) (act_at m c t r k b s hs) (second_at m c t k f col hc)

/-- A block's convolution is the whole sequence's at the block's row, when the rows before the block stand in `p`. -/
theorem taps_conv (A : FVec Ideal S4x2048x2048 .bf16) (B : FVec Ideal S2048x11264 .f32) (C : FVec Ideal S3x11264 .f32)
    (x : FVec Ideal S1024x2048 .bf16) (w : FVec Ideal S2048x512 .bf16) (k : FVec Ideal S1x3x512 .f32) (p : FVec Ideal S1x8x512 .f32)
    (b : Fin 4) (h : ℕ) (hh : h < 2) (r : Fin 1024) (f : Fin 512) (s : Fin 2048) (col : Fin 11264) (hs : (s : ℕ) = h * 1024 + r)
    (hx : ∀ (r : Fin 1024) (s : Fin 2048), (s : ℕ) = h * 1024 + r → rowdot x w r f = proj A B b s col)
    (hk : ∀ n : Fin 3, k (ix3 0 n f) = C (ix2 n col)) (hp0 : h = 0 → ∀ e : Fin 8, p (ix3 0 e f) = 0)
    (hp1 : h = 1 → ∀ (e : Fin 8) (s : Fin 2048), (s : ℕ) = 1016 + e → p (ix3 0 e f) = proj A B b s col) :
    taps x w k p r f = convOf A B C (ix3 b s col) := by
  have low : ∀ q : Fin 2050, (q : ℕ) < 2 → 0 = padOf A B (ix3 b q col) := fun q hq => (pad_low A B b q col hq).symm
  have high : ∀ (q : Fin 2050) (s : Fin 2048), (q : ℕ) = s + 2 → proj A B b s col = padOf A B (ix3 b q col) :=
    fun q s hq => (pad_high A B b q s col hq).symm
  have hr := r.isLt
  have from_p : ∀ (e : Fin 8) (q : Fin 2050), (q : ℕ) + 6 = h * 1024 + e → p (ix3 0 e f) = padOf A B (ix3 b q col) := by
    intro e q hq
    have he := e.isLt
    rcases (by omega : h = 0 ∨ h = 1) with h0 | h1
    · exact (hp0 h0 e).trans (low q (by omega))
    · exact (hp1 h1 e ⟨1016 + e, by omega⟩ rfl).trans (high q _ (by dsimp only; omega))
  rw [conv_at A B C b s col ⟨s, by omega⟩ ⟨s + 1, by omega⟩ ⟨s + 2, by omega⟩ rfl rfl rfl, ← hk 0, ← hk 1, ← hk 2]
  refine taps_eq x w k p r f _ _ _ ?_ ?_ ?_ ?_ ?_ ?_
  · exact (hx r s hs).trans (high _ _ rfl)
  · exact fun h0 => from_p 7 _ (by simp; omega)
  · exact fun u hu => (hx u ⟨h * 1024 + u, by omega⟩ rfl).trans (high _ _ (by dsimp only; omega))
  · exact fun h0 => from_p 6 _ (by simp; omega)
  · exact fun h0 => from_p 7 _ (by simp; omega)
  · exact fun u hu => (hx u ⟨h * 1024 + u, by omega⟩ rfl).trans (high _ _ (by dsimp only; omega))

/-- The rows a first half of a sequence begins with are zeros. -/
theorem before_zero (c : Dev nD) (t : Fin cfg0.N) (h : t.val % 2 = 0) (a : Fin 2) (e : Fin 8) (f : Fin 512) :
    halfOf (before m c t) a (ix3 0 e f) = 0 := by
  unfold before
  rw [if_pos h]
  pointwise [halfOf, k0_pay6]

/-- The rows a second half begins with are the last of the first half's product with the first block. -/
theorem before_first (c : Dev nD) (t : Fin cfg0.N) (h : t.val % 2 = 1) (e : Fin 8) (f : Fin 512) (b : Fin 4) (s : Fin 2048)
    (col : Fin 11264) (hb : t.val % 8 = b * 2 + 1) (hs : (s : ℕ) = 1016 + e) (hc : (col : ℕ) = t.val / 8 * 512 + f) :
    halfOf (before m c t) 0 (ix3 0 e f)
      = proj (m ((c : Thread nD τ).loc main_arg0)) (m ((c : Thread nD τ).loc main_arg1)) b s col := by
  have he := e.isLt
  unfold before
  rw [if_neg (by omega)]
  unfold halfOf
  rw [carry m c ⟨t.val - 1, Nat.lt_of_le_of_lt (Nat.sub_le _ _) t.isLt⟩]
  exact row_first m c ⟨t.val - 1, Nat.lt_of_le_of_lt (Nat.sub_le _ _) t.isLt⟩ ⟨1016 + e, by omega⟩ f b s col (by dsimp only; omega) (by dsimp only; omega)

/-- The rows a second half begins with are the last of the first half's product with the second block. -/
theorem before_second (c : Dev nD) (t : Fin cfg0.N) (h : t.val % 2 = 1) (e : Fin 8) (f : Fin 512) (b : Fin 4) (s : Fin 2048)
    (col : Fin 11264) (hb : t.val % 8 = b * 2 + 1) (hs : (s : ℕ) = 1016 + e) (hc : (col : ℕ) = (t.val / 8 + 11) * 512 + f) :
    halfOf (before m c t) 1 (ix3 0 e f)
      = proj (m ((c : Thread nD τ).loc main_arg0)) (m ((c : Thread nD τ).loc main_arg1)) b s col := by
  have he := e.isLt
  unfold before
  rw [if_neg (by omega)]
  unfold halfOf
  rw [carry m c ⟨t.val - 1, Nat.lt_of_le_of_lt (Nat.sub_le _ _) t.isLt⟩]
  exact row_second m c ⟨t.val - 1, Nat.lt_of_le_of_lt (Nat.sub_le _ _) t.isLt⟩ ⟨1016 + e, by omega⟩ f b s col (by dsimp only; omega) (by dsimp only; omega)

/-- What a point stores at an index of its block is the reference's value where that index sits. -/
theorem stored (c : Dev nD) (t : Fin cfg0.N) (r : Fin 1024) (f : Fin 512) (i : Fin 8192) (g : Fin 5632)
    (hi : (i : ℕ) = t.val % 8 * 1024 + r) (hg : (g : ℕ) = t.val / 8 * 512 + f) :
    bodyOf (iblk m c 0 t) (k0_pay4 (iblk m c 1 t)) (k0_pay5 (iblk m c 2 t)) (iblk m c 3 t) (iblk m c 4 t)
        (halfOf (before m c t) 0) (halfOf (before m c t) 1) (ix2 r f)
      = upOf (m ((c : Thread nD τ).loc main_arg0)) (m ((c : Thread nD τ).loc main_arg1)) (m ((c : Thread nD τ).loc main_arg2)) (ix2 i g) := by
  have hr := r.isLt
  rw [body_at, up_at _ _ _ i g ⟨t.val % 8 / 2, by omega⟩ ⟨t.val % 2 * 1024 + r, by omega⟩ ⟨g, by omega⟩ ⟨5632 + g, by omega⟩
    (by dsimp only; omega) rfl rfl]
  refine congrArg₂ gated (taps_conv _ _ _ _ _ _ _ _ (t.val % 2) (by omega) r f _ _ rfl ?_ ?_ ?_ ?_)
    (taps_conv _ _ _ _ _ _ _ _ (t.val % 2) (by omega) r f _ _ rfl ?_ ?_ ?_ ?_)
  · exact fun r s hs => row_first m c t r f _ s _ (by dsimp only; omega) (by dsimp only; omega)
  · exact fun n => tap_first_at m c t n f _ (by dsimp only; omega)
  · exact fun h e => before_zero m c t h 0 e f
  · exact fun h e s hs => before_first m c t h e f _ s _ (by dsimp only; omega) hs (by dsimp only; omega)
  · exact fun r s hs => row_second m c t r f _ s _ (by dsimp only; omega) (by dsimp only; omega)
  · exact fun n => tap_second_at m c t n f _ (by dsimp only; omega)
  · exact fun h e => before_zero m c t h 1 e f
  · exact fun h e s hs => before_second m c t h e f _ s _ (by dsimp only; omega) hs (by dsimp only; omega)

/-- The same for indices whose coordinates are given. -/
theorem stored_idx (c : Dev nD) (t : Fin cfg0.N) (y : S1024x512.Idx) (i : S8192x5632.Idx)
    (hi : (i 0 : ℕ) = t.val % 8 * 1024 + (y 0 : ℕ)) (hg : (i 1 : ℕ) = t.val / 8 * 512 + (y 1 : ℕ)) :
    bodyOf (iblk m c 0 t) (k0_pay4 (iblk m c 1 t)) (k0_pay5 (iblk m c 2 t)) (iblk m c 3 t) (iblk m c 4 t)
        (halfOf (before m c t) 0) (halfOf (before m c t) 1) y
      = upOf (m ((c : Thread nD τ).loc main_arg0)) (m ((c : Thread nD τ).loc main_arg1)) (m ((c : Thread nD τ).loc main_arg2)) i := by
  have ey : y = ix2 (y 0) (y 1) := by funext q; fin_cases q <;> rfl
  have ei : i = ix2 (i 0) (i 1) := by funext q; fin_cases q <;> rfl
  rw [ey, ei]
  exact stored m c t (y 0) (y 1) (i 0) (i 1) hi hg

/-- The result array after the run. -/
theorem result (c : Dev nD) : (dats m 0 c).arrAt 5 (cfgs 0).N
    = upOf (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5, left]
  refine stored_idx m c t y _ ?_ ?_
  · blk_simp [at_point t]
  · blk_simp [at_point t]

end Cert.FfnUpIdeal.Value

namespace Cert.FfnUpReferenceIdeal.Value

open Cert.FfnUpReferenceIdeal Cert.FfnUpReferenceIdeal.Gen

/-- The reference's run ends with `upOf` of its arguments. -/
theorem res_eq (m : (ℓ : Loc nD τ sig) → Buf (Elt Ideal) ℓ) (c : Dev nD) : res_main_v29 m c
    = upOf (m ((c.tc : Thread nD τ).loc main_arg0)) (m ((c.tc : Thread nD τ).loc main_arg1)) (m ((c.tc : Thread nD τ).loc main_arg2)) := by
  unfold res_main_v29 upOf convOf padOf
  rfl

end Cert.FfnUpReferenceIdeal.Value

namespace Cert.Proof

/-- The claim of the up-projection. -/
theorem up_algebraic : Cert.algebraic_FfnUpIdeal_FfnUpReferenceIdeal := by
  pair_intro
  · run_from Cert.FfnUpIdeal.Gen.run_main m g
  · run_from Cert.FfnUpReferenceIdeal.Value.run m' g'
    rw [Cert.FfnUpReferenceIdeal.Value.res_eq, (hagree c).1, (hagree c).2.1, (hagree c).2.2]
    exact (Cert.FfnUpIdeal.Value.result m _).symm

end Cert.Proof

end
-- ==== Proof.Down.lean ====
/-
  The down-projection of the channel mixer with its residual: each point of the grid (8, 4) multiplies 1024 rows of the
  activations by 512 columns of the weights, whole in the contracted axis, and adds the residual's block. So the result
  array is the reference's `h + act @ w_down`, the two summands exchanged.
-/
module

public import proofs.«01_k».proof.Defs
public import proofs.«01_k».proof.Proof.Gen.FfnDownIdeal.Value
public import proofs.«01_k».proof.Proof.Gen.FfnDownReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnDownIdeal.Value

open Cert.FfnDownIdeal Cert.FfnDownIdeal.Gen

variable (m : (ℓ : Loc nD τ sig) → Buf (Elt Ideal) ℓ)

/-- The reference's result as a function of its three arguments. -/
def downOf (A : FVec Ideal S8192x5632 .bf16) (W : FVec Ideal S5632x2048 .f32) (H : FVec Ideal S8192x2048 .f32) :
    FVec Ideal S8192x2048 .f32 :=
  addf H (Host.dotGeneral Cert.FfnDownReferenceIdeal.dot_S8192x5632_S5632x2048_S8192x2048_1_0_0_1_n_n none A W)

/-- Where each window's block sits at a point. -/
theorem at_point : ∀ t : Fin cfg0.N, win0_0.index t = ![t.val / 4, 0] ∧ win0_1.index t = ![0, 0, t.val % 4]
      ∧ win0_2.index t = ![t.val / 4, t.val % 4] ∧ win0_3.index t = ![t.val / 4, t.val % 4] :=
  (by decide +kernel : ∀ t : Fin grid0.N, _)

/-- What a point stores at an index of its block is the reference's value where that index sits. -/
theorem stored (c : Dev nD) (t : Fin cfg0.N) (y) :
    k0_pay1 (F := Ideal) (iblk m c 0 t) (iblk m c 1 t) (iblk m c 2 t) y
      = downOf (m ((c : Thread nD τ).loc main_arg0)) (m ((c : Thread nD τ).loc main_arg1)) (m ((c : Thread nD τ).loc main_arg2))
          (((cfg0.win 3).blk t).view.emb y) := by
  pointwise [k0_pay1, downOf]
  rw [add_comm]
  blk_point [iblk, V, at_point t]

/-- The result array after the run. -/
theorem result (c : Dev nD) : (dats m 0 c).arrAt 3 (cfgs 0).N
    = downOf (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact stored m c t y

end Cert.FfnDownIdeal.Value

namespace Cert.Proof

/-- The claim of the down-projection. -/
theorem down_algebraic : Cert.algebraic_FfnDownIdeal_FfnDownReferenceIdeal := by
  pair_intro
  · run_from Cert.FfnDownIdeal.Gen.run_main m g
  · run_from Cert.FfnDownReferenceIdeal.Value.run m' g'
    exact (Cert.FfnDownIdeal.Value.result m _).symm

end Cert.Proof

end
-- ==== Proof.Norm.lean ====
/-
  The final root mean square norm: each point of the grid takes 1024 rows, and a row's mean square is taken over the
  whole row, so the result array is the reference's, row by row.
-/
module

public import proofs.«01_k».proof.Defs
public import proofs.«01_k».proof.Proof.Gen.FinalNormIdeal.Value
public import proofs.«01_k».proof.Proof.Gen.FinalNormReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FinalNormReferenceIdeal.Value

open Cert.FinalNormReferenceIdeal Cert.FinalNormReferenceIdeal.Gen

/-- The reference's result as a function of its two arguments. -/
def normOf (A : FVec Ideal S4x2048x2048 .f32) (B : FVec Ideal S2048 .f32) : FVec Ideal S8192x2048 .f32 :=
  shapeCast _ (mulf (mulf A (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf A A) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 B))) shapeCasts_S4x2048x2048_S8192x2048

end Cert.FinalNormReferenceIdeal.Value

namespace Cert.FinalNormIdeal.Value

open Cert.FinalNormIdeal Cert.FinalNormIdeal.Gen
open Cert.FinalNormReferenceIdeal.Value (normOf)

variable (m : (ℓ : Loc nD τ sig) → Buf (Elt Ideal) ℓ)

/-- Where each window's block sits at a point. -/
theorem at_point : ∀ t : Fin cfg0.N, win0_0.index t = ![t.val, 0] ∧ win0_1.index t = ![0, 0] ∧ win0_2.index t = ![t.val, 0] :=
  (by decide +kernel : ∀ t : Fin grid0.N, _)

/-- The rows laid end to end, read at a row and a lane. -/
theorem flat_at (A : FVec Ideal S4x2048x2048 .f32) (r : Fin 8192) (k : Fin 2048) :
    shapeCast S8192x2048 A shapeCasts_S4x2048x2048_S8192x2048 (ix2 r k)
      = A (ix3 ⟨(r : ℕ) / 2048, by omega⟩ ⟨(r : ℕ) % 2048, by omega⟩ k) := by
  pointwise

/-- The weights as one row, read at a lane. -/
theorem lane_at (B : FVec Ideal S2048 .f32) (k : Fin 2048) :
    shapeCast S1x2048 B shapeCasts_S2048_S1x2048 (ix2 0 k) = B (ix1 k) := by
  pointwise

/-- The rows' array as the grid finds it. -/
theorem entry_rows (c : Dev nD) : V m c main_v0
    = shapeCast S8192x2048 (m ((c : Thread nD τ).loc main_arg0)) shapeCasts_S4x2048x2048_S8192x2048 := by
  entry_read; rfl

/-- The weights' array as the grid finds it. -/
theorem entry_weights (c : Dev nD) : V m c main_v1
    = shapeCast S1x2048 (m ((c : Thread nD τ).loc main_arg1)) shapeCasts_S2048_S1x2048 := by
  entry_read; rfl

/-- An element of a point's rows is the argument's at its batch and time. -/
theorem row_block (c : Dev nD) (t : Fin cfg0.N) (a : Fin 1024) (k : Fin 2048) (r : Fin 8192) (hr : (r : ℕ) = t.val * 1024 + a) :
    (show EReal from iblk m c 0 t (ix2 a k))
      = m ((c : Thread nD τ).loc main_arg0) (ix3 ⟨(r : ℕ) / 2048, by omega⟩ ⟨(r : ℕ) % 2048, by omega⟩ k) := by
  refine Eq.trans (b := V m c main_v0 (ix2 r k)) ?_ ?_
  · show iblk m c 0 t (ix2 a k) = _
    blk_ext [iblk, at_point t]
  · rw [entry_rows]; exact flat_at _ r k

/-- An element of the weights' block is the argument's at its lane. -/
theorem weight_block (c : Dev nD) (t : Fin cfg0.N) (k : Fin 2048) :
    (show EReal from iblk m c 1 t (ix2 0 k)) = m ((c : Thread nD τ).loc main_arg1) (ix1 k) := by
  refine Eq.trans (b := V m c main_v1 (ix2 0 k)) ?_ ?_
  · show iblk m c 1 t (ix2 0 k) = _
    blk_ext [iblk, at_point t]
  · rw [entry_weights]; exact lane_at _ k

/-- What a point stores at an index of its block is the reference's value where that index sits. -/
theorem stored (c : Dev nD) (t : Fin cfg0.N) (y : S1024x2048.Idx) (i : S8192x2048.Idx)
    (h0 : (i 0 : ℕ) = t.val * 1024 + y 0) (h1 : (i 1 : ℕ) = y 1) :
    k0_pay1 (F := Ideal) (iblk m c 0 t) (iblk m c 1 t) y
      = normOf (m ((c : Thread nD τ).loc main_arg0)) (m ((c : Thread nD τ).loc main_arg1)) i := by
  idx_vars y
  idx_vars i
  obtain rfl : i1 = y1 := Fin.ext h1
  pointwise [k0_pay1, normOf]
  have e := fun k => row_block m c t y0 k i0 h0
  have w := weight_block m c t i1
  simp only at e w
  simp only [e, w]

/-- The result array after the run. -/
theorem result (c : Dev nD) : (dats m 0 c).arrAt 2 (cfgs 0).N
    = normOf (m ((c : Thread nD τ).loc main_arg0)) (m ((c : Thread nD τ).loc main_arg1)) := by
  refine (dats m 0 c).arrAt_eq_of_covers 2 _ (by decide +kernel) fun t _ y => ?_
  blk_simp
  rw [after0_2]; frame_out
  refine stored m c t y _ ?_ ?_ <;> (blk_simp [at_point t] <;> try omega)

end Cert.FinalNormIdeal.Value

namespace Cert.Proof

/-- The claim of the final norm. -/
theorem norm_algebraic : Cert.algebraic_FinalNormIdeal_FinalNormReferenceIdeal := by
  pair_intro
  · run_from Cert.FinalNormIdeal.Gen.run_main m g
  · run_from Cert.FinalNormReferenceIdeal.Value.run m' g'
    exact (Cert.FinalNormIdeal.Value.result m _).symm

end Cert.Proof

end
-- ==== Proof.Into.lean ====
/-
  The input projection of the odd layer onto its first 3072 columns: the weights come transposed, a block of 1024 of
  their rows is transposed back into a scratch at the first point of a column, and each point multiplies 1024 rows by
  it, whole in the contracted axis.
-/
module

public import proofs.«01_k».proof.Defs
public import proofs.«01_k».proof.Proof.Gen.OddInIdeal.Value
public import proofs.«01_k».proof.Proof.Gen.OddInReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OddInIdeal.Value

open Cert.OddInIdeal Cert.OddInIdeal.Gen

variable (m : (ℓ : Loc nD τ sig) → Buf (Elt Ideal) ℓ)

/-- The reference's result as a function of its two arguments. -/
def intoOf (A : FVec Ideal S8192x2048 .bf16) (B : FVec Ideal S2048x6432 .f32) : FVec Ideal S8192x3072 .f32 :=
  extractStridedSlice S8192x3072 ![0, 0] (Host.dotGeneral Cert.OddInReferenceIdeal.dot_S8192x2048_S2048x6432_S8192x6432_1_0_0_1_n_n none A B) Cert.OddInReferenceIdeal.Gen.slices_S8192x6432_S8192x3072_0_0

/-- Where each window's block sits at a point. -/
theorem at_point : ∀ t : Fin cfg0.N, win0_0.index t = ![t.val % 8, 0] ∧ win0_1.index t = ![0, t.val / 8, 0]
      ∧ win0_2.index t = ![t.val % 8, t.val / 8] ∧ t.val / 8 < 3 :=
  (by decide +kernel : ∀ t : Fin grid0.N, _)

/-- The transposed weights at an index are the weights with the two coordinates exchanged. -/
theorem flipped (W : FVec Ideal S2048x6432 .f32) (i : S1x6432x2048.Idx) (k : Fin 2048) (j : Fin 6432) (hk : (i 2 : ℕ) = k)
    (hj : (i 1 : ℕ) = j) :
    transpose S1x6432x2048 [0, 2, 1] (broadcastInDim S1x2048x6432 ![1, 2] bcast_S2048x6432_S1x2048x6432_1_2 W)
      transposes_S1x2048x6432_S1x6432x2048_0_2_1 i = W (ix2 k j) := by
  pointwise
  exact congrArg W (by blk_ext)

/-- The block of the weights at a point: 1024 columns of them, exchanged. -/
theorem weights_at (c : Dev nD) (t : Fin cfg0.N) (i : S1x1024x2048.Idx) (k : Fin 2048) (j : Fin 6432)
    (hk : (i 2 : ℕ) = k) (hj : t.val / 8 * 1024 + (i 1 : ℕ) = j) :
    X0_1 m c t i = m ((c : Thread nD τ).loc main_arg1) (ix2 k j) := by
  unfold X0_1 Pipeline.Window.fill
  rw [dif_pos (moved0_1 t i)]
  blk_simp [iblk]
  entry_read
  refine flipped _ _ k j ?_ ?_
  · blk_simp [at_point t]; omega
  · blk_simp [at_point t]; omega

/-- Within a column the block of the weights is that of the point before. -/
theorem same_weights (c : Dev nD) (n : ℕ) (h : n + 1 < cfg0.N) (hn : (n + 1) % 8 ≠ 0) :
    X0_1 m c ⟨n, Nat.lt_of_succ_lt h⟩ = X0_1 m c ⟨n + 1, h⟩ := by
  funext i
  have hb := (at_point ⟨n + 1, h⟩).2.2.2
  have hi : (i 1 : ℕ) < 1024 := (i 1).isLt
  have e : n / 8 = (n + 1) / 8 := by omega
  dsimp only at hb
  rw [weights_at m c ⟨n, Nat.lt_of_succ_lt h⟩ i ⟨i 2, (i 2).isLt⟩ ⟨(n + 1) / 8 * 1024 + (i 1 : ℕ), by omega⟩ rfl (by dsimp only; omega),
    weights_at m c ⟨n + 1, h⟩ i ⟨i 2, (i 2).isLt⟩ ⟨(n + 1) / 8 * 1024 + (i 1 : ℕ), by omega⟩ rfl rfl]

/-- Within a column a point leaves the scratch as it is. -/
theorem kept (c : Dev nD) (t : Fin cfg0.N) (ht : ¬t.val % 8 = 0) :
    (outsAt0 m c t.val t.isLt).2 = (outsAt0 m c (t.val - 1) (Nat.lt_of_le_of_lt (Nat.sub_le _ _) t.isLt)).2 := by
  rw [outsAt0_B m c t ht]
  dsimp only [sout0_B_0]

/-- The scratch holds the point's own block of the weights. -/
theorem held (c : Dev nD) : ∀ (n : ℕ) (h : n < cfg0.N), (outsAt0 m c n h).2 = k0_pay1 (X0_1 m c ⟨n, h⟩) := by
  intro n
  induction n with
  | zero => intro h; rw [outsAt0_A m c ⟨0, h⟩ rfl]; frame_out
  | succ n ih =>
    intro h
    by_cases hn : (n + 1) % 8 = 0
    · rw [outsAt0_A m c ⟨n + 1, h⟩ hn]; frame_out
    · rw [← same_weights m c n h hn, kept m c ⟨n + 1, h⟩ hn]
      exact ih (Nat.lt_of_succ_lt h)

/-- What a point leaves in the result's buffer: the product of its rows with its own block of the weights. -/
theorem left (c : Dev nD) (t : Fin cfg0.N) : (outsAt0 m c t.val t.isLt).1 = k0_pay2 (iblk m c 0 t) (k0_pay1 (X0_1 m c t)) := by
  by_cases ht : t.val % 8 = 0
  · rw [outsAt0_A m c t ht]; frame_out
  · have hw := held m c t.val t.isLt
    rw [kept m c t ht] at hw
    rw [outsAt0_B m c t ht]; frame_out
    exact congrArg (k0_pay2 (iblk m c 0 t)) (((Memref.isWhole_whole _).read_unread _).trans hw)

/-- A product of a row with a column of the exchanged block is one of the row with the weights' own column. -/
theorem stored (c : Dev nD) (t : Fin cfg0.N) (y) :
    k0_pay2 (F := Ideal) (iblk m c 0 t) (k0_pay1 (X0_1 m c t)) y
      = intoOf (m ((c : Thread nD τ).loc main_arg0)) (m ((c : Thread nD τ).loc main_arg1)) (((cfg0.win 2).blk t).view.emb y) := by
  pointwise [k0_pay1, k0_pay2, intoOf]
  refine Fin.sum_fin_congr fun k => ?_
  refine congrArg₂ (fun u v : EReal => u * v) ?_ (weights_at m c t _ k _ rfl ?_)
  · blk_ext [iblk, V, at_point t]
  · blk_simp [at_point t]

/-- The result array after the run. -/
theorem result (c : Dev nD) : (dats m 0 c).arrAt 2 (cfgs 0).N
    = intoOf (m ((c : Thread nD τ).loc main_arg0)) (m ((c : Thread nD τ).loc main_arg1)) := by
  refine (dats m 0 c).arrAt_eq_of_covers 2 _ (by decide +kernel) fun t _ y => ?_
  blk_simp
  rw [after0_2, left]
  exact stored m c t y

end Cert.OddInIdeal.Value

namespace Cert.Proof

/-- The claim of the odd layer's input projection. -/
theorem into_algebraic : Cert.algebraic_OddInIdeal_OddInReferenceIdeal := by
  pair_intro
  · run_from Cert.OddInIdeal.Gen.run_main m g
  · run_from Cert.OddInReferenceIdeal.Value.run m' g'
    exact (Cert.OddInIdeal.Value.result m _).symm

end Cert.Proof

end
-- ==== Proof.Mix.lean ====
/-
  The output projection of a layer with its residual: the two mixers' results are multiplied by the two halves of the
  weights' rows, each half kept in a scratch from the first point of a column on, and the products are added. The
  reference joins the two results and contracts once; the sum over the 2048 joined lanes is the sum of the two halves.
-/
module

public import proofs.«01_k».proof.Defs
public import proofs.«01_k».proof.Proof.Gen.MixOutIdeal.Value
public import proofs.«01_k».proof.Proof.Gen.MixOutReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixOutIdeal.Value

open Cert.MixOutIdeal Cert.MixOutIdeal.Gen

variable (m : (ℓ : Loc nD τ sig) → Buf (Elt Ideal) ℓ)

/-- The reference's result as a function of its four arguments. -/
def mixOf (A B : FVec Ideal S8192x1024 .bf16) (C : FVec Ideal S2048x2048 .f32) (D : FVec Ideal S8192x2048 .f32) :
    FVec Ideal S8192x2048 .f32 :=
  addf D (Host.dotGeneral Cert.MixOutReferenceIdeal.dot_S8192x2048_S2048x2048_S8192x2048_1_0_0_1_n_n none (concatenate S8192x2048 1 [⟨S8192x1024, A⟩, ⟨S8192x1024, B⟩] Cert.MixOutReferenceIdeal.Gen.concatenates_S8192x1024_S8192x1024_S8192x2048_d1) C)

/-- Where each window's block sits at a point. -/
theorem at_point : ∀ t : Fin cfg0.N, win0_0.index t = ![t.val % 8, 0] ∧ win0_1.index t = ![0, 0, t.val / 8]
      ∧ win0_2.index t = ![t.val % 8, 0] ∧ win0_3.index t = ![0, 1, t.val / 8]
      ∧ win0_4.index t = ![t.val % 8, t.val / 8] ∧ win0_5.index t = ![t.val % 8, t.val / 8] :=
  (by decide +kernel : ∀ t : Fin grid0.N, _)

/-- Within a column the blocks of the weights are those of the point before. -/
theorem same_weights (c : Dev nD) (n : ℕ) (h : n + 1 < cfg0.N) (hn : (n + 1) % 8 ≠ 0) :
    iblk m c 1 ⟨n, Nat.lt_of_succ_lt h⟩ = iblk m c 1 ⟨n + 1, h⟩ ∧ iblk m c 3 ⟨n, Nat.lt_of_succ_lt h⟩ = iblk m c 3 ⟨n + 1, h⟩ := by
  have e : n / 8 = (n + 1) / 8 := by omega
  constructor <;> funext y <;> blk_ext [iblk, at_point ⟨n, Nat.lt_of_succ_lt h⟩, at_point ⟨n + 1, h⟩]

/-- Within a column a point leaves the two scratches as they are. -/
theorem kept (c : Dev nD) (t : Fin cfg0.N) (ht : ¬t.val % 8 = 0) :
    (outsAt0 m c t.val t.isLt).2 = (outsAt0 m c (t.val - 1) (Nat.lt_of_le_of_lt (Nat.sub_le _ _) t.isLt)).2 := by
  rw [outsAt0_B m c t ht]
  dsimp only [sout0_B_0, sout0_B_1]

/-- The two scratches hold the point's own blocks of the weights. -/
theorem held (c : Dev nD) : ∀ (n : ℕ) (h : n < cfg0.N), (outsAt0 m c n h).2.1 = k0_pay1 (iblk m c 1 ⟨n, h⟩)
      ∧ (outsAt0 m c n h).2.2 = k0_pay2 (iblk m c 3 ⟨n, h⟩) := by
  intro n
  induction n with
  | zero => intro h; rw [outsAt0_A m c ⟨0, h⟩ rfl]; constructor <;> frame_out
  | succ n ih =>
    intro h
    by_cases hn : (n + 1) % 8 = 0
    · rw [outsAt0_A m c ⟨n + 1, h⟩ hn]; constructor <;> frame_out
    · rw [← (same_weights m c n h hn).1, ← (same_weights m c n h hn).2, kept m c ⟨n + 1, h⟩ hn]
      exact ih (Nat.lt_of_succ_lt h)

/-- So they do when a point begins that is not the first of its column. -/
theorem held_before (c : Dev nD) (t : Fin cfg0.N) (ht : ¬t.val % 8 = 0) :
    (outsAt0 m c (t.val - 1) (Nat.lt_of_le_of_lt (Nat.sub_le _ _) t.isLt)).2.1 = k0_pay1 (iblk m c 1 t)
      ∧ (outsAt0 m c (t.val - 1) (Nat.lt_of_le_of_lt (Nat.sub_le _ _) t.isLt)).2.2 = k0_pay2 (iblk m c 3 t) := by
  rw [← kept m c t ht]
  exact held m c t.val t.isLt

/-- What a point leaves in the result's buffer: the product of its rows with its own blocks of the weights. -/
theorem left (c : Dev nD) (t : Fin cfg0.N) : (outsAt0 m c t.val t.isLt).1
    = k0_pay3 (iblk m c 0 t) (k0_pay1 (iblk m c 1 t)) (iblk m c 2 t) (k0_pay2 (iblk m c 3 t)) (iblk m c 4 t) := by
  by_cases ht : t.val % 8 = 0
  · rw [outsAt0_A m c t ht]; frame_out
  · rw [outsAt0_B m c t ht]; frame_out
    exact congrArg₂ (fun u v => k0_pay3 (iblk m c 0 t) u (iblk m c 2 t) v (iblk m c 4 t))
      (((Memref.isWhole_whole _).read_unread _).trans (held_before m c t ht).1) (((Memref.isWhole_whole _).read_unread _).trans (held_before m c t ht).2)

/-- What the projection stores at an index of its block is the reference's value where that index sits. -/
theorem stored (c : Dev nD) (t : Fin cfg0.N) (y) :
    k0_pay3 (F := Ideal) (iblk m c 0 t) (k0_pay1 (iblk m c 1 t)) (iblk m c 2 t) (k0_pay2 (iblk m c 3 t)) (iblk m c 4 t) y
      = mixOf (m ((c : Thread nD τ).loc main_arg0)) (m ((c : Thread nD τ).loc main_arg1)) (m ((c : Thread nD τ).loc main_arg2))
          (m ((c : Thread nD τ).loc main_arg3)) (((cfg0.win 5).blk t).view.emb y) := by
  pointwise [k0_pay1, k0_pay2, k0_pay3, mixOf]
  rw [add_comm]
  blk_point [iblk, V, at_point t]

/-- The result array after the run. -/
theorem result (c : Dev nD) : (dats m 0 c).arrAt 5 (cfgs 0).N
    = mixOf (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5, left]
  exact stored m c t y

end Cert.MixOutIdeal.Value

namespace Cert.Proof

/-- The claim of the output projection. -/
theorem mix_algebraic : Cert.algebraic_MixOutIdeal_MixOutReferenceIdeal := by
  pair_intro
  · run_from Cert.MixOutIdeal.Gen.run_main m g
  · run_from Cert.MixOutReferenceIdeal.Value.run m' g'
    exact (Cert.MixOutIdeal.Value.result m _).symm

end Cert.Proof

end
-- ==== Proof.OddTail.lean ====
/-
  The input projection of the odd layer onto its last 3072 columns and the 288 before them: the host packs the weights of
  these columns, transposed, with 96 rows of zeros after them; the launch multiplies as in the other projection. The
  reference multiplies by all columns and then packs.
-/
module

public import proofs.«01_k».proof.Defs
public import proofs.«01_k».proof.Proof.Gen.OddTailIdeal.Value
public import proofs.«01_k».proof.Proof.Gen.OddTailReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OddTailIdeal.Value

open Cert.OddTailIdeal Cert.OddTailIdeal.Gen

variable (m : (ℓ : Loc nD τ sig) → Buf (Elt Ideal) ℓ)

/-- The reference's result as a function of its two arguments. -/
def tailOf (A : FVec Ideal S8192x2048 .bf16) (B : FVec Ideal S2048x6432 .f32) : FVec Ideal S8192x3456 .f32 :=
  pad Cert.OddTailReferenceIdeal.S8192x3456 ![0, 0] ![0, 96] ![0, 0] (concatenate Cert.OddTailReferenceIdeal.S8192x3360 1
    [⟨Cert.OddTailReferenceIdeal.S8192x3072, (extractStridedSlice Cert.OddTailReferenceIdeal.S8192x3072 ![0, 3360] (Host.dotGeneral Cert.OddTailReferenceIdeal.dot_S8192x2048_S2048x6432_S8192x6432_1_0_0_1_n_n none A B) Cert.OddTailReferenceIdeal.Gen.slices_S8192x6432_S8192x3072_0_3360)⟩,
     ⟨Cert.OddTailReferenceIdeal.S8192x288, (extractStridedSlice Cert.OddTailReferenceIdeal.S8192x288 ![0, 3072] (Host.dotGeneral Cert.OddTailReferenceIdeal.dot_S8192x2048_S2048x6432_S8192x6432_1_0_0_1_n_n none A B) Cert.OddTailReferenceIdeal.Gen.slices_S8192x6432_S8192x288_0_3072)⟩]
    Cert.OddTailReferenceIdeal.Gen.concatenates_S8192x3072_S8192x288_S8192x3360_d1) (sitofp .f32 (constantI S_ 32 0#32)) Cert.OddTailReferenceIdeal.Gen.pads_S8192x3360_S8192x3456_000_0960 h_S_

/-- The packed weights that the launch takes. -/
def packed (W : FVec Ideal S2048x6432 .f32) : FVec Ideal S1x3456x2048 .f32 :=
  broadcastInDim S1x3456x2048 ![1, 2] bcast_S3456x2048_S1x3456x2048_1_2 (concatenate S3456x2048 0
    [⟨S3072x2048, shapeCast S3072x2048 (extractStridedSlice S1x3072x2048 ![0, 3360, 0] (transpose S1x6432x2048 [0, 2, 1] (broadcastInDim S1x2048x6432 ![1, 2] bcast_S2048x6432_S1x2048x6432_1_2 W) transposes_S1x2048x6432_S1x6432x2048_0_2_1) slices_S1x6432x2048_S1x3072x2048_0_3360_0) shapeCasts_S1x3072x2048_S3072x2048⟩,
     ⟨S384x2048, pad S384x2048 ![0, 0] ![96, 0] ![0, 0] (shapeCast S288x2048 (extractStridedSlice S1x288x2048 ![0, 3072, 0] (transpose S1x6432x2048 [0, 2, 1] (broadcastInDim S1x2048x6432 ![1, 2] bcast_S2048x6432_S1x2048x6432_1_2 W) transposes_S1x2048x6432_S1x6432x2048_0_2_1) slices_S1x6432x2048_S1x288x2048_0_3072_0) shapeCasts_S1x288x2048_S288x2048) (sitofp .f32 (constantI S_ 32 0#32)) pads_S288x2048_S384x2048_0960_000 h_S_⟩]
    concatenates_S3072x2048_S384x2048_S3456x2048_d0)

/-- The weight of a packed column: of the last columns, of those before them, or zero. -/
def pick (W : FVec Ideal S2048x6432 .f32) (k : Fin 2048) (j : ℕ) : EReal :=
  if h : j < 3072 then W (ix2 k ⟨3360 + j, by omega⟩) else if h' : j - 3072 < 288 then W (ix2 k ⟨3072 + (j - 3072), by omega⟩) else 0

theorem zero_word : (FloatOps.sitofp .f32 (0#32 : BitVec 32) : Ideal .f32) = (0 : EReal) := by
  show (((0#32 : BitVec 32).toInt : ℝ) : EReal) = 0
  simp

theorem entry (c : Dev nD) : V m c main_v8 = packed (m ((c : Thread nD τ).loc main_arg1)) := by
  entry_read
  rfl

theorem packed_at (W : FVec Ideal S2048x6432 .f32) (i : S1x3456x2048.Idx) : packed W i = pick W ⟨i 2, (i 2).isLt⟩ (i 1) := by
  obtain ⟨a, j, k, rfl⟩ : ∃ a e f, i = ix3 a e f := ⟨i 0, i 1, i 2, by funext q; fin_cases q <;> rfl⟩
  pointwise [packed]
  rw [zero_word]
  rfl

theorem tail_at (A : FVec Ideal S8192x2048 .bf16) (W : FVec Ideal S2048x6432 .f32) (i : S8192x3456.Idx) :
    tailOf A W i = ∑ k : Fin 2048, (A (ix2 ⟨i 0, (i 0).isLt⟩ k) : EReal) * pick W k (i 1) := by
  obtain ⟨a, j, rfl⟩ : ∃ a e, i = ix2 a e := ⟨i 0, i 1, by funext q; fin_cases q <;> rfl⟩
  pointwise [tailOf]
  rw [zero_word]
  show _ = ∑ k : Fin 2048, (A (ix2 a k) : EReal) * pick W k (j : ℕ)
  unfold pick
  by_cases h : (j : ℕ) < 3072
  · rw [dif_pos (show (j : ℕ) < 3360 by omega), dif_pos h]
    exact Finset.sum_congr rfl fun k _ => by rw [dif_pos h]
  · by_cases h' : (j : ℕ) - 3072 < 288
    · rw [dif_pos (show (j : ℕ) < 3360 by omega), dif_neg h]
      exact Finset.sum_congr rfl fun k _ => by rw [dif_neg h, dif_pos h']
    · rw [dif_neg (show ¬(j : ℕ) < 3360 by omega)]
      exact (Finset.sum_eq_zero fun k _ => by rw [dif_neg h, dif_neg h', mul_zero]).symm

/-- Where each window's block sits at a point. -/
theorem at_point : ∀ t : Fin cfg0.N, win0_0.index t = ![t.val % 8, 0] ∧ win0_1.index t = ![0, t.val / 8, 0]
      ∧ win0_2.index t = ![t.val % 8, t.val / 8] ∧ t.val / 8 < 3 :=
  (by decide +kernel : ∀ t : Fin grid0.N, _)

/-- The block of the weights at a point: 1152 packed columns. -/
theorem weights_at (c : Dev nD) (t : Fin cfg0.N) (i : S1x1152x2048.Idx) :
    iblk m c 1 t i = pick (m ((c : Thread nD τ).loc main_arg1)) ⟨i 2, (i 2).isLt⟩ (t.val / 8 * 1152 + (i 1 : ℕ)) := by
  blk_simp [iblk]
  rw [entry, packed_at]
  refine congrArg₂ (fun k (j : ℕ) => pick (m ((c : Thread nD τ).loc main_arg1)) k j) (Fin.ext ?_) ?_ <;> blk_simp [at_point t]

/-- Within a column the block of the weights is that of the point before. -/
theorem same_weights (c : Dev nD) (n : ℕ) (h : n + 1 < cfg0.N) (hn : (n + 1) % 8 ≠ 0) :
    iblk m c 1 ⟨n, Nat.lt_of_succ_lt h⟩ = iblk m c 1 ⟨n + 1, h⟩ := by
  funext i
  rw [weights_at, weights_at, show n / 8 = (n + 1) / 8 by omega]

/-- Within a column a point leaves the scratch as it is. -/
theorem kept (c : Dev nD) (t : Fin cfg0.N) (ht : ¬t.val % 8 = 0) :
    (outsAt0 m c t.val t.isLt).2 = (outsAt0 m c (t.val - 1) (Nat.lt_of_le_of_lt (Nat.sub_le _ _) t.isLt)).2 := by
  rw [outsAt0_B m c t ht]
  dsimp only [sout0_B_0]

/-- The scratch holds the point's own block of the weights. -/
theorem held (c : Dev nD) : ∀ (n : ℕ) (h : n < cfg0.N), (outsAt0 m c n h).2 = k0_pay1 (iblk m c 1 ⟨n, h⟩) := by
  intro n
  induction n with
  | zero => intro h; rw [outsAt0_A m c ⟨0, h⟩ rfl]; frame_out
  | succ n ih =>
    intro h
    by_cases hn : (n + 1) % 8 = 0
    · rw [outsAt0_A m c ⟨n + 1, h⟩ hn]; frame_out
    · rw [← same_weights m c n h hn, kept m c ⟨n + 1, h⟩ hn]
      exact ih (Nat.lt_of_succ_lt h)

/-- What a point leaves in the result's buffer: the product of its rows with its own block of the weights. -/
theorem left (c : Dev nD) (t : Fin cfg0.N) : (outsAt0 m c t.val t.isLt).1 = k0_pay2 (iblk m c 0 t) (k0_pay1 (iblk m c 1 t)) := by
  by_cases ht : t.val % 8 = 0
  · rw [outsAt0_A m c t ht]; frame_out
  · have hw := held m c t.val t.isLt
    rw [kept m c t ht] at hw
    rw [outsAt0_B m c t ht]; frame_out
    exact congrArg (k0_pay2 (iblk m c 0 t)) (((Memref.isWhole_whole _).read_unread _).trans hw)

/-- A product of a row with a column of the packed block is one of the row with the weights' own column. -/
theorem stored (c : Dev nD) (t : Fin cfg0.N) (y) :
    k0_pay2 (F := Ideal) (iblk m c 0 t) (k0_pay1 (iblk m c 1 t)) y
      = tailOf (m ((c : Thread nD τ).loc main_arg0)) (m ((c : Thread nD τ).loc main_arg1)) (((cfg0.win 2).blk t).view.emb y) := by
  rw [tail_at]
  pointwise [k0_pay1, k0_pay2]
  refine Fin.sum_fin_congr fun k => ?_
  refine congrArg₂ (fun u v : EReal => u * v) ?_ ((weights_at m c t _).trans ?_)
  · blk_ext [iblk, V, at_point t]
  · refine congrArg₂ (fun k (j : ℕ) => pick (m ((c : Thread nD τ).loc main_arg1)) k j) rfl ?_
    blk_simp [at_point t]

/-- The result array after the run. -/
theorem result (c : Dev nD) : (dats m 0 c).arrAt 2 (cfgs 0).N
    = tailOf (m ((c : Thread nD τ).loc main_arg0)) (m ((c : Thread nD τ).loc main_arg1)) := by
  refine (dats m 0 c).arrAt_eq_of_covers 2 _ (by decide +kernel) fun t _ y => ?_
  blk_simp
  rw [after0_2, left]
  exact stored m c t y

end Cert.OddTailIdeal.Value

namespace Cert.Proof

/-- The claim of this projection. -/
theorem odd_tail_algebraic : Cert.algebraic_OddTailIdeal_OddTailReferenceIdeal := by
  pair_intro
  · run_from Cert.OddTailIdeal.Gen.run_main m g
    exact Cert.OddTailIdeal.Gen.V_main_arg1 m _
  · run_from Cert.OddTailReferenceIdeal.Value.run m' g'
    exact (Cert.OddTailIdeal.Value.result m _).symm

end Cert.Proof

end
-- ==== Proof.Even.lean ====
/-
  The input projection of the even layer onto its first 4096 columns: the weights come transposed, a block of 1024 of
  their rows is transposed back into a scratch at the first point of a column, and each point multiplies 1024 rows by
  it, whole in the contracted axis.
-/
module

public import proofs.«01_k».proof.Defs
public import proofs.«01_k».proof.Proof.Gen.EvenInIdeal.Value
public import proofs.«01_k».proof.Proof.Gen.EvenInReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.EvenInIdeal.Value

open Cert.EvenInIdeal Cert.EvenInIdeal.Gen

variable (m : (ℓ : Loc nD τ sig) → Buf (Elt Ideal) ℓ)

/-- The reference's result as a function of its two arguments. -/
def evenOf (A : FVec Ideal S8192x2048 .bf16) (B : FVec Ideal S2048x5136 .f32) : FVec Ideal S8192x4096 .f32 :=
  extractStridedSlice S8192x4096 ![0, 0] (Host.dotGeneral Cert.EvenInReferenceIdeal.dot_S8192x2048_S2048x5136_S8192x5136_1_0_0_1_n_n none A B) Cert.EvenInReferenceIdeal.Gen.slices_S8192x5136_S8192x4096_0_0

/-- Where each window's block sits at a point. -/
theorem at_point : ∀ t : Fin cfg0.N, win0_0.index t = ![t.val % 8, 0] ∧ win0_1.index t = ![0, t.val / 8, 0]
      ∧ win0_2.index t = ![t.val % 8, t.val / 8] ∧ t.val / 8 < 4 :=
  (by decide +kernel : ∀ t : Fin grid0.N, _)

/-- The transposed weights at an index are the weights with the two coordinates exchanged. -/
theorem flipped (W : FVec Ideal S2048x5136 .f32) (i : S1x5136x2048.Idx) (k : Fin 2048) (j : Fin 5136) (hk : (i 2 : ℕ) = k)
    (hj : (i 1 : ℕ) = j) :
    transpose S1x5136x2048 [0, 2, 1] (broadcastInDim S1x2048x5136 ![1, 2] bcast_S2048x5136_S1x2048x5136_1_2 W)
      transposes_S1x2048x5136_S1x5136x2048_0_2_1 i = W (ix2 k j) := by
  pointwise
  exact congrArg W (by blk_ext)

/-- The block of the weights at a point: 1024 columns of them, exchanged. -/
theorem weights_at (c : Dev nD) (t : Fin cfg0.N) (i : S1x1024x2048.Idx) (k : Fin 2048) (j : Fin 5136)
    (hk : (i 2 : ℕ) = k) (hj : t.val / 8 * 1024 + (i 1 : ℕ) = j) :
    X0_1 m c t i = m ((c : Thread nD τ).loc main_arg1) (ix2 k j) := by
  unfold X0_1 Pipeline.Window.fill
  rw [dif_pos (moved0_1 t i)]
  blk_simp [iblk]
  entry_read
  refine flipped _ _ k j ?_ ?_
  · blk_simp [at_point t]; omega
  · blk_simp [at_point t]; omega

/-- Within a column the block of the weights is that of the point before. -/
theorem same_weights (c : Dev nD) (n : ℕ) (h : n + 1 < cfg0.N) (hn : (n + 1) % 8 ≠ 0) :
    X0_1 m c ⟨n, Nat.lt_of_succ_lt h⟩ = X0_1 m c ⟨n + 1, h⟩ := by
  funext i
  have hb := (at_point ⟨n + 1, h⟩).2.2.2
  have hi : (i 1 : ℕ) < 1024 := (i 1).isLt
  have e : n / 8 = (n + 1) / 8 := by omega
  dsimp only at hb
  rw [weights_at m c ⟨n, Nat.lt_of_succ_lt h⟩ i ⟨i 2, (i 2).isLt⟩ ⟨(n + 1) / 8 * 1024 + (i 1 : ℕ), by omega⟩ rfl (by dsimp only; omega),
    weights_at m c ⟨n + 1, h⟩ i ⟨i 2, (i 2).isLt⟩ ⟨(n + 1) / 8 * 1024 + (i 1 : ℕ), by omega⟩ rfl rfl]

/-- Within a column a point leaves the scratch as it is. -/
theorem kept (c : Dev nD) (t : Fin cfg0.N) (ht : ¬t.val % 8 = 0) :
    (outsAt0 m c t.val t.isLt).2 = (outsAt0 m c (t.val - 1) (Nat.lt_of_le_of_lt (Nat.sub_le _ _) t.isLt)).2 := by
  rw [outsAt0_B m c t ht]
  dsimp only [sout0_B_0]

/-- The scratch holds the point's own block of the weights. -/
theorem held (c : Dev nD) : ∀ (n : ℕ) (h : n < cfg0.N), (outsAt0 m c n h).2 = k0_pay1 (X0_1 m c ⟨n, h⟩) := by
  intro n
  induction n with
  | zero => intro h; rw [outsAt0_A m c ⟨0, h⟩ rfl]; frame_out
  | succ n ih =>
    intro h
    by_cases hn : (n + 1) % 8 = 0
    · rw [outsAt0_A m c ⟨n + 1, h⟩ hn]; frame_out
    · rw [← same_weights m c n h hn, kept m c ⟨n + 1, h⟩ hn]
      exact ih (Nat.lt_of_succ_lt h)

/-- What a point leaves in the result's buffer: the product of its rows with its own block of the weights. -/
theorem left (c : Dev nD) (t : Fin cfg0.N) : (outsAt0 m c t.val t.isLt).1 = k0_pay2 (iblk m c 0 t) (k0_pay1 (X0_1 m c t)) := by
  by_cases ht : t.val % 8 = 0
  · rw [outsAt0_A m c t ht]; frame_out
  · have hw := held m c t.val t.isLt
    rw [kept m c t ht] at hw
    rw [outsAt0_B m c t ht]; frame_out
    exact congrArg (k0_pay2 (iblk m c 0 t)) (((Memref.isWhole_whole _).read_unread _).trans hw)

/-- A product of a row with a column of the exchanged block is one of the row with the weights' own column. -/
theorem stored (c : Dev nD) (t : Fin cfg0.N) (y) :
    k0_pay2 (F := Ideal) (iblk m c 0 t) (k0_pay1 (X0_1 m c t)) y
      = evenOf (m ((c : Thread nD τ).loc main_arg0)) (m ((c : Thread nD τ).loc main_arg1)) (((cfg0.win 2).blk t).view.emb y) := by
  pointwise [k0_pay1, k0_pay2, evenOf]
  refine Fin.sum_fin_congr fun k => ?_
  refine congrArg₂ (fun u v : EReal => u * v) ?_ (weights_at m c t _ k _ rfl ?_)
  · blk_ext [iblk, V, at_point t]
  · blk_simp [at_point t]

/-- The result array after the run. -/
theorem result (c : Dev nD) : (dats m 0 c).arrAt 2 (cfgs 0).N
    = evenOf (m ((c : Thread nD τ).loc main_arg0)) (m ((c : Thread nD τ).loc main_arg1)) := by
  refine (dats m 0 c).arrAt_eq_of_covers 2 _ (by decide +kernel) fun t _ y => ?_
  blk_simp
  rw [after0_2, left]
  exact stored m c t y

end Cert.EvenInIdeal.Value

namespace Cert.Proof

/-- The claim of the even layer's input projection. -/
theorem even_algebraic : Cert.algebraic_EvenInIdeal_EvenInReferenceIdeal := by
  pair_intro
  · run_from Cert.EvenInIdeal.Gen.run_main m g
  · run_from Cert.EvenInReferenceIdeal.Value.run m' g'
    exact (Cert.EvenInIdeal.Value.result m _).symm

end Cert.Proof

end
-- ==== Proof.EvenTail.lean ====
/-
  The input projection of the even layer onto its last 1024 columns and the 16 before them, packed with 112 columns of
  zeros after them.
-/
module

public import proofs.«01_k».proof.Defs
public import proofs.«01_k».proof.Proof.Gen.EvenTailIdeal.Value
public import proofs.«01_k».proof.Proof.Gen.EvenTailReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.EvenTailIdeal.Value

open Cert.EvenTailIdeal Cert.EvenTailIdeal.Gen

variable (m : (ℓ : Loc nD τ sig) → Buf (Elt Ideal) ℓ)

/-- The reference's result as a function of its two arguments. -/
def tailOf (A : FVec Ideal S8192x2048 .bf16) (B : FVec Ideal S2048x5136 .f32) : FVec Ideal S8192x1152 .f32 :=
  pad Cert.EvenTailReferenceIdeal.S8192x1152 ![0, 0] ![0, 112] ![0, 0] (concatenate Cert.EvenTailReferenceIdeal.S8192x1040 1
    [⟨Cert.EvenTailReferenceIdeal.S8192x1024, (extractStridedSlice Cert.EvenTailReferenceIdeal.S8192x1024 ![0, 4112] (Host.dotGeneral Cert.EvenTailReferenceIdeal.dot_S8192x2048_S2048x5136_S8192x5136_1_0_0_1_n_n none A B) Cert.EvenTailReferenceIdeal.Gen.slices_S8192x5136_S8192x1024_0_4112)⟩,
     ⟨Cert.EvenTailReferenceIdeal.S8192x16, (extractStridedSlice Cert.EvenTailReferenceIdeal.S8192x16 ![0, 4096] (Host.dotGeneral Cert.EvenTailReferenceIdeal.dot_S8192x2048_S2048x5136_S8192x5136_1_0_0_1_n_n none A B) Cert.EvenTailReferenceIdeal.Gen.slices_S8192x5136_S8192x16_0_4096)⟩]
    Cert.EvenTailReferenceIdeal.Gen.concatenates_S8192x1024_S8192x16_S8192x1040_d1) (sitofp .f32 (constantI S_ 32 0#32)) Cert.EvenTailReferenceIdeal.Gen.pads_S8192x1040_S8192x1152_000_01120 h_S_

/-- The packed weights that the launch takes. -/
def packed (W : FVec Ideal S2048x5136 .f32) : FVec Ideal S1x1152x2048 .f32 :=
  broadcastInDim S1x1152x2048 ![1, 2] bcast_S1152x2048_S1x1152x2048_1_2 (concatenate S1152x2048 0
    [⟨S1024x2048, shapeCast S1024x2048 (extractStridedSlice S1x1024x2048 ![0, 4112, 0] (transpose S1x5136x2048 [0, 2, 1] (broadcastInDim S1x2048x5136 ![1, 2] bcast_S2048x5136_S1x2048x5136_1_2 W) transposes_S1x2048x5136_S1x5136x2048_0_2_1) slices_S1x5136x2048_S1x1024x2048_0_4112_0) shapeCasts_S1x1024x2048_S1024x2048⟩,
     ⟨S128x2048, pad S128x2048 ![0, 0] ![112, 0] ![0, 0] (shapeCast S16x2048 (extractStridedSlice S1x16x2048 ![0, 4096, 0] (transpose S1x5136x2048 [0, 2, 1] (broadcastInDim S1x2048x5136 ![1, 2] bcast_S2048x5136_S1x2048x5136_1_2 W) transposes_S1x2048x5136_S1x5136x2048_0_2_1) slices_S1x5136x2048_S1x16x2048_0_4096_0) shapeCasts_S1x16x2048_S16x2048) (sitofp .f32 (constantI S_ 32 0#32)) pads_S16x2048_S128x2048_01120_000 h_S_⟩]
    concatenates_S1024x2048_S128x2048_S1152x2048_d0)

/-- The weight of a packed column: of the last columns, of those before them, or zero. -/
def pick (W : FVec Ideal S2048x5136 .f32) (k : Fin 2048) (j : ℕ) : EReal :=
  if h : j < 1024 then W (ix2 k ⟨4112 + j, by omega⟩) else if h' : j - 1024 < 16 then W (ix2 k ⟨4096 + (j - 1024), by omega⟩) else 0

theorem zero_word : (FloatOps.sitofp .f32 (0#32 : BitVec 32) : Ideal .f32) = (0 : EReal) := by
  show (((0#32 : BitVec 32).toInt : ℝ) : EReal) = 0
  simp

theorem entry (c : Dev nD) : V m c main_v8 = packed (m ((c : Thread nD τ).loc main_arg1)) := by
  entry_read
  rfl

theorem packed_at (W : FVec Ideal S2048x5136 .f32) (i : S1x1152x2048.Idx) : packed W i = pick W ⟨i 2, (i 2).isLt⟩ (i 1) := by
  obtain ⟨a, j, k, rfl⟩ : ∃ a e f, i = ix3 a e f := ⟨i 0, i 1, i 2, by funext q; fin_cases q <;> rfl⟩
  pointwise [packed]
  rw [zero_word]
  rfl

theorem tail_at (A : FVec Ideal S8192x2048 .bf16) (W : FVec Ideal S2048x5136 .f32) (i : S8192x1152.Idx) :
    tailOf A W i = ∑ k : Fin 2048, (A (ix2 ⟨i 0, (i 0).isLt⟩ k) : EReal) * pick W k (i 1) := by
  obtain ⟨a, j, rfl⟩ : ∃ a e, i = ix2 a e := ⟨i 0, i 1, by funext q; fin_cases q <;> rfl⟩
  pointwise [tailOf]
  rw [zero_word]
  show _ = ∑ k : Fin 2048, (A (ix2 a k) : EReal) * pick W k (j : ℕ)
  unfold pick
  by_cases h : (j : ℕ) < 1024
  · rw [dif_pos (show (j : ℕ) < 1040 by omega), dif_pos h]
    exact Finset.sum_congr rfl fun k _ => by rw [dif_pos h]
  · by_cases h' : (j : ℕ) - 1024 < 16
    · rw [dif_pos (show (j : ℕ) < 1040 by omega), dif_neg h]
      exact Finset.sum_congr rfl fun k _ => by rw [dif_neg h, dif_pos h']
    · rw [dif_neg (show ¬(j : ℕ) < 1040 by omega)]
      exact (Finset.sum_eq_zero fun k _ => by rw [dif_neg h, dif_neg h', mul_zero]).symm

/-- Where each window's block sits at a point. -/
theorem at_point : ∀ t : Fin cfg0.N, win0_0.index t = ![t.val % 8, 0] ∧ win0_1.index t = ![0, t.val / 8, 0]
      ∧ win0_2.index t = ![t.val % 8, t.val / 8] ∧ t.val / 8 < 1 :=
  (by decide +kernel : ∀ t : Fin grid0.N, _)

/-- The block of the weights at a point: 1152 packed columns. -/
theorem weights_at (c : Dev nD) (t : Fin cfg0.N) (i : S1x1152x2048.Idx) :
    iblk m c 1 t i = pick (m ((c : Thread nD τ).loc main_arg1)) ⟨i 2, (i 2).isLt⟩ (t.val / 8 * 1152 + (i 1 : ℕ)) := by
  blk_simp [iblk]
  rw [entry, packed_at]
  refine congrArg₂ (fun k (j : ℕ) => pick (m ((c : Thread nD τ).loc main_arg1)) k j) (Fin.ext ?_) ?_ <;> blk_simp [at_point t]

/-- Within a column the block of the weights is that of the point before. -/
theorem same_weights (c : Dev nD) (n : ℕ) (h : n + 1 < cfg0.N) (hn : (n + 1) % 8 ≠ 0) :
    iblk m c 1 ⟨n, Nat.lt_of_succ_lt h⟩ = iblk m c 1 ⟨n + 1, h⟩ := by
  funext i
  rw [weights_at, weights_at, show n / 8 = (n + 1) / 8 by omega]

/-- Within a column a point leaves the scratch as it is. -/
theorem kept (c : Dev nD) (t : Fin cfg0.N) (ht : ¬t.val % 8 = 0) :
    (outsAt0 m c t.val t.isLt).2 = (outsAt0 m c (t.val - 1) (Nat.lt_of_le_of_lt (Nat.sub_le _ _) t.isLt)).2 := by
  rw [outsAt0_B m c t ht]
  dsimp only [sout0_B_0]

/-- The scratch holds the point's own block of the weights. -/
theorem held (c : Dev nD) : ∀ (n : ℕ) (h : n < cfg0.N), (outsAt0 m c n h).2 = k0_pay1 (iblk m c 1 ⟨n, h⟩) := by
  intro n
  induction n with
  | zero => intro h; rw [outsAt0_A m c ⟨0, h⟩ rfl]; frame_out
  | succ n ih =>
    intro h
    by_cases hn : (n + 1) % 8 = 0
    · rw [outsAt0_A m c ⟨n + 1, h⟩ hn]; frame_out
    · rw [← same_weights m c n h hn, kept m c ⟨n + 1, h⟩ hn]
      exact ih (Nat.lt_of_succ_lt h)

/-- What a point leaves in the result's buffer: the product of its rows with its own block of the weights. -/
theorem left (c : Dev nD) (t : Fin cfg0.N) : (outsAt0 m c t.val t.isLt).1 = k0_pay2 (iblk m c 0 t) (k0_pay1 (iblk m c 1 t)) := by
  by_cases ht : t.val % 8 = 0
  · rw [outsAt0_A m c t ht]; frame_out
  · have hw := held m c t.val t.isLt
    rw [kept m c t ht] at hw
    rw [outsAt0_B m c t ht]; frame_out
    exact congrArg (k0_pay2 (iblk m c 0 t)) (((Memref.isWhole_whole _).read_unread _).trans hw)

/-- A product of a row with a column of the packed block is one of the row with the weights' own column. -/
theorem stored (c : Dev nD) (t : Fin cfg0.N) (y) :
    k0_pay2 (F := Ideal) (iblk m c 0 t) (k0_pay1 (iblk m c 1 t)) y
      = tailOf (m ((c : Thread nD τ).loc main_arg0)) (m ((c : Thread nD τ).loc main_arg1)) (((cfg0.win 2).blk t).view.emb y) := by
  rw [tail_at]
  pointwise [k0_pay1, k0_pay2]
  refine Fin.sum_fin_congr fun k => ?_
  refine congrArg₂ (fun u v : EReal => u * v) ?_ ((weights_at m c t _).trans ?_)
  · blk_ext [iblk, V, at_point t]
  · refine congrArg₂ (fun k (j : ℕ) => pick (m ((c : Thread nD τ).loc main_arg1)) k j) rfl ?_
    blk_simp [at_point t]

/-- The result array after the run. -/
theorem result (c : Dev nD) : (dats m 0 c).arrAt 2 (cfgs 0).N
    = tailOf (m ((c : Thread nD τ).loc main_arg0)) (m ((c : Thread nD τ).loc main_arg1)) := by
  refine (dats m 0 c).arrAt_eq_of_covers 2 _ (by decide +kernel) fun t _ y => ?_
  blk_simp
  rw [after0_2, left]
  exact stored m c t y

end Cert.EvenTailIdeal.Value

namespace Cert.Proof

/-- The claim of this projection. -/
theorem even_tail_algebraic : Cert.algebraic_EvenTailIdeal_EvenTailReferenceIdeal := by
  pair_intro
  · run_from Cert.EvenTailIdeal.Gen.run_main m g
    exact Cert.EvenTailIdeal.Gen.V_main_arg1 m _
  · run_from Cert.EvenTailReferenceIdeal.Value.run m' g'
    exact (Cert.EvenTailIdeal.Value.result m _).symm

end Cert.Proof

end
-- ==== Proof.Gate.lean ====
/-
  The gate of the state-space mixer: a block of rows is multiplied by a block of columns of the weights, and the block of
  the array at these rows and columns by the logistic of the product.
-/
module

public import proofs.«01_k».proof.Defs
public import proofs.«01_k».proof.Proof.Gen.ScanGateIdeal.Value
public import proofs.«01_k».proof.Proof.Gen.ScanGateReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ScanGateIdeal.Value

open Cert.ScanGateIdeal Cert.ScanGateIdeal.Gen

variable (m : (ℓ : Loc nD τ sig) → Buf (Elt Ideal) ℓ)

/-- The reference's result as a function of its two arguments. -/
def gateOf (A : FVec Ideal S4x2048x1024 .f32) (B : FVec Ideal S1024x1024 .f32) : FVec Ideal S8192x1024 .bf16 :=
  shapeCast _ (truncf .bf16 (mulf A (Host.divf (broadcastInDim S4x2048x1024 ![] Cert.ScanGateReferenceIdeal.Gen.bcast_S_S4x2048x1024 (constant Cert.ScanGateReferenceIdeal.S_ .f32 0x3F800000#32)) (addf (broadcastInDim S4x2048x1024 ![] Cert.ScanGateReferenceIdeal.Gen.bcast_S_S4x2048x1024 (constant Cert.ScanGateReferenceIdeal.S_ .f32 0x3F800000#32)) (Host.exp (Host.negf (Host.dotGeneral Cert.ScanGateReferenceIdeal.dot_S4x2048x1024_S1024x1024_S4x2048x1024_2_0_01_1_n_n none A B)))))) Cert.ScanGateReferenceIdeal.Gen.bitsLt_bf16_f32) Cert.ScanGateReferenceIdeal.Gen.shapeCasts_S4x2048x1024_S8192x1024

/-- Where each window's block sits at a point. -/
theorem at_point : ∀ t : Fin cfg0.N, win0_0.index t = ![t.val / 2, 0] ∧ win0_1.index t = ![0, t.val % 2]
      ∧ win0_2.index t = ![t.val / 2, t.val % 2] ∧ win0_3.index t = ![t.val / 2, t.val % 2] :=
  (by decide +kernel : ∀ t : Fin grid0.N, _)

/-- The rows laid end to end, read at a row and a lane. -/
theorem flat_at (A : FVec Ideal S4x2048x1024 .f32) (r : Fin 8192) (k : Fin 1024) :
    shapeCast S8192x1024 A shapeCasts_S4x2048x1024_S8192x1024 (ix2 r k)
      = A (ix3 ⟨(r : ℕ) / 2048, by omega⟩ ⟨(r : ℕ) % 2048, by omega⟩ k) := by
  pointwise

/-- The rows' array as the grid finds it. -/
theorem entry_rows (c : Dev nD) : V m c main_v0
    = shapeCast S8192x1024 (m ((c : Thread nD τ).loc main_arg0)) shapeCasts_S4x2048x1024_S8192x1024 := by
  entry_read; rfl

/-- The weights' array as the grid finds it. -/
theorem entry_weights (c : Dev nD) : V m c main_v1
    = (truncf (F := Ideal) .bf16 (m ((c : Thread nD τ).loc main_arg1) : FVec Ideal S1024x1024 .f32) bitsLt_bf16_f32 : FVec Ideal S1024x1024 .bf16) := by
  entry_read; rfl

/-- An element of a point's rows is the argument's at its batch and time. -/
theorem row_block (c : Dev nD) (t : Fin cfg0.N) (a : Fin 1024) (k : Fin 1024) (r : Fin 8192) (hr : (r : ℕ) = t.val / 2 * 1024 + a) :
    (show EReal from iblk m c 0 t (ix2 a k))
      = m ((c : Thread nD τ).loc main_arg0) (ix3 ⟨(r : ℕ) / 2048, by omega⟩ ⟨(r : ℕ) % 2048, by omega⟩ k) := by
  refine Eq.trans (b := V m c main_v0 (ix2 r k)) ?_ ?_
  · show iblk m c 0 t (ix2 a k) = _
    blk_ext [iblk, at_point t]
  · rw [entry_rows]; exact flat_at _ r k

/-- An element of a point's block of the same array at its rows and columns. -/
theorem tile_block (c : Dev nD) (t : Fin cfg0.N) (a : Fin 1024) (k : Fin 512) (r : Fin 8192) (j : Fin 1024) (hr : (r : ℕ) = t.val / 2 * 1024 + a)
    (hj : (j : ℕ) = t.val % 2 * 512 + k) :
    (show EReal from iblk m c 2 t (ix2 a k))
      = m ((c : Thread nD τ).loc main_arg0) (ix3 ⟨(r : ℕ) / 2048, by omega⟩ ⟨(r : ℕ) % 2048, by omega⟩ j) := by
  refine Eq.trans (b := V m c main_v0 (ix2 r j)) ?_ ?_
  · show iblk m c 2 t (ix2 a k) = _
    blk_ext [iblk, at_point t]
  · rw [entry_rows]; exact flat_at _ r j

/-- An element of a point's block of the weights. -/
theorem weight_block (c : Dev nD) (t : Fin cfg0.N) (a : Fin 1024) (k : Fin 512) (j : Fin 1024) (hj : (j : ℕ) = t.val % 2 * 512 + k) :
    (show EReal from iblk m c 1 t (ix2 a k)) = m ((c : Thread nD τ).loc main_arg1) (ix2 a j) := by
  refine Eq.trans (b := V m c main_v1 (ix2 a j)) ?_ ?_
  · show iblk m c 1 t (ix2 a k) = _
    blk_ext [iblk, at_point t]
  · rw [entry_weights]; rfl

/-- What a point stores at an index of its block is the reference's value where that index sits. -/
theorem stored (c : Dev nD) (t : Fin cfg0.N) (y : S1024x512.Idx) (i : S8192x1024.Idx)
    (h0 : (i 0 : ℕ) = t.val / 2 * 1024 + y 0) (h1 : (i 1 : ℕ) = t.val % 2 * 512 + y 1) :
    k0_pay1 (F := Ideal) (iblk m c 0 t) (iblk m c 1 t) (iblk m c 2 t) y
      = gateOf (m ((c : Thread nD τ).loc main_arg0)) (m ((c : Thread nD τ).loc main_arg1)) i := by
  idx_vars y
  idx_vars i
  pointwise [k0_pay1, gateOf]
  have e := fun k => row_block m c t y0 k i0 h0
  have f := tile_block m c t y0 y1 i0 i1 h0 h1
  have w := fun k => weight_block m c t k y1 i1 h1
  simp only at e f w
  simp only [e, f, w]
  rfl

/-- The result array after the run. -/
theorem result (c : Dev nD) : (dats m 0 c).arrAt 3 (cfgs 0).N
    = gateOf (m ((c : Thread nD τ).loc main_arg0)) (m ((c : Thread nD τ).loc main_arg1)) := by
  refine (dats m 0 c).arrAt_eq_of_covers 3 _ (by decide +kernel) fun t _ y => ?_
  blk_simp
  rw [after0_3]; frame_out
  refine stored m c t y _ ?_ ?_ <;> (blk_simp [at_point t] <;> try omega)

end Cert.ScanGateIdeal.Value

namespace Cert.Proof

/-- The claim of the gate. -/
theorem gate_algebraic : Cert.algebraic_ScanGateIdeal_ScanGateReferenceIdeal := by
  pair_intro
  · run_from Cert.ScanGateIdeal.Gen.run_main m g
  · run_from Cert.ScanGateReferenceIdeal.Value.run m' g'
    exact (Cert.ScanGateIdeal.Value.result m _).symm

end Cert.Proof

end
-- ==== Proof.Rope.lean ====
/-
  The tables of the rotary phase: one block each, computed from the row's number and the lane's frequency; a lane of the
  first half and its twin of the second hold the same angle.
-/
module

public import proofs.«01_k».proof.Defs
public import proofs.«01_k».proof.Proof.Gen.RopeIdeal.Value
public import proofs.«01_k».proof.Proof.Gen.RopeReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RopeReferenceIdeal.Value

open Cert.RopeReferenceIdeal Cert.RopeReferenceIdeal.Gen

/-- The frequencies of the 64 pairs of lanes: the base to the power of the negated grid from 0 to 1. -/
def freq : FVec Ideal S64 .f32 :=
  Host.powf (broadcastInDim S64 ![] bcast_S_S64 (constant S_ .f32 0x461C4000#32)) (Host.negf (concatenate S64 0 [⟨S63, (addf (mulf (broadcastInDim S63 ![0] bcast_S1_S63_0 (shapeCast _ (id (constant S_ .f32 0x00000000#32)) shapeCasts_S_S1)) (subf (broadcastInDim S63 ![] bcast_S_S63 (constant S_ .f32 0x3F800000#32)) (Host.divf (sitofp .f32 (iotaInDim S63 32 0)) (broadcastInDim S63 ![] bcast_S_S63 (constant S_ .f32 0x427C0000#32))))) (mulf (broadcastInDim S63 ![0] bcast_S1_S63_0 (shapeCast _ (id (constant S_ .f32 0x3F800000#32)) shapeCasts_S_S1)) (Host.divf (sitofp .f32 (iotaInDim S63 32 0)) (broadcastInDim S63 ![] bcast_S_S63 (constant S_ .f32 0x427C0000#32)))))⟩, ⟨S1, (broadcastInDim S1 ![] bcast_S_S1 (id (constant S_ .f32 0x3F800000#32)))⟩] concatenates_S63_S1_S64_d0))

/-- The angles: a row's number times a pair's frequency. -/
def angle : FVec Ideal S2048x64 .f32 :=
  mulf (broadcastInDim S2048x64 ![0, 1] bcast_S2048x1_S2048x64_0_1 (broadcastInDim S2048x1 ![0] bcast_S2048_S2048x1_0 (sitofp .f32 (iotaInDim S2048 32 0)))) (broadcastInDim S2048x64 ![0, 1] bcast_S1x64_S2048x64_0_1 (broadcastInDim S1x64 ![1] bcast_S64_S1x64_1 freq))

/-- The reference's table of cosines. -/
def cosTable : FVec Ideal S2048x128 .f32 :=
  concatenate S2048x128 1 [⟨S2048x64, Host.cos angle⟩, ⟨S2048x64, Host.cos angle⟩] concatenates_S2048x64_S2048x64_S2048x128_d1

/-- The reference's table of signed sines. -/
def sinTable : FVec Ideal S2048x128 .f32 :=
  concatenate S2048x128 1 [⟨S2048x64, Host.negf (Host.sin angle)⟩, ⟨S2048x64, Host.sin angle⟩] concatenates_S2048x64_S2048x64_S2048x128_d1

end Cert.RopeReferenceIdeal.Value

namespace Cert.RopeIdeal.Value

open Cert.RopeIdeal Cert.RopeIdeal.Gen
open Cert.RopeReferenceIdeal.Value (freq angle cosTable sinTable)

variable (m : (ℓ : Loc nD τ sig) → Buf (Elt Ideal) ℓ)

/-- What the call is given: the frequencies twice, as one row. -/
theorem entry (c : Dev nD) : V m c main_v5 = shapeCast S1x128 (concatenate S128 0 [⟨S64, freq⟩, ⟨S64, freq⟩] concatenates_S64_S64_S128_d0) shapeCasts_S128_S1x128 := by
  unfold V
  simp only [hostOps0, hostOps0_1, hostOps0_2, List.flatten, List.append, List.cons_append, List.nil_append, List.append_eq, List.append_nil, StableHlo.TRef.binary, StableHlo.TRef.nullary, StableHlo.TRef.reshape, StableHlo.TRef.unary, StableHlo.TRef.toBuf, StableHlo.TRef.ofBuf, cast_eq]
  after_results_simp <;> rfl

/-- A word below 128 compared with 64. -/
theorem lt64 : ∀ k : Fin 128, IntOp.cmpi .slt (BitVec.ofNat 32 (k : ℕ)) 64#32 = if (k : ℕ) < 64 then 1#1 else 0#1 := by decide +kernel

/-- The literal of a negative sign. -/
theorem of_neg1 : Ideal.ofBits .f32 0xBF800000#32 = (-1 : EReal) := by
  have h : Ideal.ofBits .f32 0xBF800000#32 = ((-1 : ℝ) : EReal) := by
    simp [Ideal.ofBits, Ideal.ieee, -EReal.coe_mul]; norm_num
  rw [h]; simp

/-- Where each window's block sits. -/
theorem at_point : ∀ t : Fin cfg0.N, win0_0.index t = ![0, 0] :=
  (by decide +kernel : ∀ t : Fin grid0.N, _)

/-- The row of frequencies, read at a lane. -/
theorem row_at (j : Fin 128) :
    shapeCast S1x128 (concatenate S128 0 [⟨S64, freq⟩, ⟨S64, freq⟩] concatenates_S64_S64_S128_d0) shapeCasts_S128_S1x128 (ix2 0 j)
      = freq (ix1 ⟨(j : ℕ) % 64, by omega⟩) := by
  pointwise
  split
  · exact congrArg freq (congrArg ix1 (Fin.ext (by show (j : ℕ) = (j : ℕ) % 64; omega)))
  · exact congrArg freq (congrArg ix1 (Fin.ext (by show (j : ℕ) - 64 = (j : ℕ) % 64; omega)))

/-- A lane of the call's block. -/
theorem lane_at (c : Dev nD) (t : Fin cfg0.N) (j : Fin 128) :
    iblk m c 0 t (ix2 0 j) = freq (ix1 ⟨(j : ℕ) % 64, by omega⟩) := by
  refine Eq.trans (b := V m c main_v5 (ix2 0 j)) ?_ ?_
  · blk_ext [iblk, at_point t]
  · rw [entry]; exact row_at j

/-- The table of cosines after the run. -/
theorem cos_result (c : Dev nD) : (dats m 0 c).arrAt 1 (cfgs 0).N = cosTable := by
  refine (dats m 0 c).arrAt_eq_of_after_last 1 t0_0 (by decide +kernel) _ fun j => ?_
  blk_simp
  rw [after0_1]; frame_out
  idx_vars j
  pointwise [k0_pay1, k0_pay2, cosTable, angle]
  simp only [lane_at]
  by_cases h : (j1 : ℕ) < 64
  · have e : (j1 : ℕ) % 64 = j1 := by omega
    simp [h, e]
  · have e : (j1 : ℕ) % 64 = j1 - 64 := by omega
    simp [h, e]

/-- The table of signed sines after the run. -/
theorem sin_result (c : Dev nD) : (dats m 0 c).arrAt 2 (cfgs 0).N = sinTable := by
  refine (dats m 0 c).arrAt_eq_of_after_last 2 t0_0 (by decide +kernel) _ fun j => ?_
  blk_simp
  rw [after0_2]; frame_out
  idx_vars j
  pointwise [k0_pay1, k0_pay3, sinTable, angle]
  simp only [lane_at, lt64 j1, of_neg1]
  by_cases h : (j1 : ℕ) < 64
  · have e : (j1 : ℕ) % 64 = j1 := by omega
    simp [h, e, Scalar.select]
  · have e : (j1 : ℕ) % 64 = j1 - 64 := by omega
    simp [h, e, Scalar.select]

end Cert.RopeIdeal.Value

namespace Cert.Proof

/-- The claim of the tables. -/
theorem rope_algebraic : Cert.algebraic_RopeIdeal_RopeReferenceIdeal := by
  pair_intro
  · run_from Cert.RopeIdeal.Gen.run_main m g
  · run_from Cert.RopeReferenceIdeal.Value.run m' g'
    · exact (Cert.RopeIdeal.Value.cos_result m _).symm
    · exact (Cert.RopeIdeal.Value.sin_result m _).symm

end Cert.Proof

end
-- ==== Proof.LayerNorm.lean ====
/-
  The root mean square norm before a mixer, with a bfloat16 result: each point of the grid takes 1024 rows, and a row's mean square is taken over the
  whole row, so the result array is the reference's, row by row.
-/
module

public import proofs.«01_k».proof.Defs
public import proofs.«01_k».proof.Proof.Gen.LayerNormIdeal.Value
public import proofs.«01_k».proof.Proof.Gen.LayerNormReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LayerNormReferenceIdeal.Value

open Cert.LayerNormReferenceIdeal Cert.LayerNormReferenceIdeal.Gen

/-- The reference's result as a function of its two arguments. -/
def normOf (A : FVec Ideal S4x2048x2048 .f32) (B : FVec Ideal S2048 .f32) : FVec Ideal S8192x2048 .bf16 :=
  truncf .bf16 (shapeCast S8192x2048 (mulf (mulf A (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf A A) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 B))) shapeCasts_S4x2048x2048_S8192x2048) bitsLt_bf16_f32

end Cert.LayerNormReferenceIdeal.Value

namespace Cert.LayerNormIdeal.Value

open Cert.LayerNormIdeal Cert.LayerNormIdeal.Gen
open Cert.LayerNormReferenceIdeal.Value (normOf)

variable (m : (ℓ : Loc nD τ sig) → Buf (Elt Ideal) ℓ)

/-- Where each window's block sits at a point. -/
theorem at_point : ∀ t : Fin cfg0.N, win0_0.index t = ![t.val, 0] ∧ win0_1.index t = ![0, 0] ∧ win0_2.index t = ![t.val, 0] :=
  (by decide +kernel : ∀ t : Fin grid0.N, _)

/-- The rows laid end to end, read at a row and a lane. -/
theorem flat_at (A : FVec Ideal S4x2048x2048 .f32) (r : Fin 8192) (k : Fin 2048) :
    shapeCast S8192x2048 A shapeCasts_S4x2048x2048_S8192x2048 (ix2 r k)
      = A (ix3 ⟨(r : ℕ) / 2048, by omega⟩ ⟨(r : ℕ) % 2048, by omega⟩ k) := by
  pointwise

/-- The weights as one row, read at a lane. -/
theorem lane_at (B : FVec Ideal S2048 .f32) (k : Fin 2048) :
    shapeCast S1x2048 B shapeCasts_S2048_S1x2048 (ix2 0 k) = B (ix1 k) := by
  pointwise

/-- The rows' array as the grid finds it. -/
theorem entry_rows (c : Dev nD) : V m c main_v0
    = shapeCast S8192x2048 (m ((c : Thread nD τ).loc main_arg0)) shapeCasts_S4x2048x2048_S8192x2048 := by
  entry_read; rfl

/-- The weights' array as the grid finds it. -/
theorem entry_weights (c : Dev nD) : V m c main_v1
    = shapeCast S1x2048 (m ((c : Thread nD τ).loc main_arg1)) shapeCasts_S2048_S1x2048 := by
  entry_read; rfl

/-- An element of a point's rows is the argument's at its batch and time. -/
theorem row_block (c : Dev nD) (t : Fin cfg0.N) (a : Fin 1024) (k : Fin 2048) (r : Fin 8192) (hr : (r : ℕ) = t.val * 1024 + a) :
    (show EReal from iblk m c 0 t (ix2 a k))
      = m ((c : Thread nD τ).loc main_arg0) (ix3 ⟨(r : ℕ) / 2048, by omega⟩ ⟨(r : ℕ) % 2048, by omega⟩ k) := by
  refine Eq.trans (b := V m c main_v0 (ix2 r k)) ?_ ?_
  · show iblk m c 0 t (ix2 a k) = _
    blk_ext [iblk, at_point t]
  · rw [entry_rows]; exact flat_at _ r k

/-- An element of the weights' block is the argument's at its lane. -/
theorem weight_block (c : Dev nD) (t : Fin cfg0.N) (k : Fin 2048) :
    (show EReal from iblk m c 1 t (ix2 0 k)) = m ((c : Thread nD τ).loc main_arg1) (ix1 k) := by
  refine Eq.trans (b := V m c main_v1 (ix2 0 k)) ?_ ?_
  · show iblk m c 1 t (ix2 0 k) = _
    blk_ext [iblk, at_point t]
  · rw [entry_weights]; exact lane_at _ k

/-- What a point stores at an index of its block is the reference's value where that index sits. -/
theorem stored (c : Dev nD) (t : Fin cfg0.N) (y : S1024x2048.Idx) (i : S8192x2048.Idx)
    (h0 : (i 0 : ℕ) = t.val * 1024 + y 0) (h1 : (i 1 : ℕ) = y 1) :
    k0_pay1 (F := Ideal) (iblk m c 0 t) (iblk m c 1 t) y
      = normOf (m ((c : Thread nD τ).loc main_arg0)) (m ((c : Thread nD τ).loc main_arg1)) i := by
  idx_vars y
  idx_vars i
  obtain rfl : i1 = y1 := Fin.ext h1
  pointwise [k0_pay1, normOf]
  have e := fun k => row_block m c t y0 k i0 h0
  have w := weight_block m c t i1
  simp only at e w
  simp only [e, w]

/-- The result array after the run. -/
theorem result (c : Dev nD) : (dats m 0 c).arrAt 2 (cfgs 0).N
    = normOf (m ((c : Thread nD τ).loc main_arg0)) (m ((c : Thread nD τ).loc main_arg1)) := by
  refine (dats m 0 c).arrAt_eq_of_covers 2 _ (by decide +kernel) fun t _ y => ?_
  blk_simp
  rw [after0_2]; frame_out
  refine stored m c t y _ ?_ ?_ <;> (blk_simp [at_point t] <;> try omega)

end Cert.LayerNormIdeal.Value

namespace Cert.Proof

/-- The claim of the layers' norm. -/
theorem layer_norm_algebraic : Cert.algebraic_LayerNormIdeal_LayerNormReferenceIdeal := by
  pair_intro
  · run_from Cert.LayerNormIdeal.Gen.run_main m g
  · run_from Cert.LayerNormReferenceIdeal.Value.run m' g'
    exact (Cert.LayerNormIdeal.Value.result m _).symm

end Cert.Proof

end
-- ==== Proof.Maps.lean ====
/-
  The discretized input maps of the state-space mixer: each lane of the call's arrays is a channel's pair of group and state,
  and a value of the two maps is the reference's at that pair and input.
-/
module

public import proofs.«01_k».proof.Defs
public import proofs.«01_k».proof.Proof.Gen.ScanMapsIdeal.Value
public import proofs.«01_k».proof.Proof.Gen.ScanMapsReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ScanMapsReferenceIdeal.Value

open Cert.ScanMapsReferenceIdeal Cert.ScanMapsReferenceIdeal.Gen

/-- The reference's real part of the input maps, of the real and imaginary rates, the log steps and the two parts of B. -/
def mapRe (A B : FVec Ideal S64x64 .f32) (C : FVec Ideal S64 .f32) (D E : FVec Ideal S64x64x16 .f32) : FVec Ideal S16x4096 .f32 :=
  shapeCast _ (transpose S16x64x64 [2, 0, 1] (subf (mulf (broadcastInDim S64x64x16 ![0, 1, 2] bcast_S64x64x1_S64x64x16_0_1_2 (broadcastInDim S64x64x1 ![0, 1] bcast_S64x64_S64x64x1_0_1 (Host.divf (addf (mulf (subf (mulf (Host.exp (mulf A (broadcastInDim S64x64 ![0, 1] bcast_S64x1_S64x64_0_1 (broadcastInDim S64x1 ![0] bcast_S64_S64x1_0 (Host.exp C))))) (Host.cos (mulf B (broadcastInDim S64x64 ![0, 1] bcast_S64x1_S64x64_0_1 (broadcastInDim S64x1 ![0] bcast_S64_S64x1_0 (Host.exp C)))))) (broadcastInDim S64x64 ![] bcast_S_S64x64 (constant S_ .f32 0x3F800000#32))) A) (mulf (mulf (Host.exp (mulf A (broadcastInDim S64x64 ![0, 1] bcast_S64x1_S64x64_0_1 (broadcastInDim S64x1 ![0] bcast_S64_S64x1_0 (Host.exp C))))) (Host.sin (mulf B (broadcastInDim S64x64 ![0, 1] bcast_S64x1_S64x64_0_1 (broadcastInDim S64x1 ![0] bcast_S64_S64x1_0 (Host.exp C)))))) B)) (addf (mulf A A) (mulf B B))))) D) (mulf (broadcastInDim S64x64x16 ![0, 1, 2] bcast_S64x64x1_S64x64x16_0_1_2 (broadcastInDim S64x64x1 ![0, 1] bcast_S64x64_S64x64x1_0_1 (Host.divf (subf (mulf (mulf (Host.exp (mulf A (broadcastInDim S64x64 ![0, 1] bcast_S64x1_S64x64_0_1 (broadcastInDim S64x1 ![0] bcast_S64_S64x1_0 (Host.exp C))))) (Host.sin (mulf B (broadcastInDim S64x64 ![0, 1] bcast_S64x1_S64x64_0_1 (broadcastInDim S64x1 ![0] bcast_S64_S64x1_0 (Host.exp C)))))) A) (mulf (subf (mulf (Host.exp (mulf A (broadcastInDim S64x64 ![0, 1] bcast_S64x1_S64x64_0_1 (broadcastInDim S64x1 ![0] bcast_S64_S64x1_0 (Host.exp C))))) (Host.cos (mulf B (broadcastInDim S64x64 ![0, 1] bcast_S64x1_S64x64_0_1 (broadcastInDim S64x1 ![0] bcast_S64_S64x1_0 (Host.exp C)))))) (broadcastInDim S64x64 ![] bcast_S_S64x64 (constant S_ .f32 0x3F800000#32))) B)) (addf (mulf A A) (mulf B B))))) E)) transposes_S64x64x16_S16x64x64_2_0_1) shapeCasts_S16x64x64_S16x4096

/-- Its imaginary part. -/
def mapIm (A B : FVec Ideal S64x64 .f32) (C : FVec Ideal S64 .f32) (D E : FVec Ideal S64x64x16 .f32) : FVec Ideal S16x4096 .f32 :=
  shapeCast _ (transpose S16x64x64 [2, 0, 1] (addf (mulf (broadcastInDim S64x64x16 ![0, 1, 2] bcast_S64x64x1_S64x64x16_0_1_2 (broadcastInDim S64x64x1 ![0, 1] bcast_S64x64_S64x64x1_0_1 (Host.divf (addf (mulf (subf (mulf (Host.exp (mulf A (broadcastInDim S64x64 ![0, 1] bcast_S64x1_S64x64_0_1 (broadcastInDim S64x1 ![0] bcast_S64_S64x1_0 (Host.exp C))))) (Host.cos (mulf B (broadcastInDim S64x64 ![0, 1] bcast_S64x1_S64x64_0_1 (broadcastInDim S64x1 ![0] bcast_S64_S64x1_0 (Host.exp C)))))) (broadcastInDim S64x64 ![] bcast_S_S64x64 (constant S_ .f32 0x3F800000#32))) A) (mulf (mulf (Host.exp (mulf A (broadcastInDim S64x64 ![0, 1] bcast_S64x1_S64x64_0_1 (broadcastInDim S64x1 ![0] bcast_S64_S64x1_0 (Host.exp C))))) (Host.sin (mulf B (broadcastInDim S64x64 ![0, 1] bcast_S64x1_S64x64_0_1 (broadcastInDim S64x1 ![0] bcast_S64_S64x1_0 (Host.exp C)))))) B)) (addf (mulf A A) (mulf B B))))) E) (mulf (broadcastInDim S64x64x16 ![0, 1, 2] bcast_S64x64x1_S64x64x16_0_1_2 (broadcastInDim S64x64x1 ![0, 1] bcast_S64x64_S64x64x1_0_1 (Host.divf (subf (mulf (mulf (Host.exp (mulf A (broadcastInDim S64x64 ![0, 1] bcast_S64x1_S64x64_0_1 (broadcastInDim S64x1 ![0] bcast_S64_S64x1_0 (Host.exp C))))) (Host.sin (mulf B (broadcastInDim S64x64 ![0, 1] bcast_S64x1_S64x64_0_1 (broadcastInDim S64x1 ![0] bcast_S64_S64x1_0 (Host.exp C)))))) A) (mulf (subf (mulf (Host.exp (mulf A (broadcastInDim S64x64 ![0, 1] bcast_S64x1_S64x64_0_1 (broadcastInDim S64x1 ![0] bcast_S64_S64x1_0 (Host.exp C))))) (Host.cos (mulf B (broadcastInDim S64x64 ![0, 1] bcast_S64x1_S64x64_0_1 (broadcastInDim S64x1 ![0] bcast_S64_S64x1_0 (Host.exp C)))))) (broadcastInDim S64x64 ![] bcast_S_S64x64 (constant S_ .f32 0x3F800000#32))) B)) (addf (mulf A A) (mulf B B))))) D)) transposes_S64x64x16_S16x64x64_2_0_1) shapeCasts_S16x64x64_S16x4096

end Cert.ScanMapsReferenceIdeal.Value

namespace Cert.ScanMapsIdeal.Value

open Cert.ScanMapsIdeal Cert.ScanMapsIdeal.Gen
open Cert.ScanMapsReferenceIdeal.Value (mapRe mapIm)

variable (m : (ℓ : Loc nD τ sig) → Buf (Elt Ideal) ℓ)

/-- Where the blocks of the arguments sit. -/
theorem at_point : ∀ t : Fin cfg0.N, win0_0.index t = ![0, 0] ∧ win0_1.index t = ![0, 0] ∧ win0_2.index t = ![0, 0]
    ∧ win0_3.index t = ![0, 0] ∧ win0_4.index t = ![0, 0] ∧ win0_7.index t = ![0, 0] ∧ win0_8.index t = ![0, 0] :=
  (by decide +kernel : ∀ t : Fin grid0.N, _)

set_option maxHeartbeats 4000000 in
/-- One part of the rates laid out as one row, read at a channel. -/
theorem row_at (D : FVec Ideal S64x64 .f32) (n : Fin 4096) :
    shapeCast S1x4096 D shapeCasts_S64x64_S1x4096 (ix2 0 n) = D (ix2 ⟨(n : ℕ) / 64, by omega⟩ ⟨(n : ℕ) % 64, by omega⟩) := by
  pointwise

set_option maxHeartbeats 1000000 in
/-- One part of B laid out by inputs and channels, read at an input and a channel. -/
theorem flat_at (D : FVec Ideal S64x64x16 .f32) (a : Fin 16) (n : Fin 4096) :
    shapeCast S16x4096 (transpose S16x64x64 [2, 0, 1] D transposes_S64x64x16_S16x64x64_2_0_1) shapeCasts_S16x64x64_S16x4096 (ix2 a n)
      = D (ix3 ⟨(n : ℕ) / 64, by omega⟩ ⟨(n : ℕ) % 64, by omega⟩ a) := by
  pointwise

/-- The real rates as the call finds them. -/
theorem entry_re (c : Dev nD) : V m c main_v0 = shapeCast S1x4096 (m ((c : Thread nD τ).loc main_arg0)) shapeCasts_S64x64_S1x4096 := by
  entry_read; rfl

/-- The imaginary rates as the call finds them. -/
theorem entry_im (c : Dev nD) : V m c main_v1 = shapeCast S1x4096 (m ((c : Thread nD τ).loc main_arg1)) shapeCasts_S64x64_S1x4096 := by
  entry_read; rfl

/-- The log steps as the call finds them. -/
theorem entry_step (c : Dev nD) : V m c main_v5 = shapeCast S1x4096 (shapeCast S64x64 (broadcastInDim S64x1x64 ![0, 1] bcast_S64x1_S64x1x64_0_1 (broadcastInDim S64x1 ![0] bcast_S64_S64x1_0 (m ((c : Thread nD τ).loc main_arg2)))) shapeCasts_S64x1x64_S64x64) shapeCasts_S64x64_S1x4096 := by
  entry_read; rfl

/-- The real parts of B as the call finds them. -/
theorem entry_bre (c : Dev nD) : V m c main_v7 = shapeCast S16x4096 (transpose S16x64x64 [2, 0, 1] (m ((c : Thread nD τ).loc main_arg3)) transposes_S64x64x16_S16x64x64_2_0_1) shapeCasts_S16x64x64_S16x4096 := by
  entry_read; rfl

/-- The imaginary parts of B as the call finds them. -/
theorem entry_bim (c : Dev nD) : V m c main_v9 = shapeCast S16x4096 (transpose S16x64x64 [2, 0, 1] (m ((c : Thread nD τ).loc main_arg4)) transposes_S64x64x16_S16x64x64_2_0_1) shapeCasts_S16x64x64_S16x4096 := by
  entry_read; rfl

/-- A real rate of the call's block. -/
theorem re_block (c : Dev nD) (t : Fin cfg0.N) (n : Fin 4096) :
    (show EReal from iblk m c 0 t (ix2 0 n)) = (m ((c : Thread nD τ).loc main_arg0)) (ix2 ⟨(n : ℕ) / 64, by omega⟩ ⟨(n : ℕ) % 64, by omega⟩) := by
  refine Eq.trans (b := V m c main_v0 (ix2 0 n)) ?_ ?_
  · show iblk m c 0 t (ix2 0 n) = _
    blk_ext [iblk, at_point t]
  · rw [entry_re]; exact row_at _ n

/-- An imaginary rate of the call's block. -/
theorem im_block (c : Dev nD) (t : Fin cfg0.N) (n : Fin 4096) :
    (show EReal from iblk m c 1 t (ix2 0 n)) = (m ((c : Thread nD τ).loc main_arg1)) (ix2 ⟨(n : ℕ) / 64, by omega⟩ ⟨(n : ℕ) % 64, by omega⟩) := by
  refine Eq.trans (b := V m c main_v1 (ix2 0 n)) ?_ ?_
  · show iblk m c 1 t (ix2 0 n) = _
    blk_ext [iblk, at_point t]
  · rw [entry_im]; exact row_at _ n

/-- A log step of the call's block. -/
theorem step_block (c : Dev nD) (t : Fin cfg0.N) (n : Fin 4096) :
    (show EReal from iblk m c 2 t (ix2 0 n)) = (m ((c : Thread nD τ).loc main_arg2)) (ix1 ⟨(n : ℕ) / 64, by omega⟩) := by
  refine Eq.trans (b := V m c main_v5 (ix2 0 n)) ?_ ?_
  · show iblk m c 2 t (ix2 0 n) = _
    blk_ext [iblk, at_point t]
  · rw [entry_step]; pointwise

/-- A real part of B of the call's block. -/
theorem bre_block (c : Dev nD) (t : Fin cfg0.N) (a : Fin 16) (n : Fin 4096) :
    (show EReal from iblk m c 3 t (ix2 a n)) = (m ((c : Thread nD τ).loc main_arg3)) (ix3 ⟨(n : ℕ) / 64, by omega⟩ ⟨(n : ℕ) % 64, by omega⟩ a) := by
  refine Eq.trans (b := V m c main_v7 (ix2 a n)) ?_ ?_
  · show iblk m c 3 t (ix2 a n) = _
    blk_ext [iblk, at_point t]
  · rw [entry_bre]; exact flat_at _ a n

/-- An imaginary part of B of the call's block. -/
theorem bim_block (c : Dev nD) (t : Fin cfg0.N) (a : Fin 16) (n : Fin 4096) :
    (show EReal from iblk m c 4 t (ix2 a n)) = (m ((c : Thread nD τ).loc main_arg4)) (ix3 ⟨(n : ℕ) / 64, by omega⟩ ⟨(n : ℕ) % 64, by omega⟩ a) := by
  refine Eq.trans (b := V m c main_v9 (ix2 a n)) ?_ ?_
  · show iblk m c 4 t (ix2 a n) = _
    blk_ext [iblk, at_point t]
  · rw [entry_bim]; exact flat_at _ a n

/-- The real parts after the run. -/
theorem re_result (c : Dev nD) : (dats m 0 c).arrAt 7 (cfgs 0).N
    = mapRe (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 7 t0_0 (by decide +kernel) _ fun j => ?_
  blk_simp
  rw [after0_7]; frame_out
  idx_vars j
  have e0 := re_block m c t0_0 j1
  have e1 := im_block m c t0_0 j1
  have e2 := step_block m c t0_0 j1
  have e3 := bre_block m c t0_0 j0 j1
  have e4 := bim_block m c t0_0 j0 j1
  simp only at e0 e1 e2 e3 e4
  pointwise [mapRe, k0_pay7, k0_pay8, k0_pay9, k0_pay10, k0_pay11, k0_pay12, k0_pay13, k0_pay14, k0_pay15, k0_pay16, k0_pay17, k0_pay18, k0_pay19, k0_pay20, k0_pay21]
  simp only [e0, e1, e2, e3, e4]

/-- The imaginary parts after the run. -/
theorem im_result (c : Dev nD) : (dats m 0 c).arrAt 8 (cfgs 0).N
    = mapIm (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 8 t0_0 (by decide +kernel) _ fun j => ?_
  blk_simp
  rw [after0_8]; frame_out
  idx_vars j
  have e0 := re_block m c t0_0 j1
  have e1 := im_block m c t0_0 j1
  have e2 := step_block m c t0_0 j1
  have e3 := bre_block m c t0_0 j0 j1
  have e4 := bim_block m c t0_0 j0 j1
  simp only at e0 e1 e2 e3 e4
  pointwise [mapIm, k0_pay7, k0_pay8, k0_pay9, k0_pay10, k0_pay11, k0_pay12, k0_pay13, k0_pay14, k0_pay15, k0_pay16, k0_pay17, k0_pay18, k0_pay19, k0_pay20, k0_pay21]
  simp only [e0, e1, e2, e3, e4]

end Cert.ScanMapsIdeal.Value

namespace Cert.Proof

/-- The claim of the input maps. -/
theorem maps_algebraic : Cert.algebraic_ScanMapsIdeal_ScanMapsReferenceIdeal := by
  pair_intro
  · run_from Cert.ScanMapsIdeal.Gen.run_main m g
  · run_from Cert.ScanMapsReferenceIdeal.Value.run m' g'
    · exact (Cert.ScanMapsIdeal.Value.re_result m _).symm
    · exact (Cert.ScanMapsIdeal.Value.im_result m _).symm

end Cert.Proof

end
-- ==== Proof.lean ====
/- The certificate: the frames of the kernels are the generated ones, those of the references their runs, and each value
   claim is proved in a module of its own. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpReferenceIdeal
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownReferenceIdeal
public import proofs.«01_k».proof.Proof.Gen.FinalNorm
public import proofs.«01_k».proof.Proof.Gen.FinalNorm.Skeleton
public import proofs.«01_k».proof.Proof.Gen.FinalNorm.Launch
public import proofs.«01_k».proof.Proof.Gen.FinalNorm.Points
public import proofs.«01_k».proof.Proof.Gen.FinalNorm.Frame
public import proofs.«01_k».proof.Proof.Gen.FinalNormIdeal
public import proofs.«01_k».proof.Proof.Gen.FinalNormIdeal.Skeleton
public import proofs.«01_k».proof.Proof.Gen.FinalNormIdeal.Launch
public import proofs.«01_k».proof.Proof.Gen.FinalNormIdeal.Points
public import proofs.«01_k».proof.Proof.Gen.FinalNormIdeal.Frame
public import proofs.«01_k».proof.Proof.Gen.FinalNormReferenceIdeal
public import proofs.«01_k».proof.Proof.Gen.OddIn
public import proofs.«01_k».proof.Proof.Gen.OddIn.Skeleton
public import proofs.«01_k».proof.Proof.Gen.OddIn.Launch
public import proofs.«01_k».proof.Proof.Gen.OddIn.Points
public import proofs.«01_k».proof.Proof.Gen.OddIn.Frame
public import proofs.«01_k».proof.Proof.Gen.OddInIdeal
public import proofs.«01_k».proof.Proof.Gen.OddInIdeal.Skeleton
public import proofs.«01_k».proof.Proof.Gen.OddInIdeal.Launch
public import proofs.«01_k».proof.Proof.Gen.OddInIdeal.Points
public import proofs.«01_k».proof.Proof.Gen.OddInIdeal.Frame
public import proofs.«01_k».proof.Proof.Gen.OddInReferenceIdeal
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutReferenceIdeal
public import proofs.«01_k».proof.Proof.Gen.OddTail
public import proofs.«01_k».proof.Proof.Gen.OddTail.Skeleton
public import proofs.«01_k».proof.Proof.Gen.OddTail.Launch
public import proofs.«01_k».proof.Proof.Gen.OddTail.Points
public import proofs.«01_k».proof.Proof.Gen.OddTail.Frame
public import proofs.«01_k».proof.Proof.Gen.OddTailIdeal
public import proofs.«01_k».proof.Proof.Gen.OddTailIdeal.Skeleton
public import proofs.«01_k».proof.Proof.Gen.OddTailIdeal.Launch
public import proofs.«01_k».proof.Proof.Gen.OddTailIdeal.Points
public import proofs.«01_k».proof.Proof.Gen.OddTailIdeal.Frame
public import proofs.«01_k».proof.Proof.Gen.OddTailReferenceIdeal
public import proofs.«01_k».proof.Proof.Gen.EvenIn
public import proofs.«01_k».proof.Proof.Gen.EvenIn.Skeleton
public import proofs.«01_k».proof.Proof.Gen.EvenIn.Launch
public import proofs.«01_k».proof.Proof.Gen.EvenIn.Points
public import proofs.«01_k».proof.Proof.Gen.EvenIn.Frame
public import proofs.«01_k».proof.Proof.Gen.EvenInIdeal
public import proofs.«01_k».proof.Proof.Gen.EvenInIdeal.Skeleton
public import proofs.«01_k».proof.Proof.Gen.EvenInIdeal.Launch
public import proofs.«01_k».proof.Proof.Gen.EvenInIdeal.Points
public import proofs.«01_k».proof.Proof.Gen.EvenInIdeal.Frame
public import proofs.«01_k».proof.Proof.Gen.EvenInReferenceIdeal
public import proofs.«01_k».proof.Proof.Gen.EvenTail
public import proofs.«01_k».proof.Proof.Gen.EvenTail.Skeleton
public import proofs.«01_k».proof.Proof.Gen.EvenTail.Launch
public import proofs.«01_k».proof.Proof.Gen.EvenTail.Points
public import proofs.«01_k».proof.Proof.Gen.EvenTail.Frame
public import proofs.«01_k».proof.Proof.Gen.EvenTailIdeal
public import proofs.«01_k».proof.Proof.Gen.EvenTailIdeal.Skeleton
public import proofs.«01_k».proof.Proof.Gen.EvenTailIdeal.Launch
public import proofs.«01_k».proof.Proof.Gen.EvenTailIdeal.Points
public import proofs.«01_k».proof.Proof.Gen.EvenTailIdeal.Frame
public import proofs.«01_k».proof.Proof.Gen.EvenTailReferenceIdeal
public import proofs.«01_k».proof.Proof.Gen.ScanGate
public import proofs.«01_k».proof.Proof.Gen.ScanGate.Skeleton
public import proofs.«01_k».proof.Proof.Gen.ScanGate.Launch
public import proofs.«01_k».proof.Proof.Gen.ScanGate.Points
public import proofs.«01_k».proof.Proof.Gen.ScanGate.Frame
public import proofs.«01_k».proof.Proof.Gen.ScanGateIdeal
public import proofs.«01_k».proof.Proof.Gen.ScanGateIdeal.Skeleton
public import proofs.«01_k».proof.Proof.Gen.ScanGateIdeal.Launch
public import proofs.«01_k».proof.Proof.Gen.ScanGateIdeal.Points
public import proofs.«01_k».proof.Proof.Gen.ScanGateIdeal.Frame
public import proofs.«01_k».proof.Proof.Gen.ScanGateReferenceIdeal
public import proofs.«01_k».proof.Proof.Gen.Rope
public import proofs.«01_k».proof.Proof.Gen.Rope.Skeleton
public import proofs.«01_k».proof.Proof.Gen.Rope.Launch
public import proofs.«01_k».proof.Proof.Gen.Rope.Points
public import proofs.«01_k».proof.Proof.Gen.Rope.Frame
public import proofs.«01_k».proof.Proof.Gen.RopeIdeal
public import proofs.«01_k».proof.Proof.Gen.RopeIdeal.Skeleton
public import proofs.«01_k».proof.Proof.Gen.RopeIdeal.Launch
public import proofs.«01_k».proof.Proof.Gen.RopeIdeal.Points
public import proofs.«01_k».proof.Proof.Gen.RopeIdeal.Frame
public import proofs.«01_k».proof.Proof.Gen.RopeReferenceIdeal
public import proofs.«01_k».proof.Proof.Gen.LayerNorm
public import proofs.«01_k».proof.Proof.Gen.LayerNorm.Skeleton
public import proofs.«01_k».proof.Proof.Gen.LayerNorm.Launch
public import proofs.«01_k».proof.Proof.Gen.LayerNorm.Points
public import proofs.«01_k».proof.Proof.Gen.LayerNorm.Frame
public import proofs.«01_k».proof.Proof.Gen.LayerNormIdeal
public import proofs.«01_k».proof.Proof.Gen.LayerNormIdeal.Skeleton
public import proofs.«01_k».proof.Proof.Gen.LayerNormIdeal.Launch
public import proofs.«01_k».proof.Proof.Gen.LayerNormIdeal.Points
public import proofs.«01_k».proof.Proof.Gen.LayerNormIdeal.Frame
public import proofs.«01_k».proof.Proof.Gen.LayerNormReferenceIdeal
public import proofs.«01_k».proof.Proof.Gen.ScanMaps
public import proofs.«01_k».proof.Proof.Gen.ScanMaps.Skeleton
public import proofs.«01_k».proof.Proof.Gen.ScanMaps.Launch
public import proofs.«01_k».proof.Proof.Gen.ScanMaps.Points
public import proofs.«01_k».proof.Proof.Gen.ScanMaps.Frame
public import proofs.«01_k».proof.Proof.Gen.ScanMapsIdeal
public import proofs.«01_k».proof.Proof.Gen.ScanMapsIdeal.Skeleton
public import proofs.«01_k».proof.Proof.Gen.ScanMapsIdeal.Launch
public import proofs.«01_k».proof.Proof.Gen.ScanMapsIdeal.Points
public import proofs.«01_k».proof.Proof.Gen.ScanMapsIdeal.Frame
public import proofs.«01_k».proof.Proof.Gen.ScanMapsReferenceIdeal
public import proofs.«01_k».proof.Proof.Gen.Pre_finite
public import proofs.«01_k».proof.Proof.Retention
public import proofs.«01_k».proof.Proof.Up
public import proofs.«01_k».proof.Proof.Down
public import proofs.«01_k».proof.Proof.Norm
public import proofs.«01_k».proof.Proof.Into
public import proofs.«01_k».proof.Proof.Mix
public import proofs.«01_k».proof.Proof.OddTail
public import proofs.«01_k».proof.Proof.Even
public import proofs.«01_k».proof.Proof.EvenTail
public import proofs.«01_k».proof.Proof.Gate
public import proofs.«01_k».proof.Proof.Rope
public import proofs.«01_k».proof.Proof.LayerNorm
public import proofs.«01_k».proof.Proof.Maps
public import proofs.«01_k».proof.Proof.Gen.ReferenceIdeal.Run
public import proofs.«01_k».proof.Proof.Gen.FfnUpReferenceIdeal.Run
public import proofs.«01_k».proof.Proof.Gen.FfnUpIdeal.Value
public import proofs.«01_k».proof.Proof.Gen.FfnDownReferenceIdeal.Run
public import proofs.«01_k».proof.Proof.Gen.FfnDownIdeal.Value
public import proofs.«01_k».proof.Proof.Gen.FinalNormReferenceIdeal.Run
public import proofs.«01_k».proof.Proof.Gen.FinalNormIdeal.Value
public import proofs.«01_k».proof.Proof.Gen.OddInReferenceIdeal.Run
public import proofs.«01_k».proof.Proof.Gen.OddInIdeal.Value
public import proofs.«01_k».proof.Proof.Gen.MixOutReferenceIdeal.Run
public import proofs.«01_k».proof.Proof.Gen.MixOutIdeal.Value
public import proofs.«01_k».proof.Proof.Gen.OddTailReferenceIdeal.Run
public import proofs.«01_k».proof.Proof.Gen.OddTailIdeal.Value
public import proofs.«01_k».proof.Proof.Gen.EvenInReferenceIdeal.Run
public import proofs.«01_k».proof.Proof.Gen.EvenInIdeal.Value
public import proofs.«01_k».proof.Proof.Gen.EvenTailReferenceIdeal.Run
public import proofs.«01_k».proof.Proof.Gen.EvenTailIdeal.Value
public import proofs.«01_k».proof.Proof.Gen.ScanGateReferenceIdeal.Run
public import proofs.«01_k».proof.Proof.Gen.ScanGateIdeal.Value
public import proofs.«01_k».proof.Proof.Gen.RopeReferenceIdeal.Run
public import proofs.«01_k».proof.Proof.Gen.RopeIdeal.Value
public import proofs.«01_k».proof.Proof.Gen.LayerNormReferenceIdeal.Run
public import proofs.«01_k».proof.Proof.Gen.LayerNormIdeal.Value
public import proofs.«01_k».proof.Proof.Gen.ScanMapsReferenceIdeal.Run
public import proofs.«01_k».proof.Proof.Gen.ScanMapsIdeal.Value
public import Idealize.ShloMosaic.Lib.Claim
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.FfnUp.Gen.facts, Cert.FfnUpIdeal.Gen.facts, Cert.FfnUpReferenceIdeal.Gen.facts, Cert.FfnDown.Gen.facts, Cert.FfnDownIdeal.Gen.facts, Cert.FfnDownReferenceIdeal.Gen.facts, Cert.FinalNorm.Gen.facts, Cert.FinalNormIdeal.Gen.facts, Cert.FinalNormReferenceIdeal.Gen.facts, Cert.OddIn.Gen.facts, Cert.OddInIdeal.Gen.facts, Cert.OddInReferenceIdeal.Gen.facts, Cert.MixOut.Gen.facts, Cert.MixOutIdeal.Gen.facts, Cert.MixOutReferenceIdeal.Gen.facts, Cert.OddTail.Gen.facts, Cert.OddTailIdeal.Gen.facts, Cert.OddTailReferenceIdeal.Gen.facts, Cert.EvenIn.Gen.facts, Cert.EvenInIdeal.Gen.facts, Cert.EvenInReferenceIdeal.Gen.facts, Cert.EvenTail.Gen.facts, Cert.EvenTailIdeal.Gen.facts, Cert.EvenTailReferenceIdeal.Gen.facts, Cert.ScanGate.Gen.facts, Cert.ScanGateIdeal.Gen.facts, Cert.ScanGateReferenceIdeal.Gen.facts, Cert.Rope.Gen.facts, Cert.RopeIdeal.Gen.facts, Cert.RopeReferenceIdeal.Gen.facts, Cert.LayerNorm.Gen.facts, Cert.LayerNormIdeal.Gen.facts, Cert.LayerNormReferenceIdeal.Gen.facts, Cert.ScanMaps.Gen.facts, Cert.ScanMapsIdeal.Gen.facts, Cert.ScanMapsReferenceIdeal.Gen.facts, Cert.Pre_finite.Gen.facts,
  fun m g _ => Cert.Kernel.Gen.frame m g,
  fun m g _ => Cert.KernelIdeal.Gen.frame m g,
  fun m g _ => Cert.KernelIdeal.Gen.frame m g,
  fun m g _ => reference_frame m g trivial,
  fun m g _ => reference_frame m g trivial,
  fun m g _ => Cert.FfnUp.Gen.frame m g,
  fun m g _ => Cert.FfnUpIdeal.Gen.frame m g,
  (fun m g _ => (θ_run Cert.FfnUpReferenceIdeal.defs _ _).mono (fun r h => ⟨fun c => (h c).2, sem_eq_zero_of_no_sems (by decide) r.2⟩)
    (Cert.FfnUpReferenceIdeal.Value.run (F := Ideal) m g)),
  fun m g _ => Cert.FfnDown.Gen.frame m g,
  fun m g _ => Cert.FfnDownIdeal.Gen.frame m g,
  (fun m g _ => (θ_run Cert.FfnDownReferenceIdeal.defs _ _).mono (fun r h => ⟨fun c => (h c).2, sem_eq_zero_of_no_sems (by decide) r.2⟩)
    (Cert.FfnDownReferenceIdeal.Value.run (F := Ideal) m g)),
  fun m g _ => Cert.FinalNorm.Gen.frame m g,
  fun m g _ => Cert.FinalNormIdeal.Gen.frame m g,
  (fun m g _ => (θ_run Cert.FinalNormReferenceIdeal.defs _ _).mono (fun r h => ⟨fun c => (h c).2, sem_eq_zero_of_no_sems (by decide) r.2⟩)
    (Cert.FinalNormReferenceIdeal.Value.run (F := Ideal) m g)),
  fun m g _ => Cert.OddIn.Gen.frame m g,
  fun m g _ => Cert.OddInIdeal.Gen.frame m g,
  (fun m g _ => (θ_run Cert.OddInReferenceIdeal.defs _ _).mono (fun r h => ⟨fun c => (h c).2, sem_eq_zero_of_no_sems (by decide) r.2⟩)
    (Cert.OddInReferenceIdeal.Value.run (F := Ideal) m g)),
  fun m g _ => Cert.MixOut.Gen.frame m g,
  fun m g _ => Cert.MixOutIdeal.Gen.frame m g,
  (fun m g _ => (θ_run Cert.MixOutReferenceIdeal.defs _ _).mono (fun r h => ⟨fun c => (h c).2, sem_eq_zero_of_no_sems (by decide) r.2⟩)
    (Cert.MixOutReferenceIdeal.Value.run (F := Ideal) m g)),
  fun m g _ => Cert.OddTail.Gen.frame m g,
  fun m g _ => Cert.OddTailIdeal.Gen.frame m g,
  (fun m g _ => (θ_run Cert.OddTailReferenceIdeal.defs _ _).mono (fun r h => ⟨fun c => (h c).2, sem_eq_zero_of_no_sems (by decide) r.2⟩)
    (Cert.OddTailReferenceIdeal.Value.run (F := Ideal) m g)),
  fun m g _ => Cert.EvenIn.Gen.frame m g,
  fun m g _ => Cert.EvenInIdeal.Gen.frame m g,
  (fun m g _ => (θ_run Cert.EvenInReferenceIdeal.defs _ _).mono (fun r h => ⟨fun c => (h c).2, sem_eq_zero_of_no_sems (by decide) r.2⟩)
    (Cert.EvenInReferenceIdeal.Value.run (F := Ideal) m g)),
  fun m g _ => Cert.EvenTail.Gen.frame m g,
  fun m g _ => Cert.EvenTailIdeal.Gen.frame m g,
  (fun m g _ => (θ_run Cert.EvenTailReferenceIdeal.defs _ _).mono (fun r h => ⟨fun c => (h c).2, sem_eq_zero_of_no_sems (by decide) r.2⟩)
    (Cert.EvenTailReferenceIdeal.Value.run (F := Ideal) m g)),
  fun m g _ => Cert.ScanGate.Gen.frame m g,
  fun m g _ => Cert.ScanGateIdeal.Gen.frame m g,
  (fun m g _ => (θ_run Cert.ScanGateReferenceIdeal.defs _ _).mono (fun r h => ⟨fun c => (h c).2, sem_eq_zero_of_no_sems (by decide) r.2⟩)
    (Cert.ScanGateReferenceIdeal.Value.run (F := Ideal) m g)),
  fun m g _ => Cert.Rope.Gen.frame m g,
  fun m g _ => Cert.RopeIdeal.Gen.frame m g,
  (fun m g _ => (θ_run Cert.RopeReferenceIdeal.defs _ _).mono (fun r h => ⟨fun c => trivial, sem_eq_zero_of_no_sems (by decide) r.2⟩)
    (Cert.RopeReferenceIdeal.Value.run (F := Ideal) m g)),
  fun m g _ => Cert.LayerNorm.Gen.frame m g,
  fun m g _ => Cert.LayerNormIdeal.Gen.frame m g,
  (fun m g _ => (θ_run Cert.LayerNormReferenceIdeal.defs _ _).mono (fun r h => ⟨fun c => (h c).2, sem_eq_zero_of_no_sems (by decide) r.2⟩)
    (Cert.LayerNormReferenceIdeal.Value.run (F := Ideal) m g)),
  fun m g _ => Cert.ScanMaps.Gen.frame m g,
  fun m g _ => Cert.ScanMapsIdeal.Gen.frame m g,
  (fun m g _ => (θ_run Cert.ScanMapsReferenceIdeal.defs _ _).mono (fun r h => ⟨fun c => (h c).2.2, sem_eq_zero_of_no_sems (by decide) r.2⟩)
    (Cert.ScanMapsReferenceIdeal.Value.run (F := Ideal) m g)),
  kernel_preserves,
  retention_algebraic,
  trivial,
  up_algebraic,
  trivial,
  down_algebraic,
  trivial,
  norm_algebraic,
  trivial,
  into_algebraic,
  trivial,
  mix_algebraic,
  trivial,
  odd_tail_algebraic,
  trivial,
  even_algebraic,
  trivial,
  even_tail_algebraic,
  trivial,
  gate_algebraic,
  trivial,
  rope_algebraic,
  trivial,
  layer_norm_algebraic,
  trivial,
  maps_algebraic⟩

end Cert.Proof

end
